-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_scales [hPre_finite_scales : Cert.Pre_finite_scales.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_scales.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_scales [hPre_finite_scales : Cert.Pre_finite_scales.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_scales.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite_scales [hKernel13Ideal : Cert.Kernel13Ideal.Facts] [hPre_finite_scales : Cert.Pre_finite_scales.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_scales m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite_scales [hReference13Ideal : Cert.Reference13Ideal.Facts] [hPre_finite_scales : Cert.Pre_finite_scales.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_scales m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v11_0)) (v1 : (c : Dev Cert.Kernel10Ideal.nD) → Buf (Elt Ideal) ((c.tc : Thread Cert.Kernel10Ideal.nD Cert.Kernel10Ideal.τ).loc Cert.Kernel10Ideal.main_v11_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11_0) = v0 c
          ∧ r.2.mem ((c.tc : Thread Cert.Kernel10Ideal.nD Cert.Kernel10Ideal.τ).loc Cert.Kernel10Ideal.main_v11_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_v52) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel13_Kernel13Ideal : Prop :=
  True

def algebraic_Kernel13Ideal_Reference13Ideal_pre_finite_scales [hKernel13Ideal : Cert.Kernel13Ideal.Facts] [hReference13Ideal : Cert.Reference13Ideal.Facts] [hPre_finite_scales : Cert.Pre_finite_scales.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_scales m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v11_0)) (v1 : (c : Dev Cert.Kernel13Ideal.nD) → Buf (Elt Ideal) ((c.tc : Thread Cert.Kernel13Ideal.nD Cert.Kernel13Ideal.τ).loc Cert.Kernel13Ideal.main_v11_1)) (v2 : (c : Dev Cert.Kernel13Ideal.nD) → Buf (Elt Ideal) ((c.tc : Thread Cert.Kernel13Ideal.nD Cert.Kernel13Ideal.τ).loc Cert.Kernel13Ideal.main_v11_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v11_0) = v0 c
          ∧ r.2.mem ((c.tc : Thread Cert.Kernel13Ideal.nD Cert.Kernel13Ideal.τ).loc Cert.Kernel13Ideal.main_v11_1) = v1 c
          ∧ r.2.mem ((c.tc : Thread Cert.Kernel13Ideal.nD Cert.Kernel13Ideal.τ).loc Cert.Kernel13Ideal.main_v11_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v55) = v0 c
          ∧ r.2.mem ((c.tc : Thread Cert.Reference13Ideal.nD Cert.Reference13Ideal.τ).loc Cert.Reference13Ideal.main_v56) = v1 c
          ∧ r.2.mem ((c.tc : Thread Cert.Reference13Ideal.nD Cert.Reference13Ideal.τ).loc Cert.Reference13Ideal.main_v59) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hPre_finite : Cert.Pre_finite.Facts) (hPre_finite_scales : Cert.Pre_finite_scales.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Kernel13Ideal_pre_finite_scales (hKernel13Ideal := hKernel13Ideal) (hPre_finite_scales := hPre_finite_scales)
    ∧ quiescent_Reference13Ideal (hReference13Ideal := hReference13Ideal)
    ∧ quiescent_Reference13Ideal_pre_finite_scales (hReference13Ideal := hReference13Ideal) (hPre_finite_scales := hPre_finite_scales)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal_pre_finite_scales (hKernel13Ideal := hKernel13Ideal) (hReference13Ideal := hReference13Ideal) (hPre_finite_scales := hPre_finite_scales)
-- ==== Pre_finite.lean ====
abbrev S20480x3072 : Shape := ⟨2, ![20480, 3072]⟩
abbrev S4x64 : Shape := ⟨2, ![4, 64]⟩
abbrev S128 : Shape := ⟨1, ![128]⟩
abbrev S4x256x8x128 : Shape := ⟨4, ![4, 256, 8, 128]⟩
abbrev S20480x1024 : Shape := ⟨2, ![20480, 1024]⟩
abbrev S16384x3072 : Shape := ⟨2, ![16384, 3072]⟩
abbrev S_ : Shape := ⟨0, ![]⟩

class Facts : Prop where
  slices_S20480x3072_S16384x3072_4096_0 : S20480x3072.Slices ![4096, 0] S16384x3072
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S4x256x8x128 : S_.BroadcastsInDim S4x256x8x128 (![] : Fin 0 → Fin S4x256x8x128.rank)
  reducesTo_S4x256x8x128_S_d0_1_2_3 : S4x256x8x128.ReducesTo [0, 1, 2, 3] S_

variable [Facts]

def fn_part1 {F : FTy → Type} [FloatOps F] (main_v14 : IVec S_ 1) (main_v15 : FVec F S4x256x8x128 .f32) (main_v16 : FVec F S4x256x8x128 .f32) : IVec S_ 1 :=
  let main_v17 : IVec S4x256x8x128 1 := cmpf .olt main_v15 main_v16
  let main_c_5 : IVec S_ 1 := constantI S_ 1 1#1
  let main_v18 : IVec S_ 1 := (fun x v => Host.reduce IntOp.andi x v reducesTo_S4x256x8x128_S_d0_1_2_3 h_S_) main_v17 main_c_5
  let main_v19 : IVec S_ 1 := andi main_v14 main_v18
  main_v19

def fn {F : FTy → Type} [FloatOps F] (main_arg0 : FVec F S20480x3072 .f32) (main_arg1 : FVec F S4x64 .f32) (main_arg2 : FVec F S128 .f32) (main_arg3 : FVec F S4x256x8x128 .f32) (main_arg4 : FVec F S4x256x8x128 .f32) (main_arg5 : FVec F S20480x1024 .bf16) : IVec S_ 1 :=
  let main_v0 : FVec F S16384x3072 .f32 := (extractStridedSlice S16384x3072 ![4096, 0] · slices_S20480x3072_S16384x3072_4096_0) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  let main_v10 : FVec F S4x256x8x128 .f32 := Host.absf main_arg3
  let main_cst_2 : FVec F S_ .f32 := constant S_ .f32 0x7F800000#32
  let main_v11 : FVec F S4x256x8x128 .f32 := broadcastInDim S4x256x8x128 ![] bcast_S_S4x256x8x128 main_cst_2
  let main_v12 : IVec S4x256x8x128 1 := cmpf .olt main_v10 main_v11
  let main_c_3 : IVec S_ 1 := constantI S_ 1 1#1
  let main_v13 : IVec S_ 1 := (fun x v => Host.reduce IntOp.andi x v reducesTo_S4x256x8x128_S_d0_1_2_3 h_S_) main_v12 main_c_3
  let main_v14 : IVec S_ 1 := andi main_v9 main_v13
  let main_v15 : FVec F S4x256x8x128 .f32 := Host.absf main_arg4
  let main_cst_4 : FVec F S_ .f32 := constant S_ .f32 0x7F800000#32
  let main_v16 : FVec F S4x256x8x128 .f32 := broadcastInDim S4x256x8x128 ![] bcast_S_S4x256x8x128 main_cst_4
  fn_part1 (F := F) main_v14 main_v15 main_v16
-- ==== Pre_finite_scales.lean ====
abbrev S20480x2048 : Shape := ⟨2, ![20480, 2048]⟩
abbrev S2x2048x2048 : Shape := ⟨3, ![2, 2048, 2048]⟩
abbrev S2x4x2048 : Shape := ⟨3, ![2, 4, 2048]⟩
abbrev S2x8x12288 : Shape := ⟨3, ![2, 8, 12288]⟩
abbrev S2x2048x16 : Shape := ⟨3, ![2, 2048, 16]⟩
abbrev S1x1x2048 : Shape := ⟨3, ![1, 1, 2048]⟩
abbrev S2048 : Shape := ⟨1, ![2048]⟩
abbrev S_ : Shape := ⟨0, ![]⟩
abbrev S1x5x4096 : Shape := ⟨3, ![1, 5, 4096]⟩
abbrev S5x4096 : Shape := ⟨2, ![5, 4096]⟩
abbrev S1x2048x16 : Shape := ⟨3, ![1, 2048, 16]⟩
abbrev S2048x16 : Shape := ⟨2, ![2048, 16]⟩

class Facts : Prop where
  slices_S2x4x2048_S1x1x2048_1_2_0 : S2x4x2048.Slices ![1, 2, 0] S1x1x2048
  shapeCasts_S1x1x2048_S2048 : S1x1x2048.ShapeCasts S2048
  bcast_S_S2048 : S_.BroadcastsInDim S2048 (![] : Fin 0 → Fin S2048.rank)
  reducesTo_S2048_S_d0 : S2048.ReducesTo [0] S_
  h_S_ : 0 < S_.numel
  slices_S2x8x12288_S1x5x4096_1_0_6144 : S2x8x12288.Slices ![1, 0, 6144] S1x5x4096
  shapeCasts_S1x5x4096_S5x4096 : S1x5x4096.ShapeCasts S5x4096
  bcast_S_S5x4096 : S_.BroadcastsInDim S5x4096 (![] : Fin 0 → Fin S5x4096.rank)
  reducesTo_S5x4096_S_d0_1 : S5x4096.ReducesTo [0, 1] S_
  slices_S2x2048x16_S1x2048x16_1_0_0 : S2x2048x16.Slices ![1, 0, 0] S1x2048x16
  shapeCasts_S1x2048x16_S2048x16 : S1x2048x16.ShapeCasts S2048x16
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_v12 : IVec S_ 1) (main_v17 : IVec S2048x16 1) (main_c_3 : IVec S_ 1) : IVec S_ 1 :=
  let main_v18 : IVec S_ 1 := (fun x v => Host.reduce IntOp.andi x v reducesTo_S2048x16_S_d0_1 h_S_) main_v17 main_c_3
  let main_v19 : IVec S_ 1 := andi main_v12 main_v18
  main_v19

def fn {F : FTy → Type} [FloatOps F] (main_arg0 : FVec F S20480x2048 .bf16) (main_arg1 : FVec F S2x2048x2048 .f32) (main_arg2 : FVec F S20480x2048 .f32) (main_arg3 : FVec F S2x4x2048 .f32) (main_arg4 : FVec F S2x8x12288 .f32) (main_arg5 : FVec F S2x2048x16 .f32) : IVec S_ 1 :=
  let main_v0 : FVec F S1x1x2048 .f32 := (extractStridedSlice S1x1x2048 ![1, 2, 0] · slices_S2x4x2048_S1x1x2048_1_2_0) main_arg3
  let main_v1 : FVec F S2048 .f32 := shapeCast S2048 main_v0 shapeCasts_S1x1x2048_S2048
  let main_v2 : FVec F S2048 .f32 := Host.absf main_v1
  let main_cst : FVec F S_ .f32 := constant S_ .f32 0x7F800000#32
  let main_v3 : FVec F S2048 .f32 := broadcastInDim S2048 ![] bcast_S_S2048 main_cst
  let main_v4 : IVec S2048 1 := cmpf .olt main_v2 main_v3
  let main_c : IVec S_ 1 := constantI S_ 1 1#1
  let main_v5 : IVec S_ 1 := (fun x v => Host.reduce IntOp.andi x v reducesTo_S2048_S_d0 h_S_) main_v4 main_c
  let main_v6 : FVec F S1x5x4096 .f32 := (extractStridedSlice S1x5x4096 ![1, 0, 6144] · slices_S2x8x12288_S1x5x4096_1_0_6144) main_arg4
  let main_v7 : FVec F S5x4096 .f32 := shapeCast S5x4096 main_v6 shapeCasts_S1x5x4096_S5x4096
  let main_v8 : FVec F S5x4096 .f32 := Host.absf main_v7
  let main_cst_0 : FVec F S_ .f32 := constant S_ .f32 0x7F800000#32
  let main_v9 : FVec F S5x4096 .f32 := broadcastInDim S5x4096 ![] bcast_S_S5x4096 main_cst_0
  let main_v10 : IVec S5x4096 1 := cmpf .olt main_v8 main_v9
  let main_c_1 : IVec S_ 1 := constantI S_ 1 1#1
  let main_v11 : IVec S_ 1 := (fun x v => Host.reduce IntOp.andi x v reducesTo_S5x4096_S_d0_1 h_S_) main_v10 main_c_1
  let main_v12 : IVec S_ 1 := andi main_v5 main_v11
  let main_v13 : FVec F S1x2048x16 .f32 := (extractStridedSlice S1x2048x16 ![1, 0, 0] · slices_S2x2048x16_S1x2048x16_1_0_0) main_arg5
  let main_v14 : FVec F S2048x16 .f32 := shapeCast S2048x16 main_v13 shapeCasts_S1x2048x16_S2048x16
  let main_v15 : FVec F S2048x16 .f32 := Host.absf main_v14
  let main_cst_2 : FVec F S_ .f32 := constant S_ .f32 0x7F800000#32
  let main_v16 : FVec F S2048x16 .f32 := broadcastInDim S2048x16 ![] bcast_S_S2048x16 main_cst_2
  let main_v17 : IVec S2048x16 1 := cmpf .olt main_v15 main_v16
  let main_c_3 : IVec S_ 1 := constantI S_ 1 1#1
  fn_part1 (F := F) main_v12 main_v17 main_c_3
-- ==== Kernel.lean ====
abbrev S20480x3072 : Shape := ⟨2, ![20480, 3072]⟩
abbrev S4x64 : Shape := ⟨2, ![4, 64]⟩
abbrev S128 : Shape := ⟨1, ![128]⟩
abbrev S4x256x8x128 : Shape := ⟨4, ![4, 256, 8, 128]⟩
abbrev S20480x1024 : Shape := ⟨2, ![20480, 1024]⟩
abbrev S4x256x1024 : Shape := ⟨3, ![4, 256, 1024]⟩
abbrev S4096 : Shape := ⟨1, ![4096]⟩
abbrev S_ : Shape := ⟨0, ![]⟩
abbrev S16 : Shape := ⟨1, ![16]⟩
abbrev S128x1 : Shape := ⟨2, ![128, 1]⟩
abbrev S1x128 : Shape := ⟨2, ![1, 128]⟩
abbrev S4096x1 : Shape := ⟨2, ![4096, 1]⟩
abbrev S4096x128 : Shape := ⟨2, ![4096, 128]⟩
abbrev S256x128 : Shape := ⟨2, ![256, 128]⟩
abbrev S1x256x128 : Shape := ⟨3, ![1, 256, 128]⟩
abbrev S4352x128 : Shape := ⟨2, ![4352, 128]⟩
abbrev S144x4352 : Shape := ⟨2, ![144, 4352]⟩
abbrev S128x4096 : Shape := ⟨2, ![128, 4096]⟩
abbrev S128x256 : Shape := ⟨2, ![128, 256]⟩
abbrev S16x4352 : Shape := ⟨2, ![16, 4352]⟩
abbrev S1x256 : Shape := ⟨2, ![1, 256]⟩
abbrev S144x256 : Shape := ⟨2, ![144, 256]⟩
abbrev S512x128 : Shape := ⟨2, ![512, 128]⟩
abbrev S512x256 : Shape := ⟨2, ![512, 256]⟩
abbrev S144x512 : Shape := ⟨2, ![144, 512]⟩
abbrev S256 : Shape := ⟨1, ![256]⟩
abbrev S256x256 : Shape := ⟨2, ![256, 256]⟩
abbrev S1x64 : Shape := ⟨2, ![1, 64]⟩
abbrev S1 : Shape := ⟨1, ![1]⟩
abbrev S1x1 : Shape := ⟨2, ![1, 1]⟩

abbrev nBuf : Space → Nat
  | .hbm => 184
  | .vmem => 22
  | .smem => 0
  | _ => 0

abbrev hbmTy0_0 (i : Nat) : BufTy := match i % 128 with
  | 0 => ⟨S20480x3072, .f32⟩
  | 1 => ⟨S4x64, .f32⟩
  | 2 => ⟨S128, .f32⟩
  | 3 => ⟨S4x256x8x128, .f32⟩
  | 4 => ⟨S4x256x8x128, .f32⟩
  | 5 => ⟨S20480x1024, .bf16⟩
  | 6 => ⟨S4x256x1024, .f32⟩
  | 7 => ⟨S4x256x1024, .f32⟩
  | 8 => ⟨S4096, .i32⟩
  | 9 => ⟨S_, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S_, .i32⟩
  | 24 => ⟨S4096, .i32⟩
  | 25 => ⟨S4096, .i32⟩
  | 26 => ⟨S4096, .i32⟩
  | 27 => ⟨S4096, .f32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i1⟩
  | 42 => ⟨S_, .i32⟩
  | 43 => ⟨S_, .i1⟩
  | 44 => ⟨S4096, .i1⟩
  | 45 => ⟨S4096, .i1⟩
  | 46 => ⟨S4096, .i1⟩
  | 47 => ⟨S4096, .i32⟩
  | 48 => ⟨S4096, .i32⟩
  | 49 => ⟨S4096, .i32⟩
  | 50 => ⟨S4096, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S128, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S128, .i32⟩
  | 69 => ⟨S128, .i32⟩
  | 70 => ⟨S_, .i32⟩
  | 71 => ⟨S128, .i32⟩
  | 72 => ⟨S128, .i1⟩
  | 73 => ⟨S_, .i32⟩
  | 74 => ⟨S128, .i32⟩
  | 75 => ⟨S128, .i1⟩
  | 76 => ⟨S_, .i32⟩
  | 77 => ⟨S_, .i1⟩
  | 78 => ⟨S128, .i1⟩
  | 79 => ⟨S128, .i1⟩
  | 80 => ⟨S128, .i1⟩
  | 81 => ⟨S128, .i32⟩
  | 82 => ⟨S128, .i32⟩
  | 83 => ⟨S128, .i32⟩
  | 84 => ⟨S_, .i32⟩
  | 85 => ⟨S128, .i32⟩
  | 86 => ⟨S128, .i1⟩
  | 87 => ⟨S_, .i32⟩
  | 88 => ⟨S128, .i32⟩
  | 89 => ⟨S128, .i32⟩
  | 90 => ⟨S128, .i32⟩
  | 91 => ⟨S128x1, .i32⟩
  | 92 => ⟨S128, .f32⟩
  | 93 => ⟨S_, .i32⟩
  | 94 => ⟨S_, .i32⟩
  | 95 => ⟨S128, .i32⟩
  | 96 => ⟨S128, .i32⟩
  | 97 => ⟨S128, .i32⟩
  | 98 => ⟨S_, .i32⟩
  | 99 => ⟨S128, .i32⟩
  | 100 => ⟨S128, .i1⟩
  | 101 => ⟨S128, .i32⟩
  | 102 => ⟨S128, .i32⟩
  | 103 => ⟨S_, .i32⟩
  | 104 => ⟨S128, .i32⟩
  | 105 => ⟨S128, .i1⟩
  | 106 => ⟨S128, .i1⟩
  | 107 => ⟨S_, .i32⟩
  | 108 => ⟨S128, .i32⟩
  | 109 => ⟨S128, .i32⟩
  | 110 => ⟨S128, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S128, .i32⟩
  | 118 => ⟨S128, .i32⟩
  | 119 => ⟨S_, .i32⟩
  | 120 => ⟨S128, .i32⟩
  | 121 => ⟨S128, .i1⟩
  | 122 => ⟨S_, .i32⟩
  | 123 => ⟨S128, .i32⟩
  | 124 => ⟨S128, .i1⟩
  | 125 => ⟨S_, .i32⟩
  | 126 => ⟨S_, .i1⟩
  | 127 => ⟨S128, .i1⟩
  | _ => ⟨S20480x3072, .f32⟩

abbrev hbmTy0_1 (i : Nat) : BufTy := match i % 128 with
  | 0 => ⟨S128, .i1⟩
  | 1 => ⟨S128, .i1⟩
  | 2 => ⟨S128, .i32⟩
  | 3 => ⟨S128, .i32⟩
  | 4 => ⟨S128, .i32⟩
  | 5 => ⟨S_, .i32⟩
  | 6 => ⟨S128, .i32⟩
  | 7 => ⟨S128, .i1⟩
  | 8 => ⟨S1x128, .i1⟩
  | 9 => ⟨S4096x1, .f32⟩
  | 10 => ⟨S4096x1, .f32⟩
  | 11 => ⟨S4096x128, .i1⟩
  | 12 => ⟨S4096x128, .f32⟩
  | 13 => ⟨S4096x128, .f32⟩
  | 14 => ⟨S4096x128, .f32⟩
  | 15 => ⟨S1x128, .f32⟩
  | 16 => ⟨S4096x128, .f32⟩
  | 17 => ⟨S4096x128, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i1⟩
  | 32 => ⟨S_, .i32⟩
  | 33 => ⟨S_, .i1⟩
  | 34 => ⟨S128, .i1⟩
  | 35 => ⟨S128, .i1⟩
  | 36 => ⟨S128, .i1⟩
  | 37 => ⟨S128, .i32⟩
  | 38 => ⟨S128, .i32⟩
  | 39 => ⟨S128, .i32⟩
  | 40 => ⟨S_, .i32⟩
  | 41 => ⟨S128, .i32⟩
  | 42 => ⟨S128, .i1⟩
  | 43 => ⟨S_, .f32⟩
  | 44 => ⟨S_, .f32⟩
  | 45 => ⟨S128, .f32⟩
  | 46 => ⟨S128, .f32⟩
  | 47 => ⟨S128, .f32⟩
  | 48 => ⟨S128, .f32⟩
  | 49 => ⟨S4096x128, .f32⟩
  | 50 => ⟨S4096x128, .f32⟩
  | 51 => ⟨S1x128, .f32⟩
  | 52 => ⟨S4096x128, .f32⟩
  | 53 => ⟨S4096x128, .f32⟩
  | 54 => ⟨S128x1, .f32⟩
  | 55 => ⟨S20480x1024, .bf16⟩
  | _ => ⟨S20480x3072, .f32⟩

abbrev hbmTy (i : Nat) : BufTy := match i / 128 with
  | 0 => hbmTy0_0 i
  | 1 => hbmTy0_1 i
  | _ => ⟨S20480x3072, .f32⟩

abbrev bufTy : (tb : Table) → Fin (tcTables nBuf tb) → BufTy
  | .hbm, ⟨i, _⟩ => hbmTy i
  | .local _ .vmem, ⟨0, _⟩ => ⟨S4x64, .f32⟩
  | .local _ .vmem, ⟨1, _⟩ => ⟨S128x1, .f32⟩
  | .local _ .vmem, ⟨2, _⟩ => ⟨S256x128, .f32⟩
  | .local _ .vmem, ⟨3, _⟩ => ⟨S256x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S4096x128, .f32⟩
  | .local _ .vmem, ⟨13, _⟩ => ⟨S4096x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .bf16⟩
  | .local _ .vmem, ⟨19, _⟩ => ⟨S256x128, .bf16⟩
  | .local _ .vmem, ⟨20, _⟩ => ⟨S4352x128, .bf16⟩
  | .local _ .vmem, ⟨21, _⟩ => ⟨S144x4352, .bf16⟩
  | _, _ => ⟨S20480x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst : Ref sig .tc := ⟨.hbm, 52, rfl⟩
abbrev main_v8 : Ref sig .tc := ⟨.hbm, 53, rfl⟩
abbrev main_v9 : Ref sig .tc := ⟨.hbm, 54, rfl⟩
abbrev main_cst_1 : Ref sig .tc := ⟨.hbm, 55, rfl⟩
abbrev main_v10 : Ref sig .tc := ⟨.hbm, 56, rfl⟩
abbrev main_v11 : Ref sig .tc := ⟨.hbm, 57, rfl⟩
abbrev main_cst_2 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_c_3 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v15 : Ref sig .tc := ⟨.hbm, 83, rfl⟩
abbrev main_c_4 : Ref sig .tc := ⟨.hbm, 84, rfl⟩
abbrev main_v16 : Ref sig .tc := ⟨.hbm, 85, rfl⟩
abbrev main_v17 : Ref sig .tc := ⟨.hbm, 86, rfl⟩
abbrev main_c_5 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_c_6 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_c : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_0 : Ref sig .tc := ⟨.hbm, 107, rfl⟩
abbrev main_call3_v12 : Ref sig .tc := ⟨.hbm, 108, rfl⟩
abbrev main_call3_v13 : Ref sig .tc := ⟨.hbm, 109, rfl⟩
abbrev main_v23 : Ref sig .tc := ⟨.hbm, 110, rfl⟩
abbrev main_c_7 : Ref sig .tc := ⟨.hbm, 111, rfl⟩
abbrev main_call4_v0 : Ref sig .tc := ⟨.hbm, 112, rfl⟩
abbrev main_call4_c : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_c_1 : Ref sig .tc := ⟨.hbm, 119, rfl⟩
abbrev main_call4_v5 : Ref sig .tc := ⟨.hbm, 120, rfl⟩
abbrev main_call4_v6 : Ref sig .tc := ⟨.hbm, 121, rfl⟩
abbrev main_call4_c_2 : Ref sig .tc := ⟨.hbm, 122, rfl⟩
abbrev main_call4_v7 : Ref sig .tc := ⟨.hbm, 123, rfl⟩
abbrev main_call4_v8 : Ref sig .tc := ⟨.hbm, 124, rfl⟩
abbrev main_call4_c_3 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_v24 : Ref sig .tc := ⟨.hbm, 132, rfl⟩
abbrev main_c_8 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_c_9 : Ref sig .tc := ⟨.hbm, 146, rfl⟩
abbrev main_call6_v0 : Ref sig .tc := ⟨.hbm, 147, rfl⟩
abbrev main_call6_c : Ref sig .tc := ⟨.hbm, 148, rfl⟩
abbrev main_call6_v1 : Ref sig .tc := ⟨.hbm, 149, rfl⟩
abbrev main_call6_c_0 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_call6_c_1 : Ref sig .tc := ⟨.hbm, 154, rfl⟩
abbrev main_call6_v5 : Ref sig .tc := ⟨.hbm, 155, rfl⟩
abbrev main_call6_v6 : Ref sig .tc := ⟨.hbm, 156, rfl⟩
abbrev main_call6_c_2 : Ref sig .tc := ⟨.hbm, 157, rfl⟩
abbrev main_call6_v7 : Ref sig .tc := ⟨.hbm, 158, rfl⟩
abbrev main_call6_v8 : Ref sig .tc := ⟨.hbm, 159, rfl⟩
abbrev main_call6_c_3 : Ref sig .tc := ⟨.hbm, 160, rfl⟩
abbrev main_call6_v9 : Ref sig .tc := ⟨.hbm, 161, rfl⟩
abbrev main_call6_v10 : Ref sig .tc := ⟨.hbm, 162, rfl⟩
abbrev main_call6_v11 : Ref sig .tc := ⟨.hbm, 163, rfl⟩
abbrev main_call6_v12 : Ref sig .tc := ⟨.hbm, 164, rfl⟩
abbrev main_call6_v13 : Ref sig .tc := ⟨.hbm, 165, rfl⟩
abbrev main_call6_v14 : Ref sig .tc := ⟨.hbm, 166, rfl⟩
abbrev main_v34 : Ref sig .tc := ⟨.hbm, 167, rfl⟩
abbrev main_c_10 : Ref sig .tc := ⟨.hbm, 168, rfl⟩
abbrev main_v35 : Ref sig .tc := ⟨.hbm, 169, rfl⟩
abbrev main_v36 : Ref sig .tc := ⟨.hbm, 170, rfl⟩
abbrev main_cst_11 : Ref sig .tc := ⟨.hbm, 171, rfl⟩
abbrev main_cst_12 : Ref sig .tc := ⟨.hbm, 172, rfl⟩
abbrev main_call7_v0 : Ref sig .tc := ⟨.hbm, 173, rfl⟩
abbrev main_call7_v1 : Ref sig .tc := ⟨.hbm, 174, rfl⟩
abbrev main_v37 : Ref sig .tc := ⟨.hbm, 175, rfl⟩
abbrev main_v38 : Ref sig .tc := ⟨.hbm, 176, rfl⟩
abbrev main_v39 : Ref sig .tc := ⟨.hbm, 177, rfl⟩
abbrev main_v40 : Ref sig .tc := ⟨.hbm, 178, rfl⟩
abbrev main_v41 : Ref sig .tc := ⟨.hbm, 179, rfl⟩
abbrev main_v42 : Ref sig .tc := ⟨.hbm, 180, rfl⟩
abbrev main_v43 : Ref sig .tc := ⟨.hbm, 181, rfl⟩
abbrev main_v44 : Ref sig .tc := ⟨.hbm, 182, rfl⟩
abbrev main_v45 : Ref sig .tc := ⟨.hbm, 183, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi c16_i32_0 v0
  let v2 : BitVec 32 := Scalar.addi v1 arg2
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c16_i32 : BitVec 32 := 16#32
  let v1 : BitVec 32 := Scalar.addi c16_i32 arg1
  let c0_i32 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi c16_i32_0 v0
  let v2 : BitVec 32 := Scalar.addi v1 arg2
  let c0_i32 : BitVec 32 := 0#32
  ![v2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "qk_scale" => some (((1 / 8) * (Real.log 2)⁻¹ : ℝ) : EReal)
  | _ => none
-- ==== ReferenceIdeal.lean ====
abbrev S20480x3072 : Shape := ⟨2, ![20480, 3072]⟩
abbrev S4x64 : Shape := ⟨2, ![4, 64]⟩
abbrev S128 : Shape := ⟨1, ![128]⟩
abbrev S4x256x8x128 : Shape := ⟨4, ![4, 256, 8, 128]⟩
abbrev S20480x1024 : Shape := ⟨2, ![20480, 1024]⟩
abbrev S16384x3072 : Shape := ⟨2, ![16384, 3072]⟩
abbrev S4x4096x3072 : Shape := ⟨3, ![4, 4096, 3072]⟩
abbrev S4x4096x1024 : Shape := ⟨3, ![4, 4096, 1024]⟩
abbrev S4x4096x8x128 : Shape := ⟨4, ![4, 4096, 8, 128]⟩
abbrev S4x4096x16x64 : Shape := ⟨4, ![4, 4096, 16, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x16x32 : Shape := ⟨4, ![4, 4096, 16, 32]⟩
abbrev S4x4096x16x16 : Shape := ⟨4, ![4, 4096, 16, 16]⟩
abbrev S4x4352x8x128 : Shape := ⟨4, ![4, 4352, 8, 128]⟩
abbrev S4x4096x8x2x64 : Shape := ⟨5, ![4, 4096, 8, 2, 64]⟩
abbrev S4x4352x8x2x64 : Shape := ⟨5, ![4, 4352, 8, 2, 64]⟩
abbrev S4x8x2x4096x4352 : Shape := ⟨5, ![4, 8, 2, 4096, 4352]⟩
abbrev S4x8x2x4096 : Shape := ⟨4, ![4, 8, 2, 4096]⟩
abbrev S4x8x2x4096x1 : Shape := ⟨5, ![4, 8, 2, 4096, 1]⟩
abbrev S4x8x1x4096x4352 : Shape := ⟨5, ![4, 8, 1, 4096, 4352]⟩
abbrev S4x8x4096x4352 : Shape := ⟨4, ![4, 8, 4096, 4352]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4096x1024 : Shape := ⟨2, ![4096, 1024]⟩
abbrev S16384x1024 : Shape := ⟨2, ![16384, 1024]⟩

abbrev nBuf : Space → Nat
  | .hbm => 219
  | .vmem => 0
  | .smem => 0
  | _ => 0

abbrev hbmTy0_0 (i : Nat) : BufTy := match i % 128 with
  | 0 => ⟨S20480x3072, .f32⟩
  | 1 => ⟨S4x64, .f32⟩
  | 2 => ⟨S128, .f32⟩
  | 3 => ⟨S4x256x8x128, .f32⟩
  | 4 => ⟨S4x256x8x128, .f32⟩
  | 5 => ⟨S20480x1024, .bf16⟩
  | 6 => ⟨S16384x3072, .f32⟩
  | 7 => ⟨S4x4096x3072, .f32⟩
  | 8 => ⟨S4x4096x1024, .f32⟩
  | 9 => ⟨S4x4096x1024, .f32⟩
  | 10 => ⟨S4x4096x1024, .f32⟩
  | 11 => ⟨S4x4096x8x128, .f32⟩
  | 12 => ⟨S4x4096x8x128, .f32⟩
  | 13 => ⟨S4x4096x8x128, .f32⟩
  | 14 => ⟨S4x4096x16x64, .f32⟩
  | 15 => ⟨S64, .i32⟩
  | 16 => ⟨S64x64, .i32⟩
  | 17 => ⟨S4096, .i32⟩
  | 18 => ⟨S4096, .f32⟩
  | 19 => ⟨S64, .i32⟩
  | 20 => ⟨S1x64, .i32⟩
  | 21 => ⟨S64x64, .i32⟩
  | 22 => ⟨S4096, .i32⟩
  | 23 => ⟨S4096, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S4096x1, .f32⟩
  | 35 => ⟨S1x16, .f32⟩
  | 36 => ⟨S4096x16, .f32⟩
  | 37 => ⟨S4096x16, .f32⟩
  | 38 => ⟨S4096x16, .f32⟩
  | 39 => ⟨S1x4096x1x16, .f32⟩
  | 40 => ⟨S4096x1, .f32⟩
  | 41 => ⟨S1x16, .f32⟩
  | 42 => ⟨S4096x16, .f32⟩
  | 43 => ⟨S4096x16, .f32⟩
  | 44 => ⟨S4096x16, .f32⟩
  | 45 => ⟨S1x4096x1x16, .f32⟩
  | 46 => ⟨S4x4096x16x32, .f32⟩
  | 47 => ⟨S4x4096x16x16, .f32⟩
  | 48 => ⟨S4x4096x16x16, .f32⟩
  | 49 => ⟨S1x4096x1x16, .f32⟩
  | 50 => ⟨S1x4096x1x16, .f32⟩
  | 51 => ⟨S4x4096x16x16, .f32⟩
  | 52 => ⟨S4x4096x16x16, .f32⟩
  | 53 => ⟨S4x4096x16x16, .f32⟩
  | 54 => ⟨S4x4096x16x16, .f32⟩
  | 55 => ⟨S4x4096x16x16, .f32⟩
  | 56 => ⟨S4x4096x16x16, .f32⟩
  | 57 => ⟨S4x4096x16x16, .f32⟩
  | 58 => ⟨S4x4096x16x16, .f32⟩
  | 59 => ⟨S4x4096x16x16, .f32⟩
  | 60 => ⟨S4x4096x16x16, .f32⟩
  | 61 => ⟨S4x4096x16x32, .f32⟩
  | 62 => ⟨S4x4096x16x32, .f32⟩
  | 63 => ⟨S4x4096x16x16, .f32⟩
  | 64 => ⟨S4x4096x16x16, .f32⟩
  | 65 => ⟨S1x4096x1x16, .f32⟩
  | 66 => ⟨S1x4096x1x16, .f32⟩
  | 67 => ⟨S4x4096x16x16, .f32⟩
  | 68 => ⟨S4x4096x16x16, .f32⟩
  | 69 => ⟨S4x4096x16x16, .f32⟩
  | 70 => ⟨S4x4096x16x16, .f32⟩
  | 71 => ⟨S4x4096x16x16, .f32⟩
  | 72 => ⟨S4x4096x16x16, .f32⟩
  | 73 => ⟨S4x4096x16x16, .f32⟩
  | 74 => ⟨S4x4096x16x16, .f32⟩
  | 75 => ⟨S4x4096x16x16, .f32⟩
  | 76 => ⟨S4x4096x16x16, .f32⟩
  | 77 => ⟨S4x4096x16x32, .f32⟩
  | 78 => ⟨S4x4096x16x64, .f32⟩
  | 79 => ⟨S4x4096x8x128, .f32⟩
  | 80 => ⟨S4x4352x8x128, .f32⟩
  | 81 => ⟨S4x4352x8x128, .f32⟩
  | 82 => ⟨S1x64, .f32⟩
  | 83 => ⟨S64, .f32⟩
  | 84 => ⟨S1x64, .f32⟩
  | 85 => ⟨S64, .f32⟩
  | 86 => ⟨S64, .f32⟩
  | 87 => ⟨S_, .f32⟩
  | 88 => ⟨S_, .f32⟩
  | 89 => ⟨S_, .f32⟩
  | 90 => ⟨S1x64, .f32⟩
  | 91 => ⟨S64, .f32⟩
  | 92 => ⟨S1x64, .f32⟩
  | 93 => ⟨S64, .f32⟩
  | 94 => ⟨S64, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S4x4096x16x64, .f32⟩
  | 102 => ⟨S64, .i32⟩
  | 103 => ⟨S64x64, .i32⟩
  | 104 => ⟨S4096, .i32⟩
  | 105 => ⟨S4096, .f32⟩
  | 106 => ⟨S64, .i32⟩
  | 107 => ⟨S1x64, .i32⟩
  | 108 => ⟨S64x64, .i32⟩
  | 109 => ⟨S4096, .i32⟩
  | 110 => ⟨S4096, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S4096x1, .f32⟩
  | 122 => ⟨S1x16, .f32⟩
  | 123 => ⟨S4096x16, .f32⟩
  | 124 => ⟨S4096x16, .f32⟩
  | 125 => ⟨S4096x16, .f32⟩
  | 126 => ⟨S1x4096x1x16, .f32⟩
  | 127 => ⟨S4096x1, .f32⟩
  | _ => ⟨S20480x3072, .f32⟩

abbrev hbmTy0_1 (i : Nat) : BufTy := match i % 128 with
  | 0 => ⟨S1x16, .f32⟩
  | 1 => ⟨S4096x16, .f32⟩
  | 2 => ⟨S4096x16, .f32⟩
  | 3 => ⟨S4096x16, .f32⟩
  | 4 => ⟨S1x4096x1x16, .f32⟩
  | 5 => ⟨S4x4096x16x32, .f32⟩
  | 6 => ⟨S4x4096x16x16, .f32⟩
  | 7 => ⟨S4x4096x16x16, .f32⟩
  | 8 => ⟨S1x4096x1x16, .f32⟩
  | 9 => ⟨S1x4096x1x16, .f32⟩
  | 10 => ⟨S4x4096x16x16, .f32⟩
  | 11 => ⟨S4x4096x16x16, .f32⟩
  | 12 => ⟨S4x4096x16x16, .f32⟩
  | 13 => ⟨S4x4096x16x16, .f32⟩
  | 14 => ⟨S4x4096x16x16, .f32⟩
  | 15 => ⟨S4x4096x16x16, .f32⟩
  | 16 => ⟨S4x4096x16x16, .f32⟩
  | 17 => ⟨S4x4096x16x16, .f32⟩
  | 18 => ⟨S4x4096x16x16, .f32⟩
  | 19 => ⟨S4x4096x16x16, .f32⟩
  | 20 => ⟨S4x4096x16x32, .f32⟩
  | 21 => ⟨S4x4096x16x32, .f32⟩
  | 22 => ⟨S4x4096x16x16, .f32⟩
  | 23 => ⟨S4x4096x16x16, .f32⟩
  | 24 => ⟨S1x4096x1x16, .f32⟩
  | 25 => ⟨S1x4096x1x16, .f32⟩
  | 26 => ⟨S4x4096x16x16, .f32⟩
  | 27 => ⟨S4x4096x16x16, .f32⟩
  | 28 => ⟨S4x4096x16x16, .f32⟩
  | 29 => ⟨S4x4096x16x16, .f32⟩
  | 30 => ⟨S4x4096x16x16, .f32⟩
  | 31 => ⟨S4x4096x16x16, .f32⟩
  | 32 => ⟨S4x4096x16x16, .f32⟩
  | 33 => ⟨S4x4096x16x16, .f32⟩
  | 34 => ⟨S4x4096x16x16, .f32⟩
  | 35 => ⟨S4x4096x16x16, .f32⟩
  | 36 => ⟨S4x4096x16x32, .f32⟩
  | 37 => ⟨S4x4096x16x64, .f32⟩
  | 38 => ⟨S4x4096x8x128, .f32⟩
  | 39 => ⟨S4x4096x8x2x64, .f32⟩
  | 40 => ⟨S4x4352x8x2x64, .f32⟩
  | 41 => ⟨S4x8x2x4096x4352, .f32⟩
  | 42 => ⟨S_, .f32⟩
  | 43 => ⟨S4x8x2x4096x4352, .f32⟩
  | 44 => ⟨S4x8x2x4096x4352, .f32⟩
  | 45 => ⟨S_, .f32⟩
  | 46 => ⟨S4x8x2x4096, .f32⟩
  | 47 => ⟨S_, .f32⟩
  | 48 => ⟨S4x8x2x4096, .f32⟩
  | 49 => ⟨S4x8x2x4096, .f32⟩
  | 50 => ⟨S4x8x2x4096x1, .f32⟩
  | 51 => ⟨S4x8x2x4096x4352, .f32⟩
  | 52 => ⟨S4x8x2x4096x4352, .f32⟩
  | 53 => ⟨S4x8x2x4096x4352, .f32⟩
  | 54 => ⟨S_, .f32⟩
  | 55 => ⟨S4x8x2x4096, .f32⟩
  | 56 => ⟨S4x8x2x4096x1, .f32⟩
  | 57 => ⟨S4x8x2x4096x4352, .f32⟩
  | 58 => ⟨S4x8x2x4096x4352, .f32⟩
  | 59 => ⟨S4x8x1x4096x4352, .f32⟩
  | 60 => ⟨S4x8x4096x4352, .f32⟩
  | 61 => ⟨S4x8x1x4096x4352, .f32⟩
  | 62 => ⟨S4x8x4096x4352, .f32⟩
  | 63 => ⟨S4x8x4096x4352, .f32⟩
  | 64 => ⟨S4x8x4096x4352, .f32⟩
  | 65 => ⟨S4x8x4096x4352, .f32⟩
  | 66 => ⟨S4x8x128x4096, .f32⟩
  | 67 => ⟨S4x4096x8x128, .f32⟩
  | 68 => ⟨S4x4096x8x128, .f32⟩
  | 69 => ⟨S_, .f32⟩
  | 70 => ⟨S4x4096x8, .f32⟩
  | 71 => ⟨S4x4096x8x1, .f32⟩
  | 72 => ⟨S_, .f32⟩
  | 73 => ⟨S4x4096x8x1, .f32⟩
  | 74 => ⟨S4x4096x8x1, .f32⟩
  | 75 => ⟨S_, .f32⟩
  | 76 => ⟨S4x4096x8x1, .f32⟩
  | 77 => ⟨S4x4096x8x1, .f32⟩
  | 78 => ⟨S4x4096x8x1, .f32⟩
  | 79 => ⟨S4x4096x8x128, .f32⟩
  | 80 => ⟨S4x4096x8x128, .f32⟩
  | 81 => ⟨S1x1x1x128, .f32⟩
  | 82 => ⟨S4x4096x8x128, .f32⟩
  | 83 => ⟨S4x4096x8x128, .f32⟩
  | 84 => ⟨S_, .f32⟩
  | 85 => ⟨S4x4096x8x128, .f32⟩
  | 86 => ⟨S4x4096x8x128, .f32⟩
  | 87 => ⟨S4096x1024, .bf16⟩
  | 88 => ⟨S16384x1024, .f32⟩
  | 89 => ⟨S16384x1024, .bf16⟩
  | 90 => ⟨S20480x1024, .bf16⟩
  | _ => ⟨S20480x3072, .f32⟩

abbrev hbmTy (i : Nat) : BufTy := match i / 128 with
  | 0 => hbmTy0_0 i
  | 1 => hbmTy0_1 i
  | _ => ⟨S20480x3072, .f32⟩

abbrev bufTy : (tb : Table) → Fin (tcTables nBuf tb) → BufTy
  | .hbm, ⟨i, _⟩ => hbmTy i
  | _, _ => ⟨S20480x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_cst_2 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_3 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_cst_4 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_cst_5 : Ref sig .tc := ⟨.hbm, 112, rfl⟩
abbrev main_v100 : Ref sig .tc := ⟨.hbm, 113, rfl⟩
abbrev main_v101 : Ref sig .tc := ⟨.hbm, 114, rfl⟩
abbrev main_cst_6 : Ref sig .tc := ⟨.hbm, 115, rfl⟩
abbrev main_v102 : Ref sig .tc := ⟨.hbm, 116, rfl⟩
abbrev main_v103 : Ref sig .tc := ⟨.hbm, 117, rfl⟩
abbrev main_cst_7 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_cst_8 : Ref sig .tc := ⟨.hbm, 170, rfl⟩
abbrev main_v155 : Ref sig .tc := ⟨.hbm, 171, rfl⟩
abbrev main_v156 : Ref sig .tc := ⟨.hbm, 172, rfl⟩
abbrev main_cst_9 : Ref sig .tc := ⟨.hbm, 173, rfl⟩
abbrev main_v157 : Ref sig .tc := ⟨.hbm, 174, rfl⟩
abbrev main_cst_10 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_cst_11 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_cst_12 : Ref sig .tc := ⟨.hbm, 197, rfl⟩
abbrev main_v178 : Ref sig .tc := ⟨.hbm, 198, rfl⟩
abbrev main_v179 : Ref sig .tc := ⟨.hbm, 199, rfl⟩
abbrev main_cst_13 : Ref sig .tc := ⟨.hbm, 200, rfl⟩
abbrev main_v180 : Ref sig .tc := ⟨.hbm, 201, rfl⟩
abbrev main_v181 : Ref sig .tc := ⟨.hbm, 202, rfl⟩
abbrev main_cst_14 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_cst_15 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩

abbrev nD : Nat := 1
abbrev τ : Topo := Topo.v7x

variable {F : FTy → Type} [FloatOps F]
-- ==== Kernel2.lean ====
abbrev S20480x2048 : Shape := ⟨2, ![20480, 2048]⟩
abbrev S2x2048x6144 : Shape := ⟨3, ![2, 2048, 6144]⟩
abbrev S2x6144 : Shape := ⟨2, ![2, 6144]⟩
abbrev S2x1x6144 : Shape := ⟨3, ![2, 1, 6144]⟩
abbrev S20480x6144 : Shape := ⟨2, ![20480, 6144]⟩
abbrev S1024x2048 : Shape := ⟨2, ![1024, 2048]⟩
abbrev S1x2048x1024 : Shape := ⟨3, ![1, 2048, 1024]⟩
abbrev S1x1x1024 : Shape := ⟨3, ![1, 1, 1024]⟩
abbrev S1024x1024 : Shape := ⟨2, ![1024, 1024]⟩
abbrev S2048x1024 : Shape := ⟨2, ![2048, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S20480x2048, .bf16⟩
  | .hbm, ⟨1, _⟩ => ⟨S2x2048x6144, .f32⟩
  | .hbm, ⟨2, _⟩ => ⟨S2x6144, .f32⟩
  | .hbm, ⟨3, _⟩ => ⟨S2x1x6144, .f32⟩
  | .hbm, ⟨4, _⟩ => ⟨S20480x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S20480x2048 : Shape := ⟨2, ![20480, 2048]⟩
abbrev S2x2048x6144 : Shape := ⟨3, ![2, 2048, 6144]⟩
abbrev S2x6144 : Shape := ⟨2, ![2, 6144]⟩
abbrev S1x2048x6144 : Shape := ⟨3, ![1, 2048, 6144]⟩
abbrev S2048x6144 : Shape := ⟨2, ![2048, 6144]⟩
abbrev S20480x6144 : Shape := ⟨2, ![20480, 6144]⟩
abbrev S1x6144 : Shape := ⟨2, ![1, 6144]⟩
abbrev S6144 : Shape := ⟨1, ![6144]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2x2048x6144, .f32⟩
  | .hbm, ⟨2, _⟩ => ⟨S2x6144, .f32⟩
  | .hbm, ⟨3, _⟩ => ⟨S20480x2048, .f32⟩
  | .hbm, ⟨4, _⟩ => ⟨S1x2048x6144, .f32⟩
  | .hbm, ⟨5, _⟩ => ⟨S2048x6144, .f32⟩
  | .hbm, ⟨6, _⟩ => ⟨S20480x6144, .f32⟩
  | .hbm, ⟨7, _⟩ => ⟨S1x6144, .f32⟩
  | .hbm, ⟨8, _⟩ => ⟨S6144, .f32⟩
  | .hbm, ⟨9, _⟩ => ⟨S1x6144, .f32⟩
  | .hbm, ⟨10, _⟩ => ⟨S20480x6144, .f32⟩
  | .hbm, ⟨11, _⟩ => ⟨S20480x6144, .f32⟩
  | .hbm, ⟨12, _⟩ => ⟨S20480x6144, .f32⟩
  | .hbm, ⟨13, _⟩ => ⟨S20480x6144, .f32⟩
  | .hbm, ⟨14, _⟩ => ⟨S_, .f32⟩
  | .hbm, ⟨15, _⟩ => ⟨S20480x6144, .f32⟩
  | .hbm, ⟨16, _⟩ => ⟨S20480x6144, .f32⟩
  | .hbm, ⟨17, _⟩ => ⟨S_, .f32⟩
  | .hbm, ⟨18, _⟩ => ⟨S20480x6144, .f32⟩
  | .hbm, ⟨19, _⟩ => ⟨S20480x6144, .f32⟩
  | .hbm, ⟨20, _⟩ => ⟨S20480x6144, .bf16⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel3.lean ====
abbrev S20480x2048 : Shape := ⟨2, ![20480, 2048]⟩
abbrev S2x2048x7168 : Shape := ⟨3, ![2, 2048, 7168]⟩
abbrev S20480x4096 : Shape := ⟨2, ![20480, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S20480x2048, .bf16⟩
  | .hbm, ⟨1, _⟩ => ⟨S2x2048x7168, .f32⟩
  | .hbm, ⟨2, _⟩ => ⟨S20480x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S20480x2048 : Shape := ⟨2, ![20480, 2048]⟩
abbrev S2x2048x7168 : Shape := ⟨3, ![2, 2048, 7168]⟩
abbrev S1x2048x7168 : Shape := ⟨3, ![1, 2048, 7168]⟩
abbrev S2048x7168 : Shape := ⟨2, ![2048, 7168]⟩
abbrev S20480x7168 : Shape := ⟨2, ![20480, 7168]⟩
abbrev S20480x4096 : Shape := ⟨2, ![20480, 4096]⟩

abbrev nBuf : Space → Nat
  | .hbm => 8
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2x2048x7168, .f32⟩
  | .hbm, ⟨2, _⟩ => ⟨S20480x2048, .f32⟩
  | .hbm, ⟨3, _⟩ => ⟨S1x2048x7168, .f32⟩
  | .hbm, ⟨4, _⟩ => ⟨S2048x7168, .f32⟩
  | .hbm, ⟨5, _⟩ => ⟨S20480x7168, .f32⟩
  | .hbm, ⟨6, _⟩ => ⟨S20480x4096, .f32⟩
  | .hbm, ⟨7, _⟩ => ⟨S20480x4096, .bf16⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S20480x2048 : Shape := ⟨2, ![20480, 2048]⟩
abbrev S2x2048x7168 : Shape := ⟨3, ![2, 2048, 7168]⟩
abbrev S20480x3072 : Shape := ⟨2, ![20480, 3072]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S20480x2048, .bf16⟩
  | .hbm, ⟨1, _⟩ => ⟨S2x2048x7168, .f32⟩
  | .hbm, ⟨2, _⟩ => ⟨S20480x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S20480x2048 : Shape := ⟨2, ![20480, 2048]⟩
abbrev S2x2048x7168 : Shape := ⟨3, ![2, 2048, 7168]⟩
abbrev S1x2048x7168 : Shape := ⟨3, ![1, 2048, 7168]⟩
abbrev S2048x7168 : Shape := ⟨2, ![2048, 7168]⟩
abbrev S20480x7168 : Shape := ⟨2, ![20480, 7168]⟩
abbrev S20480x3072 : Shape := ⟨2, ![20480, 3072]⟩

abbrev nBuf : Space → Nat
  | .hbm => 7
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2x2048x7168, .f32⟩
  | .hbm, ⟨2, _⟩ => ⟨S20480x2048, .f32⟩
  | .hbm, ⟨3, _⟩ => ⟨S1x2048x7168, .f32⟩
  | .hbm, ⟨4, _⟩ => ⟨S2048x7168, .f32⟩
  | .hbm, ⟨5, _⟩ => ⟨S20480x7168, .f32⟩
  | .hbm, ⟨6, _⟩ => ⟨S20480x3072, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S16x2560x2048 : Shape := ⟨3, ![16, 2560, 2048]⟩
abbrev S2x16x2048x2048 : Shape := ⟨4, ![2, 16, 2048, 2048]⟩
abbrev S16x2560 : Shape := ⟨2, ![16, 2560]⟩
abbrev S16x2560x1 : Shape := ⟨3, ![16, 2560, 1]⟩
abbrev S1x2560x2048 : Shape := ⟨3, ![1, 2560, 2048]⟩
abbrev S1x1x2048x512 : Shape := ⟨4, ![1, 1, 2048, 512]⟩
abbrev S1x2560x1 : Shape := ⟨3, ![1, 2560, 1]⟩
abbrev S1x2560x512 : Shape := ⟨3, ![1, 2560, 512]⟩
abbrev S2560x2048 : Shape := ⟨2, ![2560, 2048]⟩
abbrev S2048x512 : Shape := ⟨2, ![2048, 512]⟩
abbrev S2560x512 : Shape := ⟨2, ![2560, 512]⟩
abbrev S2560x1 : Shape := ⟨2, ![2560, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x2560x2048, .bf16⟩
  | .hbm, ⟨1, _⟩ => ⟨S2x16x2048x2048, .f32⟩
  | .hbm, ⟨2, _⟩ => ⟨S16x2560, .f32⟩
  | .hbm, ⟨3, _⟩ => ⟨S16x2560x1, .f32⟩
  | .hbm, ⟨4, _⟩ => ⟨S16x2560x2048, .f32⟩
  | .local _ .vmem, ⟨0, _⟩ => ⟨S1x2560x2048, .bf16⟩
  | .local _ .vmem, ⟨1, _⟩ => ⟨S1x2560x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x2560x1, .f32⟩
  | .local _ .vmem, ⟨5, _⟩ => ⟨S1x2560x1, .f32⟩
  | .local _ .vmem, ⟨6, _⟩ => ⟨S1x2560x512, .f32⟩
  | .local _ .vmem, ⟨7, _⟩ => ⟨S1x2560x512, .f32⟩
  | _, _ => ⟨S16x2560x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2560x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2560x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2560x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x2560x2048 : Shape := ⟨3, ![16, 2560, 2048]⟩
abbrev S2x16x2048x2048 : Shape := ⟨4, ![2, 16, 2048, 2048]⟩
abbrev S16x2560 : Shape := ⟨2, ![16, 2560]⟩
abbrev S1x16x2048x2048 : Shape := ⟨4, ![1, 16, 2048, 2048]⟩
abbrev S16x2048x2048 : Shape := ⟨3, ![16, 2048, 2048]⟩
abbrev S16x2560x1 : Shape := ⟨3, ![16, 2560, 1]⟩

abbrev nBuf : Space → Nat
  | .hbm => 10
  | .vmem => 0
  | .smem => 0
  | _ => 0

abbrev bufTy : (tb : Table) → Fin (tcTables nBuf tb) → BufTy
  | .hbm, ⟨0, _⟩ => ⟨S16x2560x2048, .bf16⟩
  | .hbm, ⟨1, _⟩ => ⟨S2x16x2048x2048, .f32⟩
  | .hbm, ⟨2, _⟩ => ⟨S16x2560, .f32⟩
  | .hbm, ⟨3, _⟩ => ⟨S16x2560x2048, .f32⟩
  | .hbm, ⟨4, _⟩ => ⟨S1x16x2048x2048, .f32⟩
  | .hbm, ⟨5, _⟩ => ⟨S16x2048x2048, .f32⟩
  | .hbm, ⟨6, _⟩ => ⟨S16x2560x2048, .f32⟩
  | .hbm, ⟨7, _⟩ => ⟨S16x2560x1, .f32⟩
  | .hbm, ⟨8, _⟩ => ⟨S16x2560x2048, .f32⟩
  | .hbm, ⟨9, _⟩ => ⟨S16x2560x2048, .f32⟩
  | _, _ => ⟨S16x2560x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S20480x1024 : Shape := ⟨2, ![20480, 1024]⟩
abbrev S2x3x1024x2048 : Shape := ⟨4, ![2, 3, 1024, 2048]⟩
abbrev S20480x6144 : Shape := ⟨2, ![20480, 6144]⟩
abbrev S1x3x1024x2048 : Shape := ⟨4, ![1, 3, 1024, 2048]⟩
abbrev S3x1024x2048 : Shape := ⟨3, ![3, 1024, 2048]⟩
abbrev S20480x2048 : Shape := ⟨2, ![20480, 2048]⟩
abbrev S512x1024 : Shape := ⟨2, ![512, 1024]⟩
abbrev S3x1024x1024 : Shape := ⟨3, ![3, 1024, 1024]⟩
abbrev S1x1024x1024 : Shape := ⟨3, ![1, 1024, 1024]⟩
abbrev S1024x1024 : Shape := ⟨2, ![1024, 1024]⟩

abbrev nBuf : Space → Nat
  | .hbm => 9
  | .vmem => 16
  | .smem => 0
  | _ => 0

abbrev bufTy : (tb : Table) → Fin (tcTables nBuf tb) → BufTy
  | .hbm, ⟨0, _⟩ => ⟨S20480x1024, .bf16⟩
  | .hbm, ⟨1, _⟩ => ⟨S20480x1024, .bf16⟩
  | .hbm, ⟨2, _⟩ => ⟨S20480x1024, .bf16⟩
  | .hbm, ⟨3, _⟩ => ⟨S2x3x1024x2048, .f32⟩
  | .hbm, ⟨4, _⟩ => ⟨S20480x6144, .bf16⟩
  | .hbm, ⟨5, _⟩ => ⟨S1x3x1024x2048, .f32⟩
  | .hbm, ⟨6, _⟩ => ⟨S3x1024x2048, .f32⟩
  | .hbm, ⟨7, _⟩ => ⟨S3x1024x2048, .bf16⟩
  | .hbm, ⟨8, _⟩ => ⟨S20480x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x1024x1024, .bf16⟩
  | .local _ .vmem, ⟨7, _⟩ => ⟨S3x1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S20480x1024 : Shape := ⟨2, ![20480, 1024]⟩
abbrev S2x3x1024x2048 : Shape := ⟨4, ![2, 3, 1024, 2048]⟩
abbrev S20480x6144 : Shape := ⟨2, ![20480, 6144]⟩
abbrev S1x3x1024x2048 : Shape := ⟨4, ![1, 3, 1024, 2048]⟩
abbrev S3x1024x2048 : Shape := ⟨3, ![3, 1024, 2048]⟩
abbrev S20480x2048 : Shape := ⟨2, ![20480, 2048]⟩
abbrev S1x1024x2048 : Shape := ⟨3, ![1, 1024, 2048]⟩
abbrev S1024x2048 : Shape := ⟨2, ![1024, 2048]⟩

abbrev nBuf : Space → Nat
  | .hbm => 29
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S20480x1024, .bf16⟩
  | .hbm, ⟨2, _⟩ => ⟨S20480x1024, .bf16⟩
  | .hbm, ⟨3, _⟩ => ⟨S2x3x1024x2048, .f32⟩
  | .hbm, ⟨4, _⟩ => ⟨S20480x6144, .bf16⟩
  | .hbm, ⟨5, _⟩ => ⟨S1x3x1024x2048, .f32⟩
  | .hbm, ⟨6, _⟩ => ⟨S3x1024x2048, .f32⟩
  | .hbm, ⟨7, _⟩ => ⟨S20480x6144, .f32⟩
  | .hbm, ⟨8, _⟩ => ⟨S20480x2048, .f32⟩
  | .hbm, ⟨9, _⟩ => ⟨S20480x2048, .f32⟩
  | .hbm, ⟨10, _⟩ => ⟨S20480x2048, .f32⟩
  | .hbm, ⟨11, _⟩ => ⟨S20480x1024, .f32⟩
  | .hbm, ⟨12, _⟩ => ⟨S1x1024x2048, .f32⟩
  | .hbm, ⟨13, _⟩ => ⟨S1024x2048, .f32⟩
  | .hbm, ⟨14, _⟩ => ⟨S20480x2048, .f32⟩
  | .hbm, ⟨15, _⟩ => ⟨S20480x2048, .f32⟩
  | .hbm, ⟨16, _⟩ => ⟨S20480x1024, .f32⟩
  | .hbm, ⟨17, _⟩ => ⟨S1x1024x2048, .f32⟩
  | .hbm, ⟨18, _⟩ => ⟨S1024x2048, .f32⟩
  | .hbm, ⟨19, _⟩ => ⟨S20480x2048, .f32⟩
  | .hbm, ⟨20, _⟩ => ⟨S20480x2048, .f32⟩
  | .hbm, ⟨21, _⟩ => ⟨S20480x2048, .f32⟩
  | .hbm, ⟨22, _⟩ => ⟨S20480x1024, .f32⟩
  | .hbm, ⟨23, _⟩ => ⟨S1x1024x2048, .f32⟩
  | .hbm, ⟨24, _⟩ => ⟨S1024x2048, .f32⟩
  | .hbm, ⟨25, _⟩ => ⟨S20480x2048, .f32⟩
  | .hbm, ⟨26, _⟩ => ⟨S20480x2048, .f32⟩
  | .hbm, ⟨27, _⟩ => ⟨S20480x2048, .f32⟩
  | .hbm, ⟨28, _⟩ => ⟨S20480x2048, .bf16⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel7.lean ====
abbrev S20480x2048 : Shape := ⟨2, ![20480, 2048]⟩
abbrev S2x4x2048 : Shape := ⟨3, ![2, 4, 2048]⟩
abbrev S2x8x12288 : Shape := ⟨3, ![2, 8, 12288]⟩
abbrev S1x4x2048 : Shape := ⟨3, ![1, 4, 2048]⟩
abbrev S4x2048 : Shape := ⟨2, ![4, 2048]⟩
abbrev S4x1x2048 : Shape := ⟨3, ![4, 1, 2048]⟩
abbrev S2x8x1x12288 : Shape := ⟨4, ![2, 8, 1, 12288]⟩
abbrev S1x8x1x12288 : Shape := ⟨4, ![1, 8, 1, 12288]⟩
abbrev S8x1x12288 : Shape := ⟨3, ![8, 1, 12288]⟩
abbrev S4096x2048 : Shape := ⟨2, ![4096, 2048]⟩
abbrev S512x2048 : Shape := ⟨2, ![512, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S2x4x2048, .f32⟩
  | .hbm, ⟨3, _⟩ => ⟨S2x8x12288, .f32⟩
  | .hbm, ⟨4, _⟩ => ⟨S1x4x2048, .f32⟩
  | .hbm, ⟨5, _⟩ => ⟨S4x2048, .f32⟩
  | .hbm, ⟨6, _⟩ => ⟨S4x1x2048, .f32⟩
  | .hbm, ⟨7, _⟩ => ⟨S2x8x1x12288, .f32⟩
  | .hbm, ⟨8, _⟩ => ⟨S1x8x1x12288, .f32⟩
  | .hbm, ⟨9, _⟩ => ⟨S8x1x12288, .f32⟩
  | .hbm, ⟨10, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c512_i32 : BitVec 32 := 512#32
  let v1 : BitVec 32 := Scalar.muli v0 c512_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c4096_i32_1 : BitVec 32 := 4096#32
  let v4 : BitVec 32 := Scalar.divsi v3 c4096_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4096_i32_1 c0_i32_4
  let v11 : BitVec 32 := Scalar.extui v10
  let c0_i32_5 : BitVec 32 := 0#32
  let v12 : BitVec 1 := Scalar.cmpi .slt c4096_i32_1 c0_i32_5
  let v13 : BitVec 32 := Scalar.extui v12
  let v14 : BitVec 32 := Scalar.subi v11 v13
  let v15 : BitVec 1 := Scalar.cmpi .ne v9 v14
  let v16 : BitVec 32 := Scalar.remsi v3 c4096_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c5_i32 : BitVec 32 := 5#32
  let c0_i32_10 : BitVec 32 := 0#32
  ![v22.toNat, c0_i32_9.toNat, c5_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S20480x2048 : Shape := ⟨2, ![20480, 2048]⟩
abbrev S2x4x2048 : Shape := ⟨3, ![2, 4, 2048]⟩
abbrev S2x8x12288 : Shape := ⟨3, ![2, 8, 12288]⟩
abbrev S1x1x2048 : Shape := ⟨3, ![1, 1, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S2x4x2048, .f32⟩
  | .hbm, ⟨3, _⟩ => ⟨S2x8x12288, .f32⟩
  | .hbm, ⟨4, _⟩ => ⟨S1x1x2048, .f32⟩
  | .hbm, ⟨5, _⟩ => ⟨S2048, .f32⟩
  | .hbm, ⟨6, _⟩ => ⟨S4096x2048, .f32⟩
  | .hbm, ⟨7, _⟩ => ⟨S4096x2048, .f32⟩
  | .hbm, ⟨8, _⟩ => ⟨S1x1x2048, .f32⟩
  | .hbm, ⟨9, _⟩ => ⟨S2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel8.lean ====
abbrev S20480x2048 : Shape := ⟨2, ![20480, 2048]⟩
abbrev S2x4x2048 : Shape := ⟨3, ![2, 4, 2048]⟩
abbrev S2x8x12288 : Shape := ⟨3, ![2, 8, 12288]⟩
abbrev S1x4x2048 : Shape := ⟨3, ![1, 4, 2048]⟩
abbrev S4x2048 : Shape := ⟨2, ![4, 2048]⟩
abbrev S4x1x2048 : Shape := ⟨3, ![4, 1, 2048]⟩
abbrev S2x8x1x12288 : Shape := ⟨4, ![2, 8, 1, 12288]⟩
abbrev S1x8x1x12288 : Shape := ⟨4, ![1, 8, 1, 12288]⟩
abbrev S8x1x12288 : Shape := ⟨3, ![8, 1, 12288]⟩
abbrev S16384x2048 : Shape := ⟨2, ![16384, 2048]⟩
abbrev S512x2048 : Shape := ⟨2, ![512, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S2x4x2048, .f32⟩
  | .hbm, ⟨3, _⟩ => ⟨S2x8x12288, .f32⟩
  | .hbm, ⟨4, _⟩ => ⟨S1x4x2048, .f32⟩
  | .hbm, ⟨5, _⟩ => ⟨S4x2048, .f32⟩
  | .hbm, ⟨6, _⟩ => ⟨S4x1x2048, .f32⟩
  | .hbm, ⟨7, _⟩ => ⟨S2x8x1x12288, .f32⟩
  | .hbm, ⟨8, _⟩ => ⟨S1x8x1x12288, .f32⟩
  | .hbm, ⟨9, _⟩ => ⟨S8x1x12288, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.addi c8_i32 arg0
  let c512_i32 : BitVec 32 := 512#32
  let v1 : BitVec 32 := Scalar.muli v0 c512_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c4096_i32_1 : BitVec 32 := 4096#32
  let v4 : BitVec 32 := Scalar.divsi v3 c4096_i32_1
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32_1 c0_i32_3
  let v11 : BitVec 32 := Scalar.extui v10
  let c0_i32_4 : BitVec 32 := 0#32
  let v12 : BitVec 1 := Scalar.cmpi .slt c4096_i32_1 c0_i32_4
  let v13 : BitVec 32 := Scalar.extui v12
  let v14 : BitVec 32 := Scalar.subi v11 v13
  let v15 : BitVec 1 := Scalar.cmpi .ne v9 v14
  let v16 : BitVec 32 := Scalar.remsi v3 c4096_i32_1
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v2 c0_i32_7 v21
  let c0_i32_8 : BitVec 32 := 0#32
  let c5_i32 : BitVec 32 := 5#32
  let c0_i32_9 : BitVec 32 := 0#32
  ![v22.toNat, c0_i32_8.toNat, c5_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S20480x2048 : Shape := ⟨2, ![20480, 2048]⟩
abbrev S2x4x2048 : Shape := ⟨3, ![2, 4, 2048]⟩
abbrev S2x8x12288 : Shape := ⟨3, ![2, 8, 12288]⟩
abbrev S1x4x2048 : Shape := ⟨3, ![1, 4, 2048]⟩
abbrev S4x2048 : Shape := ⟨2, ![4, 2048]⟩
abbrev S4x1x2048 : Shape := ⟨3, ![4, 1, 2048]⟩
abbrev S16384x2048 : Shape := ⟨2, ![16384, 2048]⟩
abbrev S4x4096x2048 : Shape := ⟨3, ![4, 4096, 2048]⟩
abbrev S1x1x2048 : Shape := ⟨3, ![1, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S2x4x2048, .f32⟩
  | .hbm, ⟨3, _⟩ => ⟨S2x8x12288, .f32⟩
  | .hbm, ⟨4, _⟩ => ⟨S1x4x2048, .f32⟩
  | .hbm, ⟨5, _⟩ => ⟨S4x2048, .f32⟩
  | .hbm, ⟨6, _⟩ => ⟨S4x1x2048, .f32⟩
  | .hbm, ⟨7, _⟩ => ⟨S16384x2048, .f32⟩
  | .hbm, ⟨8, _⟩ => ⟨S4x4096x2048, .f32⟩
  | .hbm, ⟨9, _⟩ => ⟨S16384x2048, .f32⟩
  | .hbm, ⟨10, _⟩ => ⟨S4x4096x2048, .f32⟩
  | .hbm, ⟨11, _⟩ => ⟨S1x1x2048, .f32⟩
  | .hbm, ⟨12, _⟩ => ⟨S2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S16384x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel9.lean ====
abbrev S16x2560x1024 : Shape := ⟨3, ![16, 2560, 1024]⟩
abbrev S2x16x2048x2048 : Shape := ⟨4, ![2, 16, 2048, 2048]⟩
abbrev S16x2560x2048 : Shape := ⟨3, ![16, 2560, 2048]⟩
abbrev S1x2560x1024 : Shape := ⟨3, ![1, 2560, 1024]⟩
abbrev S1x1x2048x256 : Shape := ⟨4, ![1, 1, 2048, 256]⟩
abbrev S1x2560x256 : Shape := ⟨3, ![1, 2560, 256]⟩
abbrev S2560x2048 : Shape := ⟨2, ![2560, 2048]⟩
abbrev S2560x1024 : Shape := ⟨2, ![2560, 1024]⟩
abbrev S2048x256 : Shape := ⟨2, ![2048, 256]⟩
abbrev S2560x256 : Shape := ⟨2, ![2560, 256]⟩

abbrev nBuf : Space → Nat
  | .hbm => 4
  | .vmem => 9
  | .smem => 0
  | _ => 0

abbrev bufTy : (tb : Table) → Fin (tcTables nBuf tb) → BufTy
  | .hbm, ⟨0, _⟩ => ⟨S16x2560x1024, .i32⟩
  | .hbm, ⟨1, _⟩ => ⟨S2x16x2048x2048, .f32⟩
  | .hbm, ⟨2, _⟩ => ⟨S2x16x2048x2048, .f32⟩
  | .hbm, ⟨3, _⟩ => ⟨S16x2560x2048, .bf16⟩
  | .local _ .vmem, ⟨0, _⟩ => ⟨S1x2560x1024, .i32⟩
  | .local _ .vmem, ⟨1, _⟩ => ⟨S1x2560x1024, .i32⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x2560x256, .bf16⟩
  | .local _ .vmem, ⟨7, _⟩ => ⟨S1x2560x256, .bf16⟩
  | .local _ .vmem, ⟨8, _⟩ => ⟨S2560x2048, .bf16⟩
  | _, _ => ⟨S16x2560x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2560x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2560x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16x2560x1024 : Shape := ⟨3, ![16, 2560, 1024]⟩
abbrev S2x16x2048x2048 : Shape := ⟨4, ![2, 16, 2048, 2048]⟩
abbrev S_ : Shape := ⟨0, ![]⟩
abbrev S16x2560x2048 : Shape := ⟨3, ![16, 2560, 2048]⟩
abbrev S1x16x2048x2048 : Shape := ⟨4, ![1, 16, 2048, 2048]⟩
abbrev S16x2048x2048 : Shape := ⟨3, ![16, 2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x2560x1024, .i32⟩
  | .hbm, ⟨1, _⟩ => ⟨S2x16x2048x2048, .f32⟩
  | .hbm, ⟨2, _⟩ => ⟨S2x16x2048x2048, .f32⟩
  | .hbm, ⟨3, _⟩ => ⟨S_, .i32⟩
  | .hbm, ⟨4, _⟩ => ⟨S16x2560x1024, .i32⟩
  | .hbm, ⟨5, _⟩ => ⟨S16x2560x1024, .i32⟩
  | .hbm, ⟨6, _⟩ => ⟨S_, .i32⟩
  | .hbm, ⟨7, _⟩ => ⟨S16x2560x1024, .i32⟩
  | .hbm, ⟨8, _⟩ => ⟨S16x2560x1024, .i32⟩
  | .hbm, ⟨9, _⟩ => ⟨S_, .i32⟩
  | .hbm, ⟨10, _⟩ => ⟨S16x2560x1024, .i32⟩
  | .hbm, ⟨11, _⟩ => ⟨S16x2560x1024, .i32⟩
  | .hbm, ⟨12, _⟩ => ⟨S16x2560x2048, .i32⟩
  | .hbm, ⟨13, _⟩ => ⟨S16x2560x2048, .f32⟩
  | .hbm, ⟨14, _⟩ => ⟨S1x16x2048x2048, .f32⟩
  | .hbm, ⟨15, _⟩ => ⟨S16x2048x2048, .f32⟩
  | .hbm, ⟨16, _⟩ => ⟨S16x2560x2048, .f32⟩
  | .hbm, ⟨17, _⟩ => ⟨S1x16x2048x2048, .f32⟩
  | .hbm, ⟨18, _⟩ => ⟨S16x2048x2048, .f32⟩
  | .hbm, ⟨19, _⟩ => ⟨S16x2560x2048, .f32⟩
  | .hbm, ⟨20, _⟩ => ⟨S16x2560x2048, .f32⟩
  | .hbm, ⟨21, _⟩ => ⟨S16x2560x2048, .f32⟩
  | .hbm, ⟨22, _⟩ => ⟨S_, .f32⟩
  | .hbm, ⟨23, _⟩ => ⟨S16x2560x2048, .f32⟩
  | .hbm, ⟨24, _⟩ => ⟨S16x2560x2048, .f32⟩
  | .hbm, ⟨25, _⟩ => ⟨S_, .f32⟩
  | .hbm, ⟨26, _⟩ => ⟨S16x2560x2048, .f32⟩
  | .hbm, ⟨27, _⟩ => ⟨S16x2560x2048, .f32⟩
  | .hbm, ⟨28, _⟩ => ⟨S16x2560x2048, .f32⟩
  | .hbm, ⟨29, _⟩ => ⟨S16x2560x2048, .f32⟩
  | .hbm, ⟨30, _⟩ => ⟨S16x2560x2048, .bf16⟩
  | _, _ => ⟨S16x2560x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Kernel10.lean ====
abbrev S20480x2048 : Shape := ⟨2, ![20480, 2048]⟩
abbrev S2x4x2048 : Shape := ⟨3, ![2, 4, 2048]⟩
abbrev S2x8x12288 : Shape := ⟨3, ![2, 8, 12288]⟩
abbrev S2x8x1x12288 : Shape := ⟨4, ![2, 8, 1, 12288]⟩
abbrev S1x4x2048 : Shape := ⟨3, ![1, 4, 2048]⟩
abbrev S4x2048 : Shape := ⟨2, ![4, 2048]⟩
abbrev S4x1x2048 : Shape := ⟨3, ![4, 1, 2048]⟩
abbrev S1x8x1x12288 : Shape := ⟨4, ![1, 8, 1, 12288]⟩
abbrev S8x1x12288 : Shape := ⟨3, ![8, 1, 12288]⟩
abbrev S512x2048 : Shape := ⟨2, ![512, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S2x4x2048, .f32⟩
  | .hbm, ⟨3, _⟩ => ⟨S2x8x12288, .f32⟩
  | .hbm, ⟨4, _⟩ => ⟨S2x8x1x12288, .f32⟩
  | .hbm, ⟨5, _⟩ => ⟨S1x4x2048, .f32⟩
  | .hbm, ⟨6, _⟩ => ⟨S4x2048, .f32⟩
  | .hbm, ⟨7, _⟩ => ⟨S4x1x2048, .f32⟩
  | .hbm, ⟨8, _⟩ => ⟨S1x8x1x12288, .f32⟩
  | .hbm, ⟨9, _⟩ => ⟨S8x1x12288, .f32⟩
  | .hbm, ⟨10, _⟩ => ⟨S1x4x2048, .f32⟩
  | .hbm, ⟨11, _⟩ => ⟨S4x2048, .f32⟩
  | .hbm, ⟨12, _⟩ => ⟨S4x1x2048, .f32⟩
  | .hbm, ⟨13, _⟩ => ⟨S1x8x1x12288, .f32⟩
  | .hbm, ⟨14, _⟩ => ⟨S8x1x12288, .f32⟩
  | .hbm, ⟨15, _⟩ => ⟨S20480x2048, .f32⟩
  | .hbm, ⟨16, _⟩ => ⟨S20480x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c512_i32 : BitVec 32 := 512#32
  let v1 : BitVec 32 := Scalar.muli v0 c512_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c4096_i32_1 : BitVec 32 := 4096#32
  let v4 : BitVec 32 := Scalar.divsi v3 c4096_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4096_i32_1 c0_i32_4
  let v11 : BitVec 32 := Scalar.extui v10
  let c0_i32_5 : BitVec 32 := 0#32
  let v12 : BitVec 1 := Scalar.cmpi .slt c4096_i32_1 c0_i32_5
  let v13 : BitVec 32 := Scalar.extui v12
  let v14 : BitVec 32 := Scalar.subi v11 v13
  let v15 : BitVec 1 := Scalar.cmpi .ne v9 v14
  let v16 : BitVec 32 := Scalar.remsi v3 c4096_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c5_i32 : BitVec 32 := 5#32
  let c0_i32_10 : BitVec 32 := 0#32
  ![v22.toNat, c0_i32_9.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let v0 : BitVec 32 := Scalar.addi c0_i32 arg0
  let c512_i32 : BitVec 32 := 512#32
  let v1 : BitVec 32 := Scalar.muli v0 c512_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c4096_i32_1 : BitVec 32 := 4096#32
  let v4 : BitVec 32 := Scalar.divsi v3 c4096_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4096_i32_1 c0_i32_4
  let v11 : BitVec 32 := Scalar.extui v10
  let c0_i32_5 : BitVec 32 := 0#32
  let v12 : BitVec 1 := Scalar.cmpi .slt c4096_i32_1 c0_i32_5
  let v13 : BitVec 32 := Scalar.extui v12
  let v14 : BitVec 32 := Scalar.subi v11 v13
  let v15 : BitVec 1 := Scalar.cmpi .ne v9 v14
  let v16 : BitVec 32 := Scalar.remsi v3 c4096_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c0_i32_10 : BitVec 32 := 0#32
  let c0_i32_11 : BitVec 32 := 0#32
  ![v22.toNat, c0_i32_9.toNat, c0_i32_10.toNat]

def cc0_transform_6 (i : grid0.Coords) : Fin 3 → Nat :=
  let arg0 : BitVec 32 := BitVec.ofNat 32 (i 0).val
  let c0_i32 : BitVec 32 := 0#32
  let v0 : BitVec 32 := Scalar.addi c0_i32 arg0
  let c512_i32 : BitVec 32 := 512#32
  let v1 : BitVec 32 := Scalar.muli v0 c512_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c4096_i32_1 : BitVec 32 := 4096#32
  let v4 : BitVec 32 := Scalar.divsi v3 c4096_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4096_i32_1 c0_i32_4
  let v11 : BitVec 32 := Scalar.extui v10
  let c0_i32_5 : BitVec 32 := 0#32
  let v12 : BitVec 1 := Scalar.cmpi .slt c4096_i32_1 c0_i32_5
  let v13 : BitVec 32 := Scalar.extui v12
  let v14 : BitVec 32 := Scalar.subi v11 v13
  let v15 : BitVec 1 := Scalar.cmpi .ne v9 v14
  let v16 : BitVec 32 := Scalar.remsi v3 c4096_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c1_i32_10 : BitVec 32 := 1#32
  let c0_i32_11 : BitVec 32 := 0#32
  ![v22.toNat, c0_i32_9.toNat, c1_i32_10.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S20480x2048 : Shape := ⟨2, ![20480, 2048]⟩
abbrev S2x4x2048 : Shape := ⟨3, ![2, 4, 2048]⟩
abbrev S2x8x12288 : Shape := ⟨3, ![2, 8, 12288]⟩
abbrev S1x5x2048 : Shape := ⟨3, ![1, 5, 2048]⟩
abbrev S5x2048 : Shape := ⟨2, ![5, 2048]⟩
abbrev S5x1x2048 : Shape := ⟨3, ![5, 1, 2048]⟩
abbrev S5x4096x2048 : Shape := ⟨3, ![5, 4096, 2048]⟩
abbrev S1x1x2048 : Shape := ⟨3, ![1, 1, 2048]⟩
abbrev S2048 : Shape := ⟨1, ![2048]⟩
abbrev S_ : Shape := ⟨0, ![]⟩
abbrev S5x4096 : Shape := ⟨2, ![5, 4096]⟩
abbrev S5x4096x1 : Shape := ⟨3, ![5, 4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S2x4x2048, .f32⟩
  | .hbm, ⟨3, _⟩ => ⟨S2x8x12288, .f32⟩
  | .hbm, ⟨4, _⟩ => ⟨S1x5x2048, .f32⟩
  | .hbm, ⟨5, _⟩ => ⟨S5x2048, .f32⟩
  | .hbm, ⟨6, _⟩ => ⟨S5x1x2048, .f32⟩
  | .hbm, ⟨7, _⟩ => ⟨S1x5x2048, .f32⟩
  | .hbm, ⟨8, _⟩ => ⟨S5x2048, .f32⟩
  | .hbm, ⟨9, _⟩ => ⟨S5x1x2048, .f32⟩
  | .hbm, ⟨10, _⟩ => ⟨S1x5x2048, .f32⟩
  | .hbm, ⟨11, _⟩ => ⟨S5x2048, .f32⟩
  | .hbm, ⟨12, _⟩ => ⟨S5x1x2048, .f32⟩
  | .hbm, ⟨13, _⟩ => ⟨S5x4096x2048, .f32⟩
  | .hbm, ⟨14, _⟩ => ⟨S5x4096x2048, .f32⟩
  | .hbm, ⟨15, _⟩ => ⟨S1x1x2048, .f32⟩
  | .hbm, ⟨16, _⟩ => ⟨S2048, .f32⟩
  | .hbm, ⟨17, _⟩ => ⟨S5x4096x2048, .f32⟩
  | .hbm, ⟨18, _⟩ => ⟨S_, .f32⟩
  | .hbm, ⟨19, _⟩ => ⟨S5x4096, .f32⟩
  | .hbm, ⟨20, _⟩ => ⟨S5x4096x1, .f32⟩
  | .hbm, ⟨21, _⟩ => ⟨S_, .f32⟩
  | .hbm, ⟨22, _⟩ => ⟨S5x4096x1, .f32⟩
  | .hbm, ⟨23, _⟩ => ⟨S5x4096x1, .f32⟩
  | .hbm, ⟨24, _⟩ => ⟨S_, .f32⟩
  | .hbm, ⟨25, _⟩ => ⟨S5x4096x1, .f32⟩
  | .hbm, ⟨26, _⟩ => ⟨S5x4096x1, .f32⟩
  | .hbm, ⟨27, _⟩ => ⟨S5x4096x1, .f32⟩
  | .hbm, ⟨28, _⟩ => ⟨S5x4096x2048, .f32⟩
  | .hbm, ⟨29, _⟩ => ⟨S5x4096x2048, .f32⟩
  | .hbm, ⟨30, _⟩ => ⟨S1x1x2048, .f32⟩
  | .hbm, ⟨31, _⟩ => ⟨S5x4096x2048, .f32⟩
  | .hbm, ⟨32, _⟩ => ⟨S5x4096x2048, .f32⟩
  | .hbm, ⟨33, _⟩ => ⟨S5x4096x2048, .f32⟩
  | .hbm, ⟨34, _⟩ => ⟨S5x4096x2048, .f32⟩
  | .hbm, ⟨35, _⟩ => ⟨S5x4096x2048, .f32⟩
  | .hbm, ⟨36, _⟩ => ⟨S1x1x2048, .f32⟩
  | .hbm, ⟨37, _⟩ => ⟨S2048, .f32⟩
  | .hbm, ⟨38, _⟩ => ⟨S5x4096x2048, .f32⟩
  | .hbm, ⟨39, _⟩ => ⟨S_, .f32⟩
  | .hbm, ⟨40, _⟩ => ⟨S5x4096, .f32⟩
  | .hbm, ⟨41, _⟩ => ⟨S5x4096x1, .f32⟩
  | .hbm, ⟨42, _⟩ => ⟨S_, .f32⟩
  | .hbm, ⟨43, _⟩ => ⟨S5x4096x1, .f32⟩
  | .hbm, ⟨44, _⟩ => ⟨S5x4096x1, .f32⟩
  | .hbm, ⟨45, _⟩ => ⟨S_, .f32⟩
  | .hbm, ⟨46, _⟩ => ⟨S5x4096x1, .f32⟩
  | .hbm, ⟨47, _⟩ => ⟨S5x4096x1, .f32⟩
  | .hbm, ⟨48, _⟩ => ⟨S5x4096x1, .f32⟩
  | .hbm, ⟨49, _⟩ => ⟨S5x4096x2048, .f32⟩
  | .hbm, ⟨50, _⟩ => ⟨S5x4096x2048, .f32⟩
  | .hbm, ⟨51, _⟩ => ⟨S1x1x2048, .f32⟩
  | .hbm, ⟨52, _⟩ => ⟨S5x4096x2048, .f32⟩
  | .hbm, ⟨53, _⟩ => ⟨S5x4096x2048, .f32⟩
  | .hbm, ⟨54, _⟩ => ⟨S_, .f32⟩
  | .hbm, ⟨55, _⟩ => ⟨S5x1x2048, .f32⟩
  | .hbm, ⟨56, _⟩ => ⟨S5x1x2048, .f32⟩
  | .hbm, ⟨57, _⟩ => ⟨S5x4096x2048, .f32⟩
  | .hbm, ⟨58, _⟩ => ⟨S5x4096x2048, .f32⟩
  | .hbm, ⟨59, _⟩ => ⟨S5x4096x2048, .f32⟩
  | .hbm, ⟨60, _⟩ => ⟨S5x4096x2048, .f32⟩
  | .hbm, ⟨61, _⟩ => ⟨S20480x2048, .f32⟩
  | .hbm, ⟨62, _⟩ => ⟨S5x4096x2048, .bf16⟩
  | .hbm, ⟨63, _⟩ => ⟨S20480x2048, .bf16⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Kernel11.lean ====
abbrev S2048 : Shape := ⟨1, ![2048]⟩
abbrev S4x2048 : Shape := ⟨2, ![4, 2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048, .f32⟩
  | .hbm, ⟨1, _⟩ => ⟨S4x2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S2048 : Shape := ⟨1, ![2048]⟩
abbrev S4x2048 : Shape := ⟨2, ![4, 2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x12288x8 : Shape := ⟨3, ![2, 12288, 8]⟩
abbrev S2x8x12288 : Shape := ⟨3, ![2, 8, 12288]⟩
abbrev S2x1x12288 : Shape := ⟨3, ![2, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4x2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S2x12288x8, .f32⟩
  | .hbm, ⟨18, _⟩ => ⟨S2x8x12288, .f32⟩
  | .hbm, ⟨19, _⟩ => ⟨S2x1x12288, .f32⟩
  | .hbm, ⟨20, _⟩ => ⟨S2x8x12288, .f32⟩
  | .hbm, ⟨21, _⟩ => ⟨S2x8x12288, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel13.lean ====
abbrev S20480x2048 : Shape := ⟨2, ![20480, 2048]⟩
abbrev S2x2048x2048 : Shape := ⟨3, ![2, 2048, 2048]⟩
abbrev S2x4x2048 : Shape := ⟨3, ![2, 4, 2048]⟩
abbrev S2x8x12288 : Shape := ⟨3, ![2, 8, 12288]⟩
abbrev S2x2048x16 : Shape := ⟨3, ![2, 2048, 16]⟩
abbrev S1x4x2048 : Shape := ⟨3, ![1, 4, 2048]⟩
abbrev S4x2048 : Shape := ⟨2, ![4, 2048]⟩
abbrev S4x1x2048 : Shape := ⟨3, ![4, 1, 2048]⟩
abbrev S2x8x1x12288 : Shape := ⟨4, ![2, 8, 1, 12288]⟩
abbrev S1x8x1x12288 : Shape := ⟨4, ![1, 8, 1, 12288]⟩
abbrev S8x1x12288 : Shape := ⟨3, ![8, 1, 12288]⟩
abbrev S1x2048x2048 : Shape := ⟨3, ![1, 2048, 2048]⟩
abbrev S2048x2048 : Shape := ⟨2, ![2048, 2048]⟩
abbrev S1x2048x16 : Shape := ⟨3, ![1, 2048, 16]⟩
abbrev S2048x16 : Shape := ⟨2, ![2048, 16]⟩
abbrev S20480x16 : Shape := ⟨2, ![20480, 16]⟩
abbrev S256x2048 : Shape := ⟨2, ![256, 2048]⟩
abbrev S1x1x2048 : Shape := ⟨3, ![1, 1, 2048]⟩
abbrev S256x16 : Shape := ⟨2, ![256, 16]⟩
abbrev S1x2048 : Shape := ⟨2, ![1, 2048]⟩
abbrev S256 : Shape := ⟨1, ![256]⟩
abbrev S256x1 : Shape := ⟨2, ![256, 1]⟩

abbrev nBuf : Space → Nat
  | .hbm => 20
  | .vmem => 20
  | .smem => 0
  | _ => 0

abbrev bufTy : (tb : Table) → Fin (tcTables nBuf tb) → BufTy
  | .hbm, ⟨0, _⟩ => ⟨S20480x2048, .bf16⟩
  | .hbm, ⟨1, _⟩ => ⟨S2x2048x2048, .f32⟩
  | .hbm, ⟨2, _⟩ => ⟨S20480x2048, .f32⟩
  | .hbm, ⟨3, _⟩ => ⟨S2x4x2048, .f32⟩
  | .hbm, ⟨4, _⟩ => ⟨S2x8x12288, .f32⟩
  | .hbm, ⟨5, _⟩ => ⟨S2x2048x16, .f32⟩
  | .hbm, ⟨6, _⟩ => ⟨S1x4x2048, .f32⟩
  | .hbm, ⟨7, _⟩ => ⟨S4x2048, .f32⟩
  | .hbm, ⟨8, _⟩ => ⟨S4x1x2048, .f32⟩
  | .hbm, ⟨9, _⟩ => ⟨S2x8x1x12288, .f32⟩
  | .hbm, ⟨10, _⟩ => ⟨S1x8x1x12288, .f32⟩
  | .hbm, ⟨11, _⟩ => ⟨S8x1x12288, .f32⟩
  | .hbm, ⟨12, _⟩ => ⟨S1x2048x2048, .f32⟩
  | .hbm, ⟨13, _⟩ => ⟨S2048x2048, .f32⟩
  | .hbm, ⟨14, _⟩ => ⟨S2048x2048, .bf16⟩
  | .hbm, ⟨15, _⟩ => ⟨S1x2048x16, .f32⟩
  | .hbm, ⟨16, _⟩ => ⟨S2048x16, .f32⟩
  | .hbm, ⟨17, _⟩ => ⟨S20480x2048, .f32⟩
  | .hbm, ⟨18, _⟩ => ⟨S20480x2048, .bf16⟩
  | .hbm, ⟨19, _⟩ => ⟨S20480x16, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x16, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S256x16, .f32⟩
  | .local _ .vmem, ⟨19, _⟩ => ⟨S256x16, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c256_i32 : BitVec 32 := 256#32
  let v1 : BitVec 32 := Scalar.muli v0 c256_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c4096_i32_1 : BitVec 32 := 4096#32
  let v4 : BitVec 32 := Scalar.divsi v3 c4096_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4096_i32_1 c0_i32_4
  let v11 : BitVec 32 := Scalar.extui v10
  let c0_i32_5 : BitVec 32 := 0#32
  let v12 : BitVec 1 := Scalar.cmpi .slt c4096_i32_1 c0_i32_5
  let v13 : BitVec 32 := Scalar.extui v12
  let v14 : BitVec 32 := Scalar.subi v11 v13
  let v15 : BitVec 1 := Scalar.cmpi .ne v9 v14
  let v16 : BitVec 32 := Scalar.remsi v3 c4096_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c2_i32 : BitVec 32 := 2#32
  let c0_i32_10 : BitVec 32 := 0#32
  ![v22.toNat, c0_i32_9.toNat, c2_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.addi c0_i32 arg0
  let c256_i32 : BitVec 32 := 256#32
  let v1 : BitVec 32 := Scalar.muli v0 c256_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c4096_i32_1 : BitVec 32 := 4096#32
  let v4 : BitVec 32 := Scalar.divsi v3 c4096_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4096_i32_1 c0_i32_4
  let v11 : BitVec 32 := Scalar.extui v10
  let c0_i32_5 : BitVec 32 := 0#32
  let v12 : BitVec 1 := Scalar.cmpi .slt c4096_i32_1 c0_i32_5
  let v13 : BitVec 32 := Scalar.extui v12
  let v14 : BitVec 32 := Scalar.subi v11 v13
  let v15 : BitVec 1 := Scalar.cmpi .ne v9 v14
  let v16 : BitVec 32 := Scalar.remsi v3 c4096_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c3_i32 : BitVec 32 := 3#32
  let c0_i32_10 : BitVec 32 := 0#32
  ![v22.toNat, c0_i32_9.toNat, c3_i32.toNat]

def cc0_transform_7 (i : grid0.Coords) : Fin 3 → Nat :=
  let arg0 : BitVec 32 := BitVec.ofNat 32 (i 0).val
  let c0_i32 : BitVec 32 := 0#32
  let v0 : BitVec 32 := Scalar.addi c0_i32 arg0
  let c256_i32 : BitVec 32 := 256#32
  let v1 : BitVec 32 := Scalar.muli v0 c256_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c4096_i32_1 : BitVec 32 := 4096#32
  let v4 : BitVec 32 := Scalar.divsi v3 c4096_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4096_i32_1 c0_i32_4
  let v11 : BitVec 32 := Scalar.extui v10
  let c0_i32_5 : BitVec 32 := 0#32
  let v12 : BitVec 1 := Scalar.cmpi .slt c4096_i32_1 c0_i32_5
  let v13 : BitVec 32 := Scalar.extui v12
  let v14 : BitVec 32 := Scalar.subi v11 v13
  let v15 : BitVec 1 := Scalar.cmpi .ne v9 v14
  let v16 : BitVec 32 := Scalar.remsi v3 c4096_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c4_i32 : BitVec 32 := 4#32
  let c0_i32_10 : BitVec 32 := 0#32
  ![v22.toNat, c0_i32_9.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference13Ideal.lean ====
abbrev S20480x2048 : Shape := ⟨2, ![20480, 2048]⟩
abbrev S2x2048x2048 : Shape := ⟨3, ![2, 2048, 2048]⟩
abbrev S2x4x2048 : Shape := ⟨3, ![2, 4, 2048]⟩
abbrev S2x8x12288 : Shape := ⟨3, ![2, 8, 12288]⟩
abbrev S2x2048x16 : Shape := ⟨3, ![2, 2048, 16]⟩
abbrev S1x5x2048 : Shape := ⟨3, ![1, 5, 2048]⟩
abbrev S5x2048 : Shape := ⟨2, ![5, 2048]⟩
abbrev S5x1x2048 : Shape := ⟨3, ![5, 1, 2048]⟩
abbrev S1x2048x2048 : Shape := ⟨3, ![1, 2048, 2048]⟩
abbrev S2048x2048 : Shape := ⟨2, ![2048, 2048]⟩
abbrev S5x4096x2048 : Shape := ⟨3, ![5, 4096, 2048]⟩
abbrev S1x1x2048 : Shape := ⟨3, ![1, 1, 2048]⟩
abbrev S2048 : Shape := ⟨1, ![2048]⟩
abbrev S_ : Shape := ⟨0, ![]⟩
abbrev S5x4096 : Shape := ⟨2, ![5, 4096]⟩
abbrev S5x4096x1 : Shape := ⟨3, ![5, 4096, 1]⟩
abbrev S1x2048x16 : Shape := ⟨3, ![1, 2048, 16]⟩
abbrev S2048x16 : Shape := ⟨2, ![2048, 16]⟩
abbrev S20480x16 : Shape := ⟨2, ![20480, 16]⟩

abbrev nBuf : Space → Nat
  | .hbm => 73
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2x2048x2048, .f32⟩
  | .hbm, ⟨2, _⟩ => ⟨S20480x2048, .f32⟩
  | .hbm, ⟨3, _⟩ => ⟨S2x4x2048, .f32⟩
  | .hbm, ⟨4, _⟩ => ⟨S2x8x12288, .f32⟩
  | .hbm, ⟨5, _⟩ => ⟨S2x2048x16, .f32⟩
  | .hbm, ⟨6, _⟩ => ⟨S1x5x2048, .f32⟩
  | .hbm, ⟨7, _⟩ => ⟨S5x2048, .f32⟩
  | .hbm, ⟨8, _⟩ => ⟨S5x1x2048, .f32⟩
  | .hbm, ⟨9, _⟩ => ⟨S1x5x2048, .f32⟩
  | .hbm, ⟨10, _⟩ => ⟨S5x2048, .f32⟩
  | .hbm, ⟨11, _⟩ => ⟨S5x1x2048, .f32⟩
  | .hbm, ⟨12, _⟩ => ⟨S1x5x2048, .f32⟩
  | .hbm, ⟨13, _⟩ => ⟨S5x2048, .f32⟩
  | .hbm, ⟨14, _⟩ => ⟨S5x1x2048, .f32⟩
  | .hbm, ⟨15, _⟩ => ⟨S20480x2048, .f32⟩
  | .hbm, ⟨16, _⟩ => ⟨S1x2048x2048, .f32⟩
  | .hbm, ⟨17, _⟩ => ⟨S2048x2048, .f32⟩
  | .hbm, ⟨18, _⟩ => ⟨S20480x2048, .f32⟩
  | .hbm, ⟨19, _⟩ => ⟨S5x4096x2048, .f32⟩
  | .hbm, ⟨20, _⟩ => ⟨S5x4096x2048, .f32⟩
  | .hbm, ⟨21, _⟩ => ⟨S1x1x2048, .f32⟩
  | .hbm, ⟨22, _⟩ => ⟨S2048, .f32⟩
  | .hbm, ⟨23, _⟩ => ⟨S5x4096x2048, .f32⟩
  | .hbm, ⟨24, _⟩ => ⟨S_, .f32⟩
  | .hbm, ⟨25, _⟩ => ⟨S5x4096, .f32⟩
  | .hbm, ⟨26, _⟩ => ⟨S5x4096x1, .f32⟩
  | .hbm, ⟨27, _⟩ => ⟨S_, .f32⟩
  | .hbm, ⟨28, _⟩ => ⟨S5x4096x1, .f32⟩
  | .hbm, ⟨29, _⟩ => ⟨S5x4096x1, .f32⟩
  | .hbm, ⟨30, _⟩ => ⟨S_, .f32⟩
  | .hbm, ⟨31, _⟩ => ⟨S5x4096x1, .f32⟩
  | .hbm, ⟨32, _⟩ => ⟨S5x4096x1, .f32⟩
  | .hbm, ⟨33, _⟩ => ⟨S5x4096x1, .f32⟩
  | .hbm, ⟨34, _⟩ => ⟨S5x4096x2048, .f32⟩
  | .hbm, ⟨35, _⟩ => ⟨S5x4096x2048, .f32⟩
  | .hbm, ⟨36, _⟩ => ⟨S1x1x2048, .f32⟩
  | .hbm, ⟨37, _⟩ => ⟨S5x4096x2048, .f32⟩
  | .hbm, ⟨38, _⟩ => ⟨S5x4096x2048, .f32⟩
  | .hbm, ⟨39, _⟩ => ⟨S5x4096x2048, .f32⟩
  | .hbm, ⟨40, _⟩ => ⟨S5x4096x2048, .f32⟩
  | .hbm, ⟨41, _⟩ => ⟨S5x4096x2048, .f32⟩
  | .hbm, ⟨42, _⟩ => ⟨S1x1x2048, .f32⟩
  | .hbm, ⟨43, _⟩ => ⟨S2048, .f32⟩
  | .hbm, ⟨44, _⟩ => ⟨S5x4096x2048, .f32⟩
  | .hbm, ⟨45, _⟩ => ⟨S_, .f32⟩
  | .hbm, ⟨46, _⟩ => ⟨S5x4096, .f32⟩
  | .hbm, ⟨47, _⟩ => ⟨S5x4096x1, .f32⟩
  | .hbm, ⟨48, _⟩ => ⟨S_, .f32⟩
  | .hbm, ⟨49, _⟩ => ⟨S5x4096x1, .f32⟩
  | .hbm, ⟨50, _⟩ => ⟨S5x4096x1, .f32⟩
  | .hbm, ⟨51, _⟩ => ⟨S_, .f32⟩
  | .hbm, ⟨52, _⟩ => ⟨S5x4096x1, .f32⟩
  | .hbm, ⟨53, _⟩ => ⟨S5x4096x1, .f32⟩
  | .hbm, ⟨54, _⟩ => ⟨S5x4096x1, .f32⟩
  | .hbm, ⟨55, _⟩ => ⟨S5x4096x2048, .f32⟩
  | .hbm, ⟨56, _⟩ => ⟨S5x4096x2048, .f32⟩
  | .hbm, ⟨57, _⟩ => ⟨S1x1x2048, .f32⟩
  | .hbm, ⟨58, _⟩ => ⟨S5x4096x2048, .f32⟩
  | .hbm, ⟨59, _⟩ => ⟨S5x4096x2048, .f32⟩
  | .hbm, ⟨60, _⟩ => ⟨S_, .f32⟩
  | .hbm, ⟨61, _⟩ => ⟨S5x1x2048, .f32⟩
  | .hbm, ⟨62, _⟩ => ⟨S5x1x2048, .f32⟩
  | .hbm, ⟨63, _⟩ => ⟨S5x4096x2048, .f32⟩
  | .hbm, ⟨64, _⟩ => ⟨S5x4096x2048, .f32⟩
  | .hbm, ⟨65, _⟩ => ⟨S5x4096x2048, .f32⟩
  | .hbm, ⟨66, _⟩ => ⟨S5x4096x2048, .f32⟩
  | .hbm, ⟨67, _⟩ => ⟨S20480x2048, .f32⟩
  | .hbm, ⟨68, _⟩ => ⟨S20480x2048, .f32⟩
  | .hbm, ⟨69, _⟩ => ⟨S20480x2048, .bf16⟩
  | .hbm, ⟨70, _⟩ => ⟨S1x2048x16, .f32⟩
  | .hbm, ⟨71, _⟩ => ⟨S2048x16, .f32⟩
  | .hbm, ⟨72, _⟩ => ⟨S20480x16, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Proof.Attn.Running.lean ====
/-
  The running softmax of one query: a maximum and accumulators carried over the keys, chunk by chunk, in extended reals.
  `Seen S V n m acc` says what the carried maximum `m` and accumulators `acc` hold once the keys below `n` were taken;
  `Seen.step` is one chunk of any length, and `Seen.quotient` reads the weighted mean off the accumulators at the end.
-/
module

public import Idealize.ShloMosaic.PureOps.Ideal

@[expose] public section

noncomputable section

namespace Cert.Proof.Attn

open Idealize.ShloMosaic

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, at least one of them, is a real. -/
theorem fold_max_coe {T : ℕ} (hT : 0 < T) (s : Fin T → ℝ) :
    ∃ L : ℝ, (Finset.univ.fold max (⊥ : EReal) fun k => ((s k : ℝ) : EReal)) = (L : EReal) := by
  have h : ∀ u : Finset (Fin T), u.fold max (⊥ : EReal) (fun k => ((s k : ℝ) : EReal)) = ⊥ ∧ u = ∅
      ∨ ∃ L : ℝ, u.fold max (⊥ : EReal) (fun k => ((s k : ℝ) : EReal)) = (L : EReal) := by
    intro u
    induction u using Finset.induction_on with
    | empty => exact .inl ⟨rfl, rfl⟩
    | insert a u ha ih =>
      right
      rw [Finset.fold_insert ha]
      rcases ih with ⟨h, _⟩ | ⟨L, h⟩
      · exact ⟨s a, by rw [h, max_eq_left bot_le]⟩
      · exact ⟨max (s a) L, by rw [h]; exact (EReal.coe_strictMono.monotone.map_max).symm⟩
  rcases h Finset.univ with ⟨_, h⟩ | h
  · exact absurd h (Finset.univ_nonempty_iff.mpr ⟨⟨0, hT⟩⟩).ne_empty
  · exact h

/-- What the carried maximum and accumulators hold after the keys below `n`: nothing taken yet, or some real `M` and each
    row's sum of values weighted by `2 ^ (score - M)`. -/
def Seen {ι : Type} (S : ℕ → ℝ) (V : ι → ℕ → ℝ) (n : ℕ) (m : EReal) (acc : ι → EReal) : Prop :=
  (n = 0 ∧ m = ⊥ ∧ ∀ r, acc r = 0)
    ∨ ∃ M : ℝ, m = M ∧ ∀ r, acc r = ((∑ k ∈ Finset.range n, V r k * Real.rpow 2 (S k - M) : ℝ) : EReal)

theorem Seen.zero {ι : Type} (S : ℕ → ℝ) (V : ι → ℕ → ℝ) : Seen S V 0 ⊥ fun _ => 0 := .inl ⟨rfl, rfl, fun _ => rfl⟩

theorem rpow_two_add (x y : ℝ) : Real.rpow 2 x * Real.rpow 2 y = Real.rpow 2 (x + y) := (Real.rpow_add (by norm_num) x y).symm

/-- One chunk of `T` keys. -/
theorem Seen.step {ι : Type} {S : ℕ → ℝ} {V : ι → ℕ → ℝ} {n : ℕ} {m : EReal} {acc : ι → EReal} (h : Seen S V n m acc)
    {T : ℕ} (hT : 0 < T) (s : Fin T → EReal) (hs : ∀ k : Fin T, s k = (S (n + k.val) : EReal))
    (v : ι → Fin T → EReal) (hv : ∀ r (k : Fin T), v r k = (V r (n + k.val) : EReal))
    (m' : EReal) (hm : m' = max m (Finset.univ.fold max (⊥ : EReal) s))
    (acc' : ι → EReal) (ha : ∀ r, acc' r = Ideal.exp2 (m - m') * acc r + ∑ k : Fin T, v r k * Ideal.exp2 (s k - m')) :
    Seen S V (n + T) m' acc' := by
  right
  obtain ⟨L, hL⟩ := fold_max_coe hT fun k => S (n + k.val)
  have hs' : s = fun k : Fin T => ((S (n + k.val) : ℝ) : EReal) := funext hs
  have hchunk : ∀ (M : ℝ) r, (∑ k : Fin T, v r k * Ideal.exp2 (s k - (M : EReal)))
      = ((∑ k ∈ Finset.range T, V r (n + k) * Real.rpow 2 (S (n + k) - M) : ℝ) : EReal) := by
    intro M r
    rw [Finset.sum_range fun k => V r (n + k) * Real.rpow 2 (S (n + k) - M), coe_sum]
    refine Finset.sum_congr rfl fun k _ => ?_
    rw [hv, hs, ← EReal.coe_sub, Ideal.exp2_coe, EReal.coe_mul]
  rw [hs', hL] at hm
  rcases h with ⟨rfl, rfl, h0⟩ | ⟨M, rfl, hacc⟩
  · refine ⟨L, by rw [hm, max_eq_right bot_le], fun r => ?_⟩
    have hmL : m' = (L : EReal) := by rw [hm, max_eq_right bot_le]
    rw [ha, h0, mul_zero, zero_add, hmL, hchunk]
    simp
  · have hmL : m' = ((max M L : ℝ) : EReal) := by rw [hm]; exact (EReal.coe_strictMono.monotone.map_max).symm
    refine ⟨max M L, hmL, fun r => ?_⟩
    rw [ha, hacc, hmL, hchunk, ← EReal.coe_sub, Ideal.exp2_coe, ← EReal.coe_mul, ← EReal.coe_add, Finset.sum_range_add, Finset.mul_sum]
    congr 2
    refine Finset.sum_congr rfl fun k _ => ?_
    rw [mul_left_comm, rpow_two_add]
    congr 2
    ring

/-- The softmax weight of key `k` among `N` keys with scores `s`. -/
def weight (s : ℕ → ℝ) (N k : ℕ) : ℝ := Real.exp (s k) / ∑ i ∈ Finset.range N, Real.exp (s i)

theorem exp_sum_pos (s : ℕ → ℝ) {N : ℕ} (hN : 0 < N) : 0 < ∑ i ∈ Finset.range N, Real.exp (s i) :=
  Finset.sum_pos (fun _ _ => Real.exp_pos _) ⟨0, Finset.mem_range.mpr hN⟩

/-- Weighting by `exp (s - M)` and dividing by the sum of these is the weighted mean, whatever the shift. -/
theorem shifted_quotient (s : ℕ → ℝ) (N : ℕ) (M : ℝ) (k : ℕ) :
    Real.exp (s k - M) / ∑ i ∈ Finset.range N, Real.exp (s i - M) = weight s N k := by
  have h : ∀ x, Real.exp (x - M) = Real.exp x * Real.exp (-M) := fun x => by rw [← Real.exp_add, sub_eq_add_neg]
  simp only [h, weight, ← Finset.sum_mul]
  rw [mul_div_mul_right _ _ (Real.exp_pos _).ne']

theorem rpow_two_log (x : ℝ) : Real.rpow 2 x = Real.exp (x * Real.log 2) := by
  show (2 : ℝ) ^ x = _
  rw [Real.rpow_def_of_pos (by norm_num), mul_comm]

/-- The accumulator over the sum of weights (row `o`, whose values are 1) is the weighted mean by the softmax of the scores
    taken at base two. -/
theorem Seen.quotient {ι : Type} {S : ℕ → ℝ} {V : ι → ℕ → ℝ} {N : ℕ} {m : EReal} {acc : ι → EReal} (h : Seen S V N m acc)
    (hN : 0 < N) (o : ι) (ho : ∀ k < N, V o k = 1) (r : ι) (c : ℝ) :
    acc r * Ideal.div (c : EReal) (acc o)
      = ((c * ∑ k ∈ Finset.range N, V r k * weight (fun k => S k * Real.log 2) N k : ℝ) : EReal) := by
  rcases h with ⟨rfl, _⟩ | ⟨M, rfl, hacc⟩
  · exact absurd hN (lt_irrefl _)
  have hl : (∑ k ∈ Finset.range N, V o k * Real.rpow 2 (S k - M))
      = ∑ k ∈ Finset.range N, Real.exp (S k * Real.log 2 - M * Real.log 2) :=
    Finset.sum_congr rfl fun k hk => by rw [ho k (Finset.mem_range.mp hk), one_mul, rpow_two_log, sub_mul]
  have hp : 0 < ∑ k ∈ Finset.range N, Real.exp (S k * Real.log 2 - M * Real.log 2) :=
    exp_sum_pos (fun k => S k * Real.log 2 - M * Real.log 2) hN
  rw [hacc r, hacc o, hl, Ideal.div_coe hp.ne', ← EReal.coe_mul, ← EReal.coe_mul, Finset.mul_sum, Finset.sum_mul]
  congr 1
  refine Finset.sum_congr rfl fun k _ => ?_
  rw [← shifted_quotient (fun k => S k * Real.log 2) N (M * Real.log 2) k, rpow_two_log, sub_mul]
  ring

end Cert.Proof.Attn

end
-- ==== Proof.Attn.Steps.lean ====
/-
  One chunk of keys of the kernel's body, as vector operations, and read at an index: the scores of a chunk, the new
  maximum, the new accumulators; and the closing combination of the two maps. The body (`Attn/Body.lean`) is nine of these.
-/
module

public import proofs.«01_k».proof.Proof.Gen.KernelIdeal.Skeleton
public import proofs.«01_k».proof.Proof.Attn.Running
public import Idealize.ShloMosaic.Lib.Pointwise

@[expose] public section

set_option maxRecDepth 16384

noncomputable section

namespace Cert.Proof.Attn

open Idealize.ShloMosaic Cert.KernelIdeal Cert.KernelIdeal.Gen Idealize.ShloMosaic.Pointwise

abbrev scores (kc : FVec Ideal S512x128 .bf16) (q : FVec Ideal S128x256 .bf16) : FVec Ideal S512x256 .f32 :=
  matmul dot_S512x128_S128x256_S512x256_1_0_0_1_n_n none kc q (constant S512x256 .f32 0x00000000#32)

abbrev scores' (kc : FVec Ideal S256x128 .bf16) (q : FVec Ideal S128x256 .bf16) : FVec Ideal S256x256 .f32 :=
  matmul dot_S256x128_S128x256_S256x256_1_0_0_1_n_n none kc q (constant S256x256 .f32 0x00000000#32)

abbrev maxNew (s : FVec Ideal S512x256 .f32) (m : FVec Ideal S1x256 .f32) : FVec Ideal S1x256 .f32 :=
  maximumf m (shapeCast S1x256 (multiReduction .maximumf [0] S256 s 0xFF800000#32 reduces_S512x256_S256 (.inl rfl) rfl) shapeCasts_S256_S1x256)

abbrev maxNew' (s : FVec Ideal S256x256 .f32) (m : FVec Ideal S1x256 .f32) : FVec Ideal S1x256 .f32 :=
  maximumf m (shapeCast S1x256 (multiReduction .maximumf [0] S256 s 0xFF800000#32 reduces_S256x256_S256 (.inl rfl) rfl) shapeCasts_S256_S1x256)

abbrev accNew (s : FVec Ideal S512x256 .f32) (vc : FVec Ideal S144x512 .bf16) (m : FVec Ideal S1x256 .f32)
    (acc : FVec Ideal S144x256 .f32) : FVec Ideal S144x256 .f32 :=
  addf (mulf (broadcastTo S144x256 (exp2 (subf m (maxNew s m))) broadcasts_S1x256_S144x256) acc)
    (matmul dot_S144x512_S512x256_S144x256_1_0_0_1_n_n none vc
      (truncf .bf16 (exp2 (subf s (broadcastTo S512x256 (maxNew s m) broadcasts_S1x256_S512x256))) bitsLt_bf16_f32)
      (constant S144x256 .f32 0x00000000#32))

abbrev accNew' (s : FVec Ideal S256x256 .f32) (vc : FVec Ideal S144x256 .bf16) (m : FVec Ideal S1x256 .f32)
    (acc : FVec Ideal S144x256 .f32) : FVec Ideal S144x256 .f32 :=
  addf (mulf (broadcastTo S144x256 (exp2 (subf m (maxNew' s m))) broadcasts_S1x256_S144x256) acc)
    (matmul dot_S144x256_S256x256_S144x256_1_0_0_1_n_n none vc
      (truncf .bf16 (exp2 (subf s (broadcastTo S256x256 (maxNew' s m) broadcasts_S1x256_S256x256))) bitsLt_bf16_f32)
      (constant S144x256 .f32 0x00000000#32))

theorem scores_apply (kc : FVec Ideal S512x128 .bf16) (q : FVec Ideal S128x256 .bf16) (k : Fin 512) (j : Fin 256) :
    scores kc q (ix2 k j) = ∑ d : Fin 128, kc (ix2 k d) * q (ix2 d j) := by
  pointwise

theorem scores'_apply (kc : FVec Ideal S256x128 .bf16) (q : FVec Ideal S128x256 .bf16) (k : Fin 256) (j : Fin 256) :
    scores' kc q (ix2 k j) = ∑ d : Fin 128, kc (ix2 k d) * q (ix2 d j) := by
  pointwise

theorem negInf : Ideal.ofBits .f32 0xFF800000#32 = (⊥ : EReal) := by
  simp [Ideal.ofBits, Ideal.ieee]

theorem maxNew_apply (s : FVec Ideal S512x256 .f32) (m : FVec Ideal S1x256 .f32) (j : Fin 256) :
    maxNew s m (ix2 0 j) = max (m (ix2 0 j)) (Finset.univ.fold max ⊥ fun k : Fin 512 => s (ix2 k j)) := by
  rw [← negInf]
  pointwise

theorem maxNew'_apply (s : FVec Ideal S256x256 .f32) (m : FVec Ideal S1x256 .f32) (j : Fin 256) :
    maxNew' s m (ix2 0 j) = max (m (ix2 0 j)) (Finset.univ.fold max ⊥ fun k : Fin 256 => s (ix2 k j)) := by
  rw [← negInf]
  pointwise

theorem accNew_apply (s : FVec Ideal S512x256 .f32) (vc : FVec Ideal S144x512 .bf16) (m : FVec Ideal S1x256 .f32)
    (acc : FVec Ideal S144x256 .f32) (r : Fin 144) (j : Fin 256) :
    accNew s vc m acc (ix2 r j) = Ideal.exp2 (m (ix2 0 j) - maxNew s m (ix2 0 j)) * acc (ix2 r j)
      + ∑ k : Fin 512, vc (ix2 r k) * Ideal.exp2 (s (ix2 k j) - maxNew s m (ix2 0 j)) := by
  unfold accNew
  generalize maxNew s m = m'
  pointwise
  rfl

theorem accNew'_apply (s : FVec Ideal S256x256 .f32) (vc : FVec Ideal S144x256 .bf16) (m : FVec Ideal S1x256 .f32)
    (acc : FVec Ideal S144x256 .f32) (r : Fin 144) (j : Fin 256) :
    accNew' s vc m acc (ix2 r j) = Ideal.exp2 (m (ix2 0 j) - maxNew' s m (ix2 0 j)) * acc (ix2 r j)
      + ∑ k : Fin 256, vc (ix2 r k) * Ideal.exp2 (s (ix2 k j) - maxNew' s m (ix2 0 j)) := by
  unfold accNew'
  generalize maxNew' s m = m'
  pointwise
  rfl

/-! The closing combination: the two accumulators divided by their rows of ones, the second scaled by lambda and taken away. -/

abbrev lamRow (lp : FVec Ideal S4x64 .f32) : FVec Ideal S1x1 .f32 :=
  addf (subf
    (exp (shapeCast S1x1 (multiReduction .add [1] S1 (mulf (extractStridedSlice S1x64 ![0, 0] lp slices_S4x64_o0_0_S1x64)
      (extractStridedSlice S1x64 ![1, 0] lp slices_S4x64_o1_0_S1x64)) 0x00000000#32 reduces_S1x64_S1 (.inl rfl) rfl) shapeCasts_S1_S1x1))
    (exp (shapeCast S1x1 (multiReduction .add [1] S1 (mulf (extractStridedSlice S1x64 ![2, 0] lp slices_S4x64_o2_0_S1x64)
      (extractStridedSlice S1x64 ![3, 0] lp slices_S4x64_o3_0_S1x64)) 0x00000000#32 reduces_S1x64_S1 (.inl rfl) rfl) shapeCasts_S1_S1x1)))
    (broadcast S1x1 (Scalar.ofBits .f32 0x3E4CCCCD#32))

abbrev combine (a1 a2 : FVec Ideal S144x256 .f32) (lam : FVec Ideal S1x1 .f32) : FVec Ideal S128x256 .f32 :=
  subf
    (mulf (extractStridedSlice S128x256 ![0, 0] a1 slices_S144x256_o0_0_S128x256)
      (broadcastTo S128x256 (divf (broadcast S1x256 (Scalar.ofBits .f32 0x3F800000#32))
        (extractStridedSlice S1x256 ![128, 0] a1 slices_S144x256_o128_0_S1x256)) broadcasts_S1x256_S128x256))
    (mulf (extractStridedSlice S128x256 ![0, 0] a2 slices_S144x256_o0_0_S128x256)
      (broadcastTo S128x256 (divf (broadcastTo S1x256 lam broadcasts_S1x1_S1x256)
        (extractStridedSlice S1x256 ![128, 0] a2 slices_S144x256_o128_0_S1x256)) broadcasts_S1x256_S128x256))

abbrev meanSq (o : FVec Ideal S128x256 .f32) : FVec Ideal S1x256 .f32 :=
  divf (shapeCast S1x256 (multiReduction .add [0] S256 (mulf o o) 0x00000000#32 reduces_S128x256_S256 (.inl rfl) rfl) shapeCasts_S256_S1x256)
    (broadcast S1x256 (Scalar.ofBits .f32 0x43000000#32))

def finish (o : FVec Ideal S128x256 .f32) (g : FVec Ideal S128x1 .f32) : FVec Ideal S256x128 .bf16 :=
  k0_pay1 o (meanSq o) (Scalar.ofBits .f32 0x358637BD#32) g

theorem lamRow_apply (lp : FVec Ideal S4x64 .f32) :
    lamRow lp (ix2 0 0) = Ideal.exp (∑ d : Fin 64, lp (ix2 0 d) * lp (ix2 1 d)) - Ideal.exp (∑ d : Fin 64, lp (ix2 2 d) * lp (ix2 3 d))
      + Ideal.ofBits .f32 0x3E4CCCCD#32 := by
  pointwise

theorem oneBits : Ideal.ofBits .f32 0x3F800000#32 = (1 : EReal) := by
  simp [Ideal.ofBits, Ideal.ieee]
  rw [← EReal.coe_mul]
  norm_num

theorem combine_apply (a1 a2 : FVec Ideal S144x256 .f32) (lam : FVec Ideal S1x1 .f32) (e : Fin 128) (j : Fin 256) :
    combine a1 a2 lam (ix2 e j) = a1 (ix2 ⟨e.val, by omega⟩ j) * Ideal.div 1 (a1 (ix2 128 j))
      - a2 (ix2 ⟨e.val, by omega⟩ j) * Ideal.div (lam (ix2 0 0)) (a2 (ix2 128 j)) := by
  rw [← oneBits]
  pointwise

theorem finish_apply (o : FVec Ideal S128x256 .f32) (g : FVec Ideal S128x1 .f32) (i : Fin 256) (e : Fin 128) :
    finish o g (ix2 i e) = o (ix2 e i) * Ideal.rsqrt (Ideal.div (∑ f : Fin 128, o (ix2 f i) * o (ix2 f i)) (Ideal.ofBits .f32 0x43000000#32)
      + Ideal.ofBits .f32 0x358637BD#32) * (g (ix2 e 0) * Ideal.ofBits .f32 0x3F4CCCCD#32) := by
  unfold finish
  pointwise [k0_pay1]

theorem first_max (j : Fin 256) : k0_pay11 (F := Ideal) (ix2 0 j) = ⊥ := by
  rw [← negInf]
  pointwise [k0_pay11]

theorem first_acc (r : Fin 144) (j : Fin 256) : k0_pay12 (F := Ideal) (ix2 r j) = 0 := by
  pointwise [k0_pay12]

end Cert.Proof.Attn

end
-- ==== Proof.Attn.Body.lean ====
/-
  The kernel's body as one function of the keys and values it keeps (`K`, `VT`) and its windows: nine chunks of keys for each of
  the two maps, then the closing combination. What each kind of grid point writes is this function (`out_first`, `out_rest`), and what
  the first point of a row keeps is `keysOf`, `valuesOf`.
-/
module

public import proofs.«01_k».proof.Proof.Gen.KernelIdeal.Frame
public import proofs.«01_k».proof.Proof.Attn.Steps
public import Idealize.ShloMosaic.Lib.Pipeline.ReadBack
public import Idealize.ShloMosaic.Lib.Pipeline.ValueKit

@[expose] public section

set_option maxRecDepth 65536

noncomputable section

namespace Cert.Proof.Attn

open Idealize.ShloMosaic Cert.KernelIdeal Cert.KernelIdeal.Gen Idealize.ShloMosaic.Pointwise Idealize.ShloMosaic.TcCoe
open Idealize.ShloMosaic.Pipeline (Dat)

/-- The `n`-th 512 keys. -/
def keyChunk (K : Vec Ideal S4352x128 .bf16) : ℕ → FVec Ideal S512x128 .bf16
  | 0 => View.ld K (Rect.unit ![0, 0] ![512, 128] inb_S4352x128_S512x128_0_0)
  | 1 => View.ld K (Rect.unit ![512, 0] ![512, 128] inb_S4352x128_S512x128_512_0)
  | 2 => View.ld K (Rect.unit ![1024, 0] ![512, 128] inb_S4352x128_S512x128_1024_0)
  | 3 => View.ld K (Rect.unit ![1536, 0] ![512, 128] inb_S4352x128_S512x128_1536_0)
  | 4 => View.ld K (Rect.unit ![2048, 0] ![512, 128] inb_S4352x128_S512x128_2048_0)
  | 5 => View.ld K (Rect.unit ![2560, 0] ![512, 128] inb_S4352x128_S512x128_2560_0)
  | 6 => View.ld K (Rect.unit ![3072, 0] ![512, 128] inb_S4352x128_S512x128_3072_0)
  | _ => View.ld K (Rect.unit ![3584, 0] ![512, 128] inb_S4352x128_S512x128_3584_0)

/-- The `n`-th 512 columns of values. -/
def valChunk (VT : Vec Ideal S144x4352 .bf16) : ℕ → FVec Ideal S144x512 .bf16
  | 0 => View.ld VT (Rect.unit ![0, 0] ![144, 512] inb_S144x4352_S144x512_0_0)
  | 1 => View.ld VT (Rect.unit ![0, 512] ![144, 512] inb_S144x4352_S144x512_0_512)
  | 2 => View.ld VT (Rect.unit ![0, 1024] ![144, 512] inb_S144x4352_S144x512_0_1024)
  | 3 => View.ld VT (Rect.unit ![0, 1536] ![144, 512] inb_S144x4352_S144x512_0_1536)
  | 4 => View.ld VT (Rect.unit ![0, 2048] ![144, 512] inb_S144x4352_S144x512_0_2048)
  | 5 => View.ld VT (Rect.unit ![0, 2560] ![144, 512] inb_S144x4352_S144x512_0_2560)
  | 6 => View.ld VT (Rect.unit ![0, 3072] ![144, 512] inb_S144x4352_S144x512_0_3072)
  | _ => View.ld VT (Rect.unit ![0, 3584] ![144, 512] inb_S144x4352_S144x512_0_3584)

def keyLast (K : Vec Ideal S4352x128 .bf16) : FVec Ideal S256x128 .bf16 :=
  View.ld K (Rect.unit ![4096, 0] ![256, 128] inb_S4352x128_S256x128_4096_0)

def valLast (VT : Vec Ideal S144x4352 .bf16) : FVec Ideal S144x256 .bf16 :=
  View.ld VT (Rect.unit ![0, 4096] ![144, 256] inb_S144x4352_S144x256_0_4096)

/-- The running maximum after `n` chunks. -/
def runMax (K : Vec Ideal S4352x128 .bf16) (q : FVec Ideal S128x256 .bf16) : ℕ → FVec Ideal S1x256 .f32
  | 0 => k0_pay11
  | n + 1 => maxNew (scores (keyChunk K n) q) (runMax K q n)

/-- The running accumulator after `n` chunks. -/
def runAcc (K : Vec Ideal S4352x128 .bf16) (VT : Vec Ideal S144x4352 .bf16) (q : FVec Ideal S128x256 .bf16) : ℕ → FVec Ideal S144x256 .f32
  | 0 => k0_pay12
  | n + 1 => accNew (scores (keyChunk K n) q) (valChunk VT n) (runMax K q n) (runAcc K VT q n)

/-- The accumulator after the last, shorter chunk. -/
def accEnd (K : Vec Ideal S4352x128 .bf16) (VT : Vec Ideal S144x4352 .bf16) (q : FVec Ideal S128x256 .bf16) : FVec Ideal S144x256 .f32 :=
  accNew' (scores' (keyLast K) q) (valLast VT) (runMax K q 8) (runAcc K VT q 8)

def query1 (qt : FVec Ideal S128x256 .f32) : FVec Ideal S128x256 .bf16 :=
  k0_pay9 qt (iota .tc S128x256 32 [0] iota_S128x256_d0_w32) 64#32

def query2 (qt : FVec Ideal S128x256 .f32) : FVec Ideal S128x256 .bf16 :=
  k0_pay10 qt (iota .tc S128x256 32 [0] iota_S128x256_d0_w32)

/-- One block of the output. -/
def block (K : Vec Ideal S4352x128 .bf16) (VT : Vec Ideal S144x4352 .bf16) (lp : Vec Ideal S4x64 .f32) (g : Vec Ideal S128x1 .f32)
    (qt : FVec Ideal S128x256 .f32) : FVec Ideal S256x128 .bf16 :=
  finish (combine (accEnd K VT (query1 qt)) (accEnd K VT (query2 qt)) (lamRow lp)) g

def keysOf (k : Vec Ideal S4096x128 .f32) (ck : Vec Ideal S1x256x128 .f32) (cs sn : Vec Ideal S4096x128 .f32) : Vec Ideal S4352x128 .bf16 :=
  View.canon [⟨Rect.unit ![4096, 0] ![256, 128] inb_S4352x128_S256x128_4096_0, k0_pay5 ck⟩,
    ⟨Rect.unit ![0, 0] ![4096, 128] inb_S4352x128_S4096x128_0_0, k0_pay2 k cs sn⟩]

def valuesOf (v : Vec Ideal S4096x128 .f32) (cv : Vec Ideal S1x256x128 .f32) : Vec Ideal S144x4352 .bf16 :=
  View.canon [⟨Rect.unit ![128, 0] ![16, 4352] inb_S144x4352_S16x4352_128_0, k0_pay7 (F := Ideal)⟩,
    ⟨Rect.unit ![0, 4096] ![128, 256] inb_S144x4352_S128x256_0_4096, k0_pay6 cv⟩,
    ⟨Rect.unit ![0, 0] ![128, 4096] inb_S144x4352_S128x4096_0_0, k0_pay4 (k0_pay3 v)⟩]

variable (m : (ℓ : Loc nD τ sig) → Buf (Elt Ideal) ℓ)

theorem out_rest (c : Dev nD) (t : Fin cfg0.N) (h0 : ¬ t.val % 16 = 0) :
    (outsAt0 m c t.val t.isLt).1 = block (outsAt0 m c (t.val - 1) (by omega)).2.1 (outsAt0 m c (t.val - 1) (by omega)).2.2
      (iblk m c 0 t) (iblk m c 1 t) (k0_pay8 (iblk m c 2 t) (iblk m c 9 t) (iblk m c 10 t)) := by
  rw [outsAt0_B m c t h0]
  dsimp only
  frame_out
  simp only [read_unread_whole]
  rfl

theorem keys_first (c : Dev nD) (t : Fin cfg0.N) (h0 : t.val % 16 = 0) :
    (outsAt0 m c t.val t.isLt).2.1 = keysOf (iblk m c 3 t) (iblk m c 5 t) (iblk m c 7 t) (iblk m c 8 t) := by
  rw [outsAt0_A m c t h0]
  dsimp only
  frame_out
  rfl

theorem values_first (c : Dev nD) (t : Fin cfg0.N) (h0 : t.val % 16 = 0) :
    (outsAt0 m c t.val t.isLt).2.2 = valuesOf (iblk m c 4 t) (iblk m c 6 t) := by
  rw [outsAt0_A m c t h0]
  dsimp only
  frame_out
  rfl

theorem keys_rest (c : Dev nD) (t : Fin cfg0.N) (h0 : ¬ t.val % 16 = 0) :
    (outsAt0 m c t.val t.isLt).2.1 = (outsAt0 m c (t.val - 1) (by omega)).2.1 := by
  rw [outsAt0_B m c t h0]
  rfl

theorem values_rest (c : Dev nD) (t : Fin cfg0.N) (h0 : ¬ t.val % 16 = 0) :
    (outsAt0 m c t.val t.isLt).2.2 = (outsAt0 m c (t.val - 1) (by omega)).2.2 := by
  rw [outsAt0_B m c t h0]
  rfl

theorem readCov_rect {sig : RefSig} {κ : Kind} {sp : Space} {s : Shape} {e : EltTy} {Val : EltTy → Type} [∀ e, Nonempty (Val e)]
    (v : View sig κ sp s e) (L : List (View.Piece Val s e)) (r : Rect s) :
    v.readCov L r.toLoadRect = View.ld (View.canon L) r := by
  rw [View.readCov_eq_canon']

set_option maxHeartbeats 1000000 in
theorem out_first (c : Dev nD) (t : Fin cfg0.N) (h0 : t.val % 16 = 0) :
    (outsAt0 m c t.val t.isLt).1 = block (outsAt0 m c t.val t.isLt).2.1 (outsAt0 m c t.val t.isLt).2.2
      (iblk m c 0 t) (iblk m c 1 t) (k0_pay8 (iblk m c 2 t) (iblk m c 9 t) (iblk m c 10 t)) := by
  rw [keys_first m c t h0, values_first m c t h0, outsAt0_A m c t h0]
  dsimp only
  generalize hK' : keysOf (iblk m c 3 t) (iblk m c 5 t) (iblk m c 7 t) (iblk m c 8 t) = K'
  generalize hV' : valuesOf (iblk m c 4 t) (iblk m c 6 t) = V'
  frame_open
  simp only [readCov_rect]
  generalize hK : View.canon (s := S4352x128) (e := .bf16) (Val := Elt Ideal) _ = K
  generalize hV : View.canon (s := S144x4352) (e := .bf16) (Val := Elt Ideal) _ = V
  have eK : K = K' := by
    refine hK.symm.trans (Eq.trans ?_ hK')
    clear hK hV hK' hV'
    frame_out
    rfl
  have eV : V = V' := by
    refine hV.symm.trans (Eq.trans ?_ hV')
    clear hK hV hK' hV'
    frame_out
    rfl
  clear hK hK' hV hV'
  subst eK eV
  frame_out
  rfl

end Cert.Proof.Attn

end
-- ==== Proof.Attn.Spec.lean ====
module

public import Idealize.ShloMosaic.PureOps.Ideal.Laws
public import Idealize.ShloMosaic.Lib.IdealHost
public import Idealize.ShloMosaic.Lib.Pointwise
public import proofs.«01_k».proof.Proof.Attn.Running

@[expose] public section

noncomputable section

namespace Cert.Proof.Attn

open Idealize.ShloMosaic Idealize.ShloMosaic.Pointwise

/-- The rotary frequency of slot `i`. -/
def freq (i : ℕ) : ℝ := 1 / (10000 : ℝ) ^ ((i : ℝ) / 16)

/-- The rotation angle of lane `l` at token `p`: the row of the token on the even groups of 32 lanes, its column on the odd ones. -/
def ang (p l : ℕ) : ℝ := (if l / 32 % 2 = 0 then ((p / 64 : ℕ) : ℝ) else ((p % 64 : ℕ) : ℝ)) * freq (l % 16)

/-- Lane `l` of a head's vector turned by the angles of token `p`. -/
def turn (x : ℕ → ℝ) (p l : ℕ) : ℝ :=
  x l * Real.cos (ang p l) + (if l % 32 < 16 then -(x (l + 16) * Real.sin (ang p l)) else x (l - 16) * Real.sin (ang p l))

theorem bits_16 : Ideal.ofBits .f32 1098907648#32 = ((16 : ℝ) : EReal) := by
  simp [Ideal.ofBits, Ideal.ieee, -EReal.coe_mul]; norm_num
theorem bits_10000 : Ideal.ofBits .f32 1176256512#32 = ((10000 : ℝ) : EReal) := by
  simp [Ideal.ofBits, Ideal.ieee, -EReal.coe_mul]; norm_num
theorem bits_eighth : Ideal.ofBits .f32 0x3E000000#32 = ((1/8 : ℝ) : EReal) := by
  simp [Ideal.ofBits, Ideal.ieee, -EReal.coe_mul]; norm_num
theorem bits_neg_one : Ideal.ofBits .f32 3212836864#32 = ((-1 : ℝ) : EReal) := by
  simp [Ideal.ofBits, Ideal.ieee, -EReal.coe_mul, -EReal.coe_neg]; norm_num
/-- The constant that starts the mixing weight. -/
def lamInit : ℝ := (Ideal.ofBits .f32 0x3E4CCCCD#32).toReal
theorem bits_lamInit : Ideal.ofBits .f32 0x3E4CCCCD#32 = (lamInit : EReal) := by
  unfold lamInit
  refine (EReal.coe_toReal ?_ ?_).symm <;> simp [Ideal.ofBits, Ideal.ieee, -EReal.coe_mul]

/-- A word counting up to `n` as a real. -/
theorem word_real (n : ℕ) (h : n < 4096) : (FloatOps.sitofp .f32 (BitVec.ofNat 32 n) : Ideal .f32) = ((n : ℝ) : EReal) := by
  have : (BitVec.ofNat 32 n).toInt = (n : ℤ) := by
    rw [BitVec.toInt_eq_toNat_cond]
    simp only [BitVec.toNat_ofNat]
    omega
  show (((BitVec.ofNat 32 n).toInt : ℝ) : EReal) = _
  rw [this]; simp

theorem freq_real (i : ℕ) (h : i < 16) :
    Ideal.div (1 : EReal) (Ideal.pow (Ideal.ofBits .f32 1176256512#32) (Ideal.div (FloatOps.sitofp .f32 (BitVec.ofNat 32 i) : Ideal .f32) (Ideal.ofBits .f32 1098907648#32)))
      = ((freq i : ℝ) : EReal) := by
  rw [word_real i (by omega), bits_16, bits_10000, Ideal.div_coe (by norm_num), ← EReal.coe_mul, Ideal.pow_coe_coe,
    Ideal.div_coe (y := Real.rpow 10000 ((i : ℝ) * (1 / 16))) (Real.rpow_pos_of_pos (by norm_num) _).ne', one_mul]
  unfold freq
  rw [show (i : ℝ) * (1 / 16) = (i : ℝ) / 16 by ring]
  rfl

/-- The score of key `k` under the `i`-th of the two maps. -/
def score (Q : ℕ → ℝ) (K : ℕ → ℕ → ℝ) (i k : ℕ) : ℝ := (∑ d ∈ Finset.range 64, Q (i * 64 + d) * K k (i * 64 + d)) * (1 / 8)

/-- The values mixed by the difference of the two maps' weights. -/
def mixed (Q : ℕ → ℝ) (K V : ℕ → ℕ → ℝ) (lam : ℝ) (e : ℕ) : ℝ :=
  ∑ k ∈ Finset.range 4352, V k e * (weight (score Q K 0) 4352 k - lam * weight (score Q K 1) 4352 k)

/-- The closing norm of a head's vector `o`, at lane `e`. -/
def closed (o : ℕ → ℝ) (g : EReal) (e : ℕ) : EReal :=
  (o e : EReal) * Ideal.rsqrt (Ideal.div (∑ f : Fin 128, (o f : EReal) * (o f : EReal)) (Ideal.ofBits .f32 0x43000000#32)
    + Ideal.ofBits .f32 0x358637BD#32) * (g * Ideal.ofBits .f32 0x3F4CCCCD#32)

/-- The mixing weight of the second map. -/
def lamOf (lp : ℕ → ℕ → ℝ) : ℝ :=
  Real.exp (∑ d ∈ Finset.range 64, lp 0 d * lp 1 d) - Real.exp (∑ d ∈ Finset.range 64, lp 2 d * lp 3 d) + lamInit

theorem mixed_split (Q : ℕ → ℝ) (K V : ℕ → ℕ → ℝ) (lam : ℝ) (e : ℕ) :
    (1 * ∑ k ∈ Finset.range 4352, V k e * weight (score Q K 0) 4352 k) - lam * ∑ k ∈ Finset.range 4352, V k e * weight (score Q K 1) 4352 k
      = mixed Q K V lam e := by
  unfold mixed
  rw [one_mul, Finset.mul_sum, ← Finset.sum_sub_distrib]
  exact Finset.sum_congr rfl fun k _ => by ring

theorem sum_low (f : ℕ → ℝ) (g : ℕ → ℝ) (h1 : ∀ d < 64, f d = g d) (h2 : ∀ d, 64 ≤ d → f d = 0) :
    ∑ d ∈ Finset.range 128, f d = ∑ d ∈ Finset.range 64, g d := by
  rw [show (128 : ℕ) = 64 + 64 from rfl, Finset.sum_range_add, Finset.sum_congr rfl fun d hd => h1 d (Finset.mem_range.mp hd),
    Finset.sum_eq_zero (s := Finset.range 64) (f := fun x => f (64 + x)) fun d _ => h2 _ (by omega), add_zero]

theorem sum_high (f : ℕ → ℝ) (g : ℕ → ℝ) (h1 : ∀ d < 64, f d = 0) (h2 : ∀ d < 64, f (64 + d) = g d) :
    ∑ d ∈ Finset.range 128, f d = ∑ d ∈ Finset.range 64, g d := by
  rw [show (128 : ℕ) = 64 + 64 from rfl, Finset.sum_range_add, Finset.sum_eq_zero fun d hd => h1 d (Finset.mem_range.mp hd),
    Finset.sum_congr rfl fun d hd => h2 d (Finset.mem_range.mp hd), zero_add]

/-- The kernel's scores at base two of the lower half, brought back to base e. -/
theorem score_low (Q : ℕ → ℝ) (K : ℕ → ℕ → ℝ) (k : ℕ) :
    (∑ d ∈ Finset.range 128, K k d * (if d < 64 then Q d * ((1 / 8) * (Real.log 2)⁻¹) else 0)) * Real.log 2 = score Q K 0 k := by
  have hl : Real.log 2 ≠ 0 := (Real.log_pos (by norm_num)).ne'
  rw [sum_low _ (fun d => (Q d * K k d) * ((1 / 8) * (Real.log 2)⁻¹)) (fun d hd => by simp only [hd, if_true]; ring)
    (fun d hd => by simp only [not_lt.mpr hd, if_false, mul_zero]), ← Finset.sum_mul, score]
  simp only [Nat.zero_mul, Nat.zero_add]
  field_simp

theorem score_high (Q : ℕ → ℝ) (K : ℕ → ℕ → ℝ) (k : ℕ) :
    (∑ d ∈ Finset.range 128, K k d * (if d < 64 then 0 else Q d * ((1 / 8) * (Real.log 2)⁻¹))) * Real.log 2 = score Q K 1 k := by
  have hl : Real.log 2 ≠ 0 := (Real.log_pos (by norm_num)).ne'
  rw [sum_high _ (fun d => (Q (64 + d) * K k (64 + d)) * ((1 / 8) * (Real.log 2)⁻¹)) (fun d hd => by simp only [hd, if_true, mul_zero])
    (fun d hd => by simp only [show ¬ 64 + d < 64 by omega, if_false]; ring), ← Finset.sum_mul, score]
  simp only [Nat.one_mul]
  field_simp

theorem turn_shift (f : ℕ → ℝ) (p i l : ℕ) : turn (fun l => f (i * 64 + l)) p l = turn f p (i * 64 + l) := by
  have ha : ang p l = ang p (i * 64 + l) := by
    unfold ang
    rw [show (i * 64 + l) / 32 % 2 = l / 32 % 2 by omega, show (i * 64 + l) % 16 = l % 16 by omega]
  unfold turn
  rw [ha, show (i * 64 + l) % 32 = l % 32 by omega]
  split_ifs with h
  · rw [Nat.add_assoc]
  · rw [Nat.add_sub_assoc (by omega)]

/-- The projected queries, keys and values as reals. -/
def rowsOf (x : (⟨2, ![20480, 3072]⟩ : Shape).Idx → EReal) (r c : ℕ) : ℝ :=
  if h : r < 20480 ∧ c < 3072 then (x (ix2 ⟨r, h.1⟩ ⟨c, h.2⟩)).toReal else 0

/-- Cached keys or values as reals. -/
def cacheOf (x : (⟨4, ![4, 256, 8, 128]⟩ : Shape).Idx → EReal) (b k h l : ℕ) : ℝ :=
  if H : (b < 4 ∧ k < 256) ∧ h < 8 ∧ l < 128 then (x (ix4 ⟨b, H.1.1⟩ ⟨k, H.1.2⟩ ⟨h, H.2.1⟩ ⟨l, H.2.2⟩)).toReal else 0

/-- The vectors of the mixing weight as reals. -/
def lamsOf (x : (⟨2, ![4, 64]⟩ : Shape).Idx → EReal) (i d : ℕ) : ℝ :=
  if h : i < 4 ∧ d < 64 then (x (ix2 ⟨i, h.1⟩ ⟨d, h.2⟩)).toReal else 0

/-- What the claim asks of its arguments: the latent rows, the mixing weight's vectors and the two caches hold reals. -/
structure Reals (x : (⟨2, ![20480, 3072]⟩ : Shape).Idx → EReal) (lp : (⟨2, ![4, 64]⟩ : Shape).Idx → EReal)
    (ck cv : (⟨4, ![4, 256, 8, 128]⟩ : Shape).Idx → EReal) : Prop where
  rows : ∀ (r : Fin 20480) (c : Fin 3072), 4096 ≤ r.val → x (ix2 r c) = ((rowsOf x r c : ℝ) : EReal)
  lams : ∀ (i : Fin 4) (d : Fin 64), lp (ix2 i d) = ((lamsOf lp i d : ℝ) : EReal)
  keys : ∀ (b : Fin 4) (k : Fin 256) (h : Fin 8) (l : Fin 128), ck (ix4 b k h l) = ((cacheOf ck b k h l : ℝ) : EReal)
  values : ∀ (b : Fin 4) (k : Fin 256) (h : Fin 8) (l : Fin 128), cv (ix4 b k h l) = ((cacheOf cv b k h l : ℝ) : EReal)

/-- The turned query of batch `b`, head `h`, token `p`. -/
def queryAt (x : (⟨2, ![20480, 3072]⟩ : Shape).Idx → EReal) (b h p d : ℕ) : ℝ :=
  turn (fun l => rowsOf x (4096 + (b * 4096 + p)) (h * 128 + l)) p d

/-- The keys of batch `b`, head `h`: its own, turned, then the cached ones. -/
def keyAt (x : (⟨2, ![20480, 3072]⟩ : Shape).Idx → EReal) (ck : (⟨4, ![4, 256, 8, 128]⟩ : Shape).Idx → EReal) (b h k d : ℕ) : ℝ :=
  if k < 4096 then turn (fun l => rowsOf x (4096 + (b * 4096 + k)) (1024 + (h * 128 + l))) k d else cacheOf ck b (k - 4096) h d

/-- The values of batch `b`, head `h`: its own, then the cached ones. -/
def valueAt (x : (⟨2, ![20480, 3072]⟩ : Shape).Idx → EReal) (cv : (⟨4, ![4, 256, 8, 128]⟩ : Shape).Idx → EReal) (b h k e : ℕ) : ℝ :=
  if k < 4096 then rowsOf x (4096 + (b * 4096 + k)) (2048 + (h * 128 + e)) else cacheOf cv b (k - 4096) h e

/-- The attention of batch `b`, head `h`, token `p` at lane `e`. -/
def attended (x : (⟨2, ![20480, 3072]⟩ : Shape).Idx → EReal) (lp : (⟨2, ![4, 64]⟩ : Shape).Idx → EReal)
    (ck cv : (⟨4, ![4, 256, 8, 128]⟩ : Shape).Idx → EReal) (b h p e : ℕ) : ℝ :=
  mixed (queryAt x b h p) (keyAt x ck b h) (valueAt x cv b h) (lamOf (lamsOf lp)) e

/-- The mixing weight from the real vectors. -/
theorem lam_real (x : (⟨2, ![4, 64]⟩ : Shape).Idx → EReal) (h : ∀ (i : Fin 4) (d : Fin 64), x (ix2 i d) = ((lamsOf x i d : ℝ) : EReal)) :
    Ideal.exp (∑ d : Fin 64, x (ix2 0 d) * x (ix2 1 d)) - Ideal.exp (∑ d : Fin 64, x (ix2 2 d) * x (ix2 3 d))
      + Ideal.ofBits .f32 0x3E4CCCCD#32 = ((lamOf (lamsOf x) : ℝ) : EReal) := by
  have e : ∀ i j : Fin 4, ∑ d : Fin 64, x (ix2 i d) * x (ix2 j d) = ((∑ d ∈ Finset.range 64, lamsOf x i d * lamsOf x j d : ℝ) : EReal) := by
    intro i j
    rw [Finset.sum_range fun d => lamsOf x i d * lamsOf x j d, coe_sum]
    exact Finset.sum_congr rfl fun d _ => by rw [h, h, EReal.coe_mul]
  rw [e, e, Ideal.exp_coe, Ideal.exp_coe, bits_lamInit, ← EReal.coe_sub, ← EReal.coe_add]
  rfl

end Cert.Proof.Attn

end
-- ==== Proof.Attn.Fields.lean ====
/-
  The pieces of the kernel's body at an index: the rotation, the two masked halves of a query, what the kept keys and values hold, and
  the chunks read back from them.
-/
module

public import proofs.«01_k».proof.Proof.Attn.Body
public import proofs.«01_k».proof.Proof.Attn.Spec

@[expose] public section

set_option maxRecDepth 65536

noncomputable section

namespace Cert.Proof.Attn

open Idealize.ShloMosaic Cert.KernelIdeal Cert.KernelIdeal.Gen Idealize.ShloMosaic.Pointwise Idealize.ShloMosaic.TcCoe
open Idealize.ShloMosaic.Pipeline (Dat)

/-- The lane whose value lane `l` is paired with. -/
def partner (l : Fin 128) : Fin 128 := if l.val % 32 < 16 then ⟨(l.val + 128 - 112) % 128, by omega⟩ else ⟨(l.val + 128 - 16) % 128, by omega⟩

theorem pay2_apply (k cs sn : Vec Ideal S4096x128 .f32) (p : Fin 4096) (l : Fin 128) :
    (k0_pay2 k cs sn) (ix2 p l) = k (ix2 p l) * cs (ix2 p l) + k (ix2 p (partner l)) * sn (ix2 p l) := by
  pointwise [k0_pay2]
  generalize hb : IntOp.cmpi .slt (Scalar.select _ _ _) 16#32 = b
  have hb' : b = if l.val % 32 < 16 then 1#1 else 0#1 := by
    subst hb
    revert l
    decide +kernel
  subst hb'
  clear hb
  by_cases h : l.val % 32 < 16 <;> simp [h, partner, Scalar.select]

theorem named_scale : (Named.named κ "qk_scale" 0x3E38AA3B#32 : Ideal .f32) = (((1/8) * (Real.log 2)⁻¹ : ℝ) : EReal) := by
  rfl

theorem pay8_apply (q cs sn : Vec Ideal S256x128 .f32) (p : Fin 256) (l : Fin 128) :
    (k0_pay8 q cs sn) (ix2 l p) = (q (ix2 p l) * cs (ix2 p l) + q (ix2 p (partner l)) * sn (ix2 p l)) * (((1/8) * (Real.log 2)⁻¹ : ℝ) : EReal) := by
  pointwise [k0_pay8]
  rw [named_scale]
  generalize hb : IntOp.cmpi .slt (Scalar.select _ _ _) 16#32 = b
  have hb' : b = if l.val % 32 < 16 then 1#1 else 0#1 := by
    subst hb
    revert l
    decide +kernel
  subst hb'
  clear hb
  by_cases h : l.val % 32 < 16 <;> simp [h, partner, Scalar.select]

theorem pay9_apply (qt : FVec Ideal S128x256 .f32) (l : Fin 128) (p : Fin 256) :
    query1 qt (ix2 l p) = if l.val < 64 then qt (ix2 l p) else 0 := by
  pointwise [query1, k0_pay9]
  have hb : ∀ l : Fin 128, IntOp.cmpi .slt (BitVec.ofNat 32 ↑l) 64#32 = if l.val < 64 then 1#1 else 0#1 := by decide +kernel
  rw [hb]
  by_cases h : l.val < 64 <;> simp [h, Scalar.select]

theorem pay10_apply (qt : FVec Ideal S128x256 .f32) (l : Fin 128) (p : Fin 256) :
    query2 qt (ix2 l p) = if l.val < 64 then 0 else qt (ix2 l p) := by
  pointwise [query2, k0_pay10]
  have hb : ∀ l : Fin 128, IntOp.cmpi .sge (BitVec.ofNat 32 ↑l) 64#32 = if l.val < 64 then 0#1 else 1#1 := by decide +kernel
  rw [hb]
  by_cases h : l.val < 64 <;> simp [h, Scalar.select]

theorem pay5_apply (ck : Vec Ideal S1x256x128 .f32) (k : Fin 256) (l : Fin 128) : k0_pay5 ck (ix2 k l) = ck (ix3 0 k l) := by
  pointwise [k0_pay5]

theorem pay6_apply (ck : Vec Ideal S1x256x128 .f32) (k : Fin 256) (l : Fin 128) : k0_pay6 ck (ix2 l k) = ck (ix3 0 k l) := by
  pointwise [k0_pay6]

theorem pay4_apply (v : Vec Ideal S4096x128 .f32) (k : Fin 4096) (l : Fin 128) : k0_pay4 (k0_pay3 v) (ix2 l k) = v (ix2 k l) := by
  pointwise [k0_pay4, k0_pay3]

theorem pay7_apply (k : Fin 16) (l : Fin 4352) : k0_pay7 (F := Ideal) (ix2 k l) = (1 : EReal) := by
  pointwise [k0_pay7]

theorem keyChunk_apply (K : Vec Ideal S4352x128 .bf16) (n : ℕ) (hn : n < 8) (k : Fin 512) (l : Fin 128) :
    keyChunk K n (ix2 k l) = K (ix2 ⟨n * 512 + k.val, by omega⟩ l) := by
  interval_cases n <;>
  · refine (View.ld_apply ..).trans (congrArg K ?_)
    funext a; refine Fin.ext ?_
    match a with
    | ⟨0, _⟩ => simp [Rect.idx_unit_val]
    | ⟨1, _⟩ => simp [Rect.idx_unit_val]

theorem valChunk_apply (K : Vec Ideal S144x4352 .bf16) (n : ℕ) (hn : n < 8) (k : Fin 512) (r : Fin 144) :
    valChunk K n (ix2 r k) = K (ix2 r ⟨n * 512 + k.val, by omega⟩) := by
  interval_cases n <;>
  · refine (View.ld_apply ..).trans (congrArg K ?_)
    funext a; refine Fin.ext ?_
    match a with
    | ⟨0, _⟩ => simp [Rect.idx_unit_val]
    | ⟨1, _⟩ => simp [Rect.idx_unit_val]

theorem keyLast_apply (K : Vec Ideal S4352x128 .bf16) (k : Fin 256) (l : Fin 128) :
    keyLast K (ix2 k l) = K (ix2 ⟨4096 + k.val, by omega⟩ l) := by
  refine (View.ld_apply ..).trans (congrArg K ?_)
  funext a; refine Fin.ext ?_
  match a with
  | ⟨0, _⟩ => simp [Rect.idx_unit_val]
  | ⟨1, _⟩ => simp [Rect.idx_unit_val]

theorem valLast_apply (K : Vec Ideal S144x4352 .bf16) (k : Fin 256) (r : Fin 144) :
    valLast K (ix2 r k) = K (ix2 r ⟨4096 + k.val, by omega⟩) := by
  refine (View.ld_apply ..).trans (congrArg K ?_)
  funext a; refine Fin.ext ?_
  match a with
  | ⟨0, _⟩ => simp [Rect.idx_unit_val]
  | ⟨1, _⟩ => simp [Rect.idx_unit_val]

theorem mem_lit2 {A B : ℕ} (o1 o2 n1 n2 : ℕ) (inb : ∀ a, (![o1, o2] : Fin 2 → ℕ) a + (![n1, n2] : Fin 2 → ℕ) a ≤ (⟨2, ![A, B]⟩ : Shape).size a)
    (i : Fin A) (j : Fin B) : (ix2 i j : (⟨2, ![A, B]⟩ : Shape).Idx) ∈ (Rect.unit (s := ⟨2, ![A, B]⟩) ![o1, o2] ![n1, n2] inb).set
      ↔ (o1 ≤ i.val ∧ i.val < o1 + n1) ∧ (o2 ≤ j.val ∧ j.val < o2 + n2) := by
  rw [Rect.mem_set_unit]
  constructor
  · intro h; exact ⟨h 0, h 1⟩
  · rintro ⟨h0, h1⟩ a
    match a with
    | ⟨0, _⟩ => exact h0
    | ⟨1, _⟩ => exact h1

/-- A stored rectangle read inside itself. -/
theorem canon_here {A B : ℕ} (o1 o2 n1 n2 : ℕ) (inb : ∀ a, (![o1, o2] : Fin 2 → ℕ) a + (![n1, n2] : Fin 2 → ℕ) a ≤ (⟨2, ![A, B]⟩ : Shape).size a)
    {e : EltTy} (w : (⟨2, ![n1, n2]⟩ : Shape).Idx → Elt Ideal e) (L : List (View.Piece (Elt Ideal) ⟨2, ![A, B]⟩ e)) (i : Fin A) (j : Fin B)
    (x : Fin n1) (y : Fin n2) (hi : i.val = o1 + x.val) (hj : j.val = o2 + y.val) :
    View.canon ((⟨Rect.unit (s := ⟨2, ![A, B]⟩) ![o1, o2] ![n1, n2] inb, w⟩ : View.Piece (Elt Ideal) ⟨2, ![A, B]⟩ e) :: L) (ix2 i j) = w (ix2 x y) := by
  have he : (Rect.unit (s := ⟨2, ![A, B]⟩) ![o1, o2] ![n1, n2] inb).emb (ix2 x y : (⟨2, ![n1, n2]⟩ : Shape).Idx) = ix2 i j := by
    funext a; refine Fin.ext ?_
    match a with
    | ⟨0, _⟩ => show o1 + 1 * x.val = i.val; omega
    | ⟨1, _⟩ => show o2 + 1 * y.val = j.val; omega
  rw [← he, View.canon_cons_emb]

theorem keysOf_own (k : Vec Ideal S4096x128 .f32) (ck : Vec Ideal S1x256x128 .f32) (cs sn : Vec Ideal S4096x128 .f32) (i : Fin 4352) (l : Fin 128)
    (h : i.val < 4096) : keysOf k ck cs sn (ix2 i l) = k0_pay2 k cs sn (ix2 ⟨i.val, h⟩ l) := by
  rw [keysOf, View.canon_cons_of_not_mem _ _ (by rw [mem_lit2]; omega)]
  exact canon_here 0 0 4096 128 _ _ _ i l ⟨i.val, h⟩ l (by simp) (by simp)

theorem keysOf_cached (k : Vec Ideal S4096x128 .f32) (ck : Vec Ideal S1x256x128 .f32) (cs sn : Vec Ideal S4096x128 .f32) (i : Fin 4352) (l : Fin 128)
    (h : ¬ i.val < 4096) : keysOf k ck cs sn (ix2 i l) = k0_pay5 ck (ix2 ⟨i.val - 4096, by omega⟩ l) := by
  rw [keysOf]
  exact canon_here 4096 0 256 128 _ _ _ i l ⟨i.val - 4096, by omega⟩ l (by simp; omega) (by simp)

theorem valuesOf_ones (v : Vec Ideal S4096x128 .f32) (cv : Vec Ideal S1x256x128 .f32) (r : Fin 144) (i : Fin 4352) (h : ¬ r.val < 128) :
    valuesOf v cv (ix2 r i) = (1 : EReal) := by
  rw [valuesOf, canon_here 128 0 16 4352 _ _ _ r i ⟨r.val - 128, by omega⟩ i (by simp; omega) (by simp), pay7_apply]

theorem valuesOf_own (v : Vec Ideal S4096x128 .f32) (cv : Vec Ideal S1x256x128 .f32) (r : Fin 144) (i : Fin 4352) (h : r.val < 128)
    (hi : i.val < 4096) : valuesOf v cv (ix2 r i) = v (ix2 ⟨i.val, hi⟩ ⟨r.val, h⟩) := by
  rw [valuesOf, View.canon_cons_of_not_mem _ _ (by rw [mem_lit2]; omega), View.canon_cons_of_not_mem _ _ (by rw [mem_lit2]; omega),
    canon_here 0 0 128 4096 _ _ _ r i ⟨r.val, h⟩ ⟨i.val, hi⟩ (by simp) (by simp), pay4_apply]

theorem valuesOf_cached (v : Vec Ideal S4096x128 .f32) (cv : Vec Ideal S1x256x128 .f32) (r : Fin 144) (i : Fin 4352) (h : r.val < 128)
    (hi : ¬ i.val < 4096) : valuesOf v cv (ix2 r i) = cv (ix3 0 ⟨i.val - 4096, by omega⟩ ⟨r.val, h⟩) := by
  rw [valuesOf, View.canon_cons_of_not_mem _ _ (by rw [mem_lit2]; omega),
    canon_here 0 4096 128 256 _ _ _ r i ⟨r.val, h⟩ ⟨i.val - 4096, by omega⟩ (by simp) (by simp; omega), pay6_apply]

end Cert.Proof.Attn

end
-- ==== Proof.Attn.Blocks.lean ====
/-
  One block of the output, from the reals that the kept keys and values, the turned queries and the mixing weight hold.
-/
module

public import proofs.«01_k».proof.Proof.Attn.Fields

@[expose] public section

set_option maxRecDepth 65536

noncomputable section

namespace Cert.Proof.Attn

open Idealize.ShloMosaic Cert.KernelIdeal Cert.KernelIdeal.Gen Idealize.ShloMosaic.Pointwise Idealize.ShloMosaic.TcCoe
open Idealize.ShloMosaic.Pipeline (Dat)

variable (K : Vec Ideal S4352x128 .bf16) (VT : Vec Ideal S144x4352 .bf16) (Kr : ℕ → ℕ → ℝ) (Vr : Fin 144 → ℕ → ℝ)
  (hK : ∀ (i : Fin 4352) (l : Fin 128), K (ix2 i l) = ((Kr i l : ℝ) : EReal))
  (hV : ∀ (r : Fin 144) (i : Fin 4352), VT (ix2 r i) = ((Vr r i : ℝ) : EReal))
  (q : FVec Ideal S128x256 .bf16) (j : Fin 256) (qr : ℕ → ℝ) (hq : ∀ l : Fin 128, q (ix2 l j) = ((qr l : ℝ) : EReal))

/-- The scores at base two. -/
def scoreTwo (Kr : ℕ → ℕ → ℝ) (qr : ℕ → ℝ) (k : ℕ) : ℝ := ∑ d ∈ Finset.range 128, Kr k d * qr d

theorem dot_real (f g : Fin 128 → EReal) (fr gr : ℕ → ℝ) (hf : ∀ d, f d = ((fr d : ℝ) : EReal)) (hg : ∀ d, g d = ((gr d : ℝ) : EReal)) :
    ∑ d, f d * g d = ((∑ d ∈ Finset.range 128, fr d * gr d : ℝ) : EReal) := by
  rw [Finset.sum_range fun d => fr d * gr d, coe_sum]
  exact Finset.sum_congr rfl fun d _ => by rw [hf, hg, EReal.coe_mul]

include hK hV hq in
theorem run_seen (n : ℕ) (hn : n ≤ 8) :
    Seen (scoreTwo Kr qr) Vr (n * 512) (runMax K q n (ix2 0 j)) (fun r => runAcc K VT q n (ix2 r j)) := by
  induction n with
  | zero =>
    have h : (fun r : Fin 144 => runAcc K VT q 0 (ix2 r j)) = fun _ => (0 : EReal) := funext fun r => first_acc r j
    rw [h, show runMax K q 0 (ix2 0 j) = ⊥ from first_max j, Nat.zero_mul]
    exact Seen.zero _ _
  | succ n ih =>
    rw [Nat.succ_mul]
    refine Seen.step (ih (by omega)) (T := 512) (by norm_num) (fun k => scores (keyChunk K n) q (ix2 k j)) ?_
      (fun r k => valChunk VT n (ix2 r k)) ?_ _ (maxNew_apply _ _ j) _ (fun r => accNew_apply _ _ _ _ r j)
    · intro k
      show scores (keyChunk K n) q (ix2 k j) = _
      rw [scores_apply]
      exact dot_real _ _ (fun d => Kr (n * 512 + k.val) d) qr (fun d => by rw [keyChunk_apply K n (by omega), hK]) hq
    · intro r k
      show valChunk VT n (ix2 r k) = _
      rw [valChunk_apply VT n (by omega), hV]

include hK hV hq in
theorem end_seen : Seen (scoreTwo Kr qr) Vr 4352 (maxNew' (scores' (keyLast K) q) (runMax K q 8) (ix2 0 j)) (fun r => accEnd K VT q (ix2 r j)) := by
  refine Seen.step (n := 8 * 512) (run_seen K VT Kr Vr hK hV q j qr hq 8 le_rfl) (T := 256) (by norm_num) (fun k => scores' (keyLast K) q (ix2 k j)) ?_
    (fun r k => valLast VT (ix2 r k)) ?_ _ (maxNew'_apply _ _ j) _ (fun r => accNew'_apply _ _ _ _ r j)
  · intro k
    show scores' (keyLast K) q (ix2 k j) = _
    rw [scores'_apply]
    exact dot_real _ _ (fun d => Kr (8 * 512 + k.val) d) qr (fun d => by rw [keyLast_apply K, hK]) hq
  · intro r k
    show valLast VT (ix2 r k) = _
    rw [valLast_apply VT, hV]

/-- One entry of a block. -/
theorem block_apply (Vf : ℕ → ℕ → ℝ) (hK : ∀ (i : Fin 4352) (l : Fin 128), K (ix2 i l) = ((Kr i l : ℝ) : EReal))
    (hV : ∀ (r : Fin 144) (i : Fin 4352), VT (ix2 r i) = ((if r.val < 128 then Vf i r else 1 : ℝ) : EReal))
    (lp : Vec Ideal S4x64 .f32) (lam : ℝ) (hlam : lamRow lp (ix2 0 0) = (lam : EReal)) (g : Vec Ideal S128x1 .f32)
    (qt : FVec Ideal S128x256 .f32) (Q : ℕ → ℝ) (p : Fin 256)
    (hQ : ∀ l : Fin 128, qt (ix2 l p) = ((Q l * ((1/8) * (Real.log 2)⁻¹) : ℝ) : EReal)) (e : Fin 128) :
    block K VT lp g qt (ix2 p e) = closed (mixed Q Kr Vf lam) (g (ix2 e 0)) e := by
  have ho : ∀ f : Fin 128, combine (accEnd K VT (query1 qt)) (accEnd K VT (query2 qt)) (lamRow lp) (ix2 f p) = ((mixed Q Kr Vf lam f : ℝ) : EReal) := by
    intro f
    have s1 := end_seen K VT Kr (fun r k => if r.val < 128 then Vf k r else 1) hK hV (query1 qt) p
      (fun l => if l < 64 then Q l * ((1/8) * (Real.log 2)⁻¹) else 0) (fun l => by rw [pay9_apply, hQ]; split_ifs <;> rfl)
    have s2 := end_seen K VT Kr (fun r k => if r.val < 128 then Vf k r else 1) hK hV (query2 qt) p
      (fun l => if l < 64 then 0 else Q l * ((1/8) * (Real.log 2)⁻¹)) (fun l => by rw [pay10_apply, hQ]; split_ifs <;> rfl)
    have q1 := s1.quotient (by norm_num) 128 (fun k _ => by simp) ⟨f.val, by omega⟩ 1
    have q2 := s2.quotient (by norm_num) 128 (fun k _ => by simp) ⟨f.val, by omega⟩ lam
    rw [combine_apply, hlam]
    rw [EReal.coe_one] at q1
    refine (congrArg₂ (· - ·) q1 q2).trans ?_
    rw [← EReal.coe_sub, ← mixed_split]
    simp only [f.isLt, if_true, scoreTwo, score_low, score_high]
  unfold block
  rw [finish_apply]
  simp only [ho]
  rfl

end Cert.Proof.Attn

end
-- ==== Proof.Attn.Tables.lean ====
module

public import proofs.«01_k».proof.Proof.Gen.KernelIdeal.Frame
public import proofs.«01_k».proof.Proof.Attn.Spec
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.Attn

open Idealize.ShloMosaic Cert.KernelIdeal Cert.KernelIdeal.Gen Idealize.ShloMosaic.Pointwise Idealize.ShloMosaic.TcCoe
open Idealize.ShloMosaic.Pipeline (Dat)
variable (m : (ℓ : Loc nD τ sig) → Buf (Elt Ideal) ℓ) (c : Dev nD)

abbrev aV33 : FVec Ideal S4096x128 .f32 := V m c main_v33
abbrev aV22 : FVec Ideal S128 .f32 := V m c main_v22
abbrev aV13 : FVec Ideal S16 .f32 := V m c main_v13
abbrev aV3 : IVec S4096 32 := V m c main_v3
abbrev aV5 : IVec S4096 32 := V m c main_v5
abbrev aV20 : IVec S128 32 := V m c main_v20
abbrev aV23 : IVec S128 32 := V m c main_v23
abbrev aV26 : IVec S128 1 := V m c main_v26
abbrev aV36 : IVec S128 1 := V m c main_v36

theorem v39_eq : (V m c main_v39 : FVec Ideal S4096x128 .f32) = Host.cos (aV33 m c) := by
  unfold aV33 V
  after_reads_simp
theorem v43_apply (p : Fin 4096) (l : Fin 128) : (V m c main_v43 : FVec Ideal S4096x128 .f32) (ix2 p l)
    = Ideal.sin (aV33 m c (ix2 p l)) * (if aV36 m c (ix1 l) = 1#1 then Ideal.ofBits .f32 3212836864#32 else Ideal.ofBits .f32 1065353216#32) := by
  have h : (V m c main_v43 : FVec Ideal S4096x128 .f32) = mulf (Host.sin (aV33 m c)) (broadcastInDim S4096x128 ![0, 1] bcast_S1x128_S4096x128_0_1 (broadcastInDim S1x128 ![1] bcast_S128_S1x128_1 (select (aV36 m c) (broadcastInDim S128 ![] bcast_S_S128 (constant S_ .f32 0xBF800000#32)) (broadcastInDim S128 ![] bcast_S_S128 (constant S_ .f32 0x3F800000#32))))) := by
    unfold aV33 aV36 V
    after_reads_simp
    rfl
  rw [h]
  generalize aV33 m c = x
  generalize aV36 m c = y
  pointwise
  rfl
theorem v33_apply (p : Fin 4096) (l : Fin 128) : aV33 m c (ix2 p l)
    = (if aV26 m c (ix1 l) = 1#1 then FloatOps.sitofp .f32 (aV3 m c (ix1 p)) else FloatOps.sitofp .f32 (aV5 m c (ix1 p)))  * aV22 m c (ix1 l) := by
  have h : aV33 m c = mulf (select (broadcastInDim S4096x128 ![0, 1] bcast_S1x128_S4096x128_0_1 (broadcastInDim S1x128 ![1] bcast_S128_S1x128_1 (aV26 m c))) (broadcastInDim S4096x128 ![0, 1] bcast_S4096x1_S4096x128_0_1 (broadcastInDim S4096x1 ![0] bcast_S4096_S4096x1_0 (sitofp .f32 (aV3 m c)))) (broadcastInDim S4096x128 ![0, 1] bcast_S4096x1_S4096x128_0_1 (broadcastInDim S4096x1 ![0] bcast_S4096_S4096x1_0 (sitofp .f32 (aV5 m c))))) (broadcastInDim S4096x128 ![0, 1] bcast_S1x128_S4096x128_0_1 (broadcastInDim S1x128 ![1] bcast_S128_S1x128_1 (aV22 m c))) := by
    unfold aV33 aV26 aV3 aV5 aV22 V
    after_reads_simp
    rfl
  rw [h]
  generalize aV3 m c = x
  generalize aV5 m c = y
  generalize aV22 m c = z
  generalize aV26 m c = w
  pointwise
  rfl
theorem v22_eq : aV22 m c = Host.gather gather_S16_S128x1_S128_n_0_n_n_0_1_1 (aV13 m c) (broadcastInDim S128x1 ![0] bcast_S128_S128x1_0 (aV20 m c)) := by
  unfold aV22 aV13 aV20 V
  after_reads_simp
/-- A lookup of 128 single words in a table of 16, read at `l`. -/
theorem lookup_apply (x : FVec Ideal S16 .f32) (idx : IVec S128x1 32) (l : Fin 128) :
    Host.gather gather_S16_S128x1_S128_n_0_n_n_0_1_1 x idx (ix1 l) = x (ix1 ⟨min (idx (ix2 l 0)).toInt.toNat 15, by omega⟩) := by
  unfold Host.gather
  congr 1
  funext a
  obtain rfl : a = 0 := Subsingleton.elim _ _
  refine Fin.ext ?_
  show GatherDims.start _ (ix1 l) idx 0 + GatherDims.batchCoord _ (ix1 l) 0 + GatherDims.offCoord _ (ix1 l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S128x1_S128_n_0_n_n_0_1_1.startIndexMap from List.mem_singleton.mpr rfl)]
  have hsi : gather_S16_S128x1_S128_n_0_n_n_0_1_1.siIdx (ix1 l) ⟨List.idxOf (0 : Fin 1) gather_S16_S128x1_S128_n_0_n_n_0_1_1.startIndexMap,
      List.idxOf_lt_length_iff.2 (List.mem_singleton.mpr rfl)⟩ = ix2 l 0 := by
    funext b; refine Fin.ext ?_
    match b with
    | ⟨0, _⟩ => rfl
    | ⟨1, _⟩ => rfl
  rw [hsi]
  rfl
theorem v13_apply (i : Fin 16) : aV13 m c (ix1 i) = ((freq i : ℝ) : EReal) := by
  rw [← freq_real i i.isLt]
  unfold aV13 V
  after_reads_at
set_option maxHeartbeats 1000000 in
theorem v3_apply (p : Fin 4096) : aV3 m c (ix1 p) = BitVec.ofNat 32 (p.val / 64) := by
  unfold aV3 V
  after_reads_at
  simp only [id_eq]
  pointwise
  revert p
  decide +kernel
theorem v5_apply (p : Fin 4096) : aV5 m c (ix1 p) = BitVec.ofNat 32 (p.val % 64) := by
  unfold aV5 V
  after_reads_at
  simp only [id_eq]
  pointwise
  revert p
  decide +kernel
theorem v20_apply (p : Fin 128) : aV20 m c (ix1 p) = BitVec.ofNat 32 (p.val % 16) := by
  unfold aV20 V
  after_reads_at
  simp only [id_eq]
  pointwise
  revert p
  decide +kernel
theorem v26_apply (p : Fin 128) : aV26 m c (ix1 p) = if p.val/32%2 = 0 then 1#1 else 0#1 := by
  unfold aV26 V
  after_reads_at
  simp only [id_eq]
  pointwise
  revert p
  decide +kernel
theorem v36_apply (p : Fin 128) : aV36 m c (ix1 p) = if p.val%32 < 16 then 1#1 else 0#1 := by
  unfold aV36 V
  after_reads_at
  simp only [id_eq]
  pointwise
  revert p
  decide +kernel
theorem v22_apply (l : Fin 128) : aV22 m c (ix1 l) = ((freq (l.val % 16) : ℝ) : EReal) := by
  rw [v22_eq, lookup_apply]
  have h : (broadcastInDim S128x1 ![0] bcast_S128_S128x1_0 (aV20 m c)) (ix2 l 0) = BitVec.ofNat 32 (l.val % 16) := by
    rw [← v20_apply m c l]
    generalize aV20 m c = x
    pointwise
  have e : ∀ l : Fin 128, min ((BitVec.ofNat 32 (l.val % 16)).toInt.toNat) 15 = l.val % 16 := by
    decide +kernel
  simp only [h]
  have : (⟨min ((BitVec.ofNat 32 (l.val % 16)).toInt.toNat) 15, by omega⟩ : Fin 16) = ⟨l.val % 16, by omega⟩ := Fin.ext (e l)
  rw [this, v13_apply]
theorem v33_real (p : Fin 4096) (l : Fin 128) : aV33 m c (ix2 p l) = ((ang p l : ℝ) : EReal) := by
  rw [v33_apply, v26_apply, v22_apply, v3_apply, v5_apply, word_real _ (by omega), word_real _ (by omega), ang]
  by_cases h : l.val / 32 % 2 = 0 <;> simp [h]
/-- The table of cosines at a token and a lane. -/
theorem cos_table (p : Fin 4096) (l : Fin 128) :
    (V m c main_v39 : FVec Ideal S4096x128 .f32) (ix2 p l) = ((Real.cos (ang p l) : ℝ) : EReal) := by
  rw [v39_eq, ← Ideal.cos_coe, ← v33_real m c]
  rfl
/-- The table of sines at a token and a lane, negated on the lanes whose partner lies above. -/
theorem sin_table (p : Fin 4096) (l : Fin 128) :
    (V m c main_v43 : FVec Ideal S4096x128 .f32) (ix2 p l)
      = ((Real.sin (ang p l) * (if l.val % 32 < 16 then -1 else 1) : ℝ) : EReal) := by
  rw [v43_apply, v33_real, Ideal.sin_coe, v36_apply, bits_neg_one, Ideal.ofBits_one_f32]
  by_cases h : l.val % 32 < 16 <;> simp [h]
/-- The subtraction norm's scale, as a column. -/
theorem scale_column (l : Fin 128) :
    (V m c main_v44 : FVec Ideal S128x1 .f32) (ix2 l 0) = (m (c, main_arg2) : FVec Ideal S128 .f32) (ix1 l) := by
  unfold V
  after_reads_at
/-- The cached keys, one row a token. -/
theorem cached_keys (b : Fin 4) (k : Fin 256) (l : Fin 1024) :
    (V m c main_v0 : FVec Ideal S4x256x1024 .f32) (ix3 b k l)
      = (m (c, main_arg3) : FVec Ideal S4x256x8x128 .f32) (ix4 b k ⟨l.val / 128, by omega⟩ ⟨l.val % 128, by omega⟩) := by
  unfold V
  after_reads_at
/-- The cached values, one row a token. -/
theorem cached_values (b : Fin 4) (k : Fin 256) (l : Fin 1024) :
    (V m c main_v1 : FVec Ideal S4x256x1024 .f32) (ix3 b k l)
      = (m (c, main_arg4) : FVec Ideal S4x256x8x128 .f32) (ix4 b k ⟨l.val / 128, by omega⟩ ⟨l.val % 128, by omega⟩) := by
  unfold V
  after_reads_at
/-- The result starts as the array handed in. -/
theorem result_start : V m c main_v45 = (m (c, main_arg5)) := by
  unfold V
  after_reads_simp
  rfl

end Cert.Proof.Attn

end
-- ==== Proof.Attn.Windows.lean ====
/-
  The blocks the kernel reads at a grid point, entry by entry, as entries of the whole arrays.
-/
module

public import proofs.«01_k».proof.Proof.Gen.KernelIdeal.Value
public import proofs.«01_k».proof.Proof.Attn.Blocks
public import proofs.«01_k».proof.Proof.Attn.Tables
public import Idealize.ShloMosaic.Lib.Pipeline.ValueKit

@[expose] public section

set_option maxRecDepth 65536

noncomputable section

namespace Cert.Proof.Attn

open Idealize.ShloMosaic Cert.KernelIdeal Cert.KernelIdeal.Gen Idealize.ShloMosaic.Pointwise Idealize.ShloMosaic.TcCoe
open Idealize.ShloMosaic.Pipeline (Dat)

theorem idx_heads : ∀ t : Fin cfg0.N, win0_2.index t = ![16 + (t.val / 128 * 16 + t.val % 16), t.val / 16 % 8]
    ∧ win0_3.index t = ![1 + t.val / 128, 8 + t.val / 16 % 8] ∧ win0_4.index t = ![1 + t.val / 128, 16 + t.val / 16 % 8] := by
  decide +kernel
theorem idx_caches : ∀ t : Fin cfg0.N, win0_5.index t = ![t.val / 128, 0, t.val / 16 % 8]
    ∧ win0_6.index t = ![t.val / 128, 0, t.val / 16 % 8] := by
  decide +kernel
theorem idx_tables : ∀ t : Fin cfg0.N, win0_0.index t = ![0, 0] ∧ win0_1.index t = ![0, 0] ∧ win0_7.index t = ![0, 0] ∧ win0_8.index t = ![0, 0]
    ∧ win0_9.index t = ![t.val % 16, 0] ∧ win0_10.index t = ![t.val % 16, 0] := by
  decide +kernel
theorem idx_out : ∀ t : Fin cfg0.N, win0_11.index t = ![16 + (t.val / 128 * 16 + t.val % 16), t.val / 16 % 8] := by
  decide +kernel

variable (m : (ℓ : Loc nD τ sig) → Buf (Elt Ideal) ℓ) (c : Dev nD) (t : Fin cfg0.N)

abbrev argX : FVec Ideal S20480x3072 .f32 := m (c, Proc.devRef .tc main_arg0)
abbrev argL : FVec Ideal S4x64 .f32 := m (c, Proc.devRef .tc main_arg1)
abbrev argG : FVec Ideal S128 .f32 := m (c, Proc.devRef .tc main_arg2)
abbrev argCK : FVec Ideal S4x256x8x128 .f32 := m (c, Proc.devRef .tc main_arg3)
abbrev argCV : FVec Ideal S4x256x8x128 .f32 := m (c, Proc.devRef .tc main_arg4)

theorem point_bound : t.val < 512 := lt_of_lt_of_eq t.isLt N_0

theorem lams_block (i : Fin 4) (d : Fin 64) : (iblk m c 0 t : FVec Ideal S4x64 .f32) (ix2 i d) = argL m c (ix2 i d) := by
  blk_ext [iblk, V, idx_tables t]

theorem lams_whole : (iblk m c 0 t : FVec Ideal S4x64 .f32) = argL m c := by
  funext j
  obtain ⟨i, d, rfl⟩ : ∃ i d, j = ix2 i d := ⟨j 0, j 1, by ext a; match a with | 0 => rfl | 1 => rfl⟩
  exact lams_block m c t i d

theorem scale_block (l : Fin 128) : (iblk m c 1 t : FVec Ideal S128x1 .f32) (ix2 l 0) = argG m c (ix1 l) := by
  refine Eq.trans ?_ (scale_column m c l)
  blk_ext [iblk, idx_tables t]

theorem query_block (p : Fin 256) (l : Fin 128) (r : Fin 20480) (col : Fin 3072)
    (hr : r.val = 4096 + (t.val / 128 * 4096 + (t.val % 16 * 256 + p.val))) (hc : col.val = t.val / 16 % 8 * 128 + l.val) :
    (iblk m c 2 t : FVec Ideal S256x128 .f32) (ix2 p l) = argX m c (ix2 r col) := by
  blk_ext [iblk, V, idx_heads t]

theorem key_block (k : Fin 4096) (l : Fin 128) (r : Fin 20480) (col : Fin 3072)
    (hr : r.val = 4096 + (t.val / 128 * 4096 + k.val)) (hc : col.val = 1024 + (t.val / 16 % 8 * 128 + l.val)) :
    (iblk m c 3 t : FVec Ideal S4096x128 .f32) (ix2 k l) = argX m c (ix2 r col) := by
  blk_ext [iblk, V, idx_heads t]

theorem value_block (k : Fin 4096) (l : Fin 128) (r : Fin 20480) (col : Fin 3072)
    (hr : r.val = 4096 + (t.val / 128 * 4096 + k.val)) (hc : col.val = 2048 + (t.val / 16 % 8 * 128 + l.val)) :
    (iblk m c 4 t : FVec Ideal S4096x128 .f32) (ix2 k l) = argX m c (ix2 r col) := by
  blk_ext [iblk, V, idx_heads t]

theorem cached_key_block (k : Fin 256) (l : Fin 128) (b : Fin 4) (h : Fin 8) (hb : b.val = t.val / 128) (hh : h.val = t.val / 16 % 8) :
    (iblk m c 5 t : FVec Ideal S1x256x128 .f32) (ix3 0 k l) = argCK m c (ix4 b k h l) := by
  have e : (iblk m c 5 t : FVec Ideal S1x256x128 .f32) (ix3 0 k l) = (V m c main_v0 : FVec Ideal S4x256x1024 .f32) (ix3 b k ⟨h.val * 128 + l.val, by omega⟩) := by
    blk_ext [iblk, idx_caches t]
  rw [e, cached_keys]
  exact congrArg _ (by congr 1 <;> (apply Fin.ext; simp only []; omega))

theorem cached_value_block (k : Fin 256) (l : Fin 128) (b : Fin 4) (h : Fin 8) (hb : b.val = t.val / 128) (hh : h.val = t.val / 16 % 8) :
    (iblk m c 6 t : FVec Ideal S1x256x128 .f32) (ix3 0 k l) = argCV m c (ix4 b k h l) := by
  have e : (iblk m c 6 t : FVec Ideal S1x256x128 .f32) (ix3 0 k l) = (V m c main_v1 : FVec Ideal S4x256x1024 .f32) (ix3 b k ⟨h.val * 128 + l.val, by omega⟩) := by
    blk_ext [iblk, idx_caches t]
  rw [e, cached_values]
  exact congrArg _ (by congr 1 <;> (apply Fin.ext; simp only []; omega))

theorem cos_whole (p : Fin 4096) (l : Fin 128) : (iblk m c 7 t : FVec Ideal S4096x128 .f32) (ix2 p l) = ((Real.cos (ang p l) : ℝ) : EReal) := by
  rw [← cos_table m c]
  blk_ext [iblk, idx_tables t]

theorem sin_whole (p : Fin 4096) (l : Fin 128) : (iblk m c 8 t : FVec Ideal S4096x128 .f32) (ix2 p l)
    = ((Real.sin (ang p l) * (if l.val % 32 < 16 then -1 else 1) : ℝ) : EReal) := by
  rw [← sin_table m c]
  blk_ext [iblk, idx_tables t]

theorem cos_block (p : Fin 256) (l : Fin 128) : (iblk m c 9 t : FVec Ideal S256x128 .f32) (ix2 p l)
    = ((Real.cos (ang (t.val % 16 * 256 + p.val) l) : ℝ) : EReal) := by
  rw [← cos_table m c ⟨t.val % 16 * 256 + p.val, by omega⟩ l]
  blk_ext [iblk, idx_tables t]

theorem sin_block (p : Fin 256) (l : Fin 128) : (iblk m c 10 t : FVec Ideal S256x128 .f32) (ix2 p l)
    = ((Real.sin (ang (t.val % 16 * 256 + p.val) l) * (if l.val % 32 < 16 then -1 else 1) : ℝ) : EReal) := by
  rw [← sin_table m c ⟨t.val % 16 * 256 + p.val, by omega⟩ l]
  blk_ext [iblk, idx_tables t]

end Cert.Proof.Attn

end
-- ==== Proof.Attn.Rows.lean ====
/-
  What the kernel writes at a grid point: the kept keys and values are real at every point of a head, and the block written is the closed
  attention of its 256 tokens.
-/
module

public import proofs.«01_k».proof.Proof.Attn.Windows

@[expose] public section

set_option maxRecDepth 65536

noncomputable section

namespace Cert.Proof.Attn

open Idealize.ShloMosaic Cert.KernelIdeal Cert.KernelIdeal.Gen Idealize.ShloMosaic.Pointwise Idealize.ShloMosaic.TcCoe
open Idealize.ShloMosaic.Pipeline (Dat)

theorem partner_val (l : Fin 128) : (partner l).val = if l.val % 32 < 16 then l.val + 16 else l.val - 16 := by
  revert l
  decide +kernel

/-- A real vector turned by the tables. -/
theorem turned (f : ℕ → ℝ) (p : ℕ) (l : Fin 128) (a b cs sn : EReal) (ha : a = ((f l : ℝ) : EReal)) (hb : b = ((f (partner l) : ℝ) : EReal))
    (hc : cs = ((Real.cos (ang p l) : ℝ) : EReal)) (hs : sn = ((Real.sin (ang p l) * (if l.val % 32 < 16 then -1 else 1) : ℝ) : EReal)) :
    a * cs + b * sn = ((turn f p l : ℝ) : EReal) := by
  rw [ha, hb, hc, hs, ← EReal.coe_mul, ← EReal.coe_mul, ← EReal.coe_add, partner_val]
  unfold turn
  split_ifs <;> congr 1 <;> ring

variable (m : (ℓ : Loc nD τ sig) → Buf (Elt Ideal) ℓ) (c : Dev nD)

/-- The kernel's arguments hold reals where it reads them as numbers. -/
abbrev RealArgs : Prop := Reals (argX m c) (argL m c) (argCK m c) (argCV m c)

variable {m c} (R : RealArgs m c)
include R

theorem keys_start (t : Fin cfg0.N) (i : Fin 4352) (l : Fin 128) :
    keysOf (iblk m c 3 t) (iblk m c 5 t) (iblk m c 7 t) (iblk m c 8 t) (ix2 i l)
      = ((keyAt (argX m c) (argCK m c) (t.val / 128) (t.val / 16 % 8) i l : ℝ) : EReal) := by
  have ht := point_bound t
  unfold keyAt
  by_cases h : i.val < 4096
  · rw [keysOf_own _ _ _ _ _ _ h, pay2_apply, if_pos h]
    have hk : ∀ q : Fin 128, (iblk m c 3 t : FVec Ideal S4096x128 .f32) (ix2 ⟨i.val, h⟩ q)
        = ((rowsOf (argX m c) (4096 + (t.val / 128 * 4096 + i.val)) (1024 + (t.val / 16 % 8 * 128 + q.val)) : ℝ) : EReal) := fun q => by
      rw [key_block m c t ⟨i.val, h⟩ q ⟨4096 + (t.val / 128 * 4096 + i.val), by omega⟩ ⟨1024 + (t.val / 16 % 8 * 128 + q.val), by omega⟩ rfl rfl]
      exact R.rows _ _ (by show 4096 ≤ 4096 + _; omega)
    exact turned (fun l => rowsOf (argX m c) (4096 + (t.val / 128 * 4096 + i.val)) (1024 + (t.val / 16 % 8 * 128 + l))) i.val l _ _ _ _
      (hk l) (hk _) (cos_whole m c t ⟨i.val, h⟩ l) (sin_whole m c t ⟨i.val, h⟩ l)
  · rw [keysOf_cached _ _ _ _ _ _ h, pay5_apply, if_neg h,
      cached_key_block m c t _ l ⟨t.val / 128, by omega⟩ ⟨t.val / 16 % 8, by omega⟩ rfl rfl, R.keys]

theorem values_start (t : Fin cfg0.N) (r : Fin 144) (i : Fin 4352) :
    valuesOf (iblk m c 4 t) (iblk m c 6 t) (ix2 r i)
      = ((if r.val < 128 then valueAt (argX m c) (argCV m c) (t.val / 128) (t.val / 16 % 8) i r else 1 : ℝ) : EReal) := by
  have ht := point_bound t
  unfold valueAt
  by_cases hr : r.val < 128
  · rw [if_pos hr]
    by_cases h : i.val < 4096
    · rw [valuesOf_own _ _ _ _ hr h, if_pos h,
        value_block m c t ⟨i.val, h⟩ ⟨r.val, hr⟩ ⟨4096 + (t.val / 128 * 4096 + i.val), by omega⟩ ⟨2048 + (t.val / 16 % 8 * 128 + r.val), by omega⟩ rfl rfl]
      exact R.rows _ _ (by show 4096 ≤ 4096 + _; omega)
    · rw [valuesOf_cached _ _ _ _ hr h, if_neg h,
        cached_value_block m c t _ _ ⟨t.val / 128, by omega⟩ ⟨t.val / 16 % 8, by omega⟩ rfl rfl, R.values]
  · rw [if_neg hr, valuesOf_ones _ _ _ _ hr, EReal.coe_one]

/-- After any point of a head the kept keys are the head's keys. -/
theorem keys_kept (n : ℕ) (hn : n < cfg0.N) (i : Fin 4352) (l : Fin 128) :
    (outsAt0 m c n hn).2.1 (ix2 i l) = ((keyAt (argX m c) (argCK m c) (n / 128) (n / 16 % 8) i l : ℝ) : EReal) := by
  induction n with
  | zero =>
    have e := keys_first m c ⟨0, hn⟩ rfl
    rw [show (outsAt0 m c 0 hn).2.1 = _ from e]
    exact keys_start R ⟨0, hn⟩ i l
  | succ n ih =>
    by_cases h0 : (n + 1) % 16 = 0
    · rw [show (outsAt0 m c (n + 1) hn).2.1 = _ from keys_first m c ⟨n + 1, hn⟩ h0]
      exact keys_start R ⟨n + 1, hn⟩ i l
    · rw [show (outsAt0 m c (n + 1) hn).2.1 = _ from keys_rest m c ⟨n + 1, hn⟩ h0]
      refine (ih (Nat.lt_of_succ_lt hn)).trans ?_
      rw [show (n + 1) / 128 = n / 128 by omega, show (n + 1) / 16 = n / 16 by omega]

/-- After any point of a head the kept values are the head's values over rows of ones. -/
theorem values_kept (n : ℕ) (hn : n < cfg0.N) (r : Fin 144) (i : Fin 4352) :
    (outsAt0 m c n hn).2.2 (ix2 r i)
      = ((if r.val < 128 then valueAt (argX m c) (argCV m c) (n / 128) (n / 16 % 8) i r else 1 : ℝ) : EReal) := by
  induction n with
  | zero =>
    rw [show (outsAt0 m c 0 hn).2.2 = _ from values_first m c ⟨0, hn⟩ rfl]
    exact values_start R ⟨0, hn⟩ r i
  | succ n ih =>
    by_cases h0 : (n + 1) % 16 = 0
    · rw [show (outsAt0 m c (n + 1) hn).2.2 = _ from values_first m c ⟨n + 1, hn⟩ h0]
      exact values_start R ⟨n + 1, hn⟩ r i
    · rw [show (outsAt0 m c (n + 1) hn).2.2 = _ from values_rest m c ⟨n + 1, hn⟩ h0]
      refine (ih (Nat.lt_of_succ_lt hn)).trans ?_
      rw [show (n + 1) / 128 = n / 128 by omega, show (n + 1) / 16 = n / 16 by omega]

theorem query_turned (t : Fin cfg0.N) (l : Fin 128) (p : Fin 256) :
    k0_pay8 (iblk m c 2 t) (iblk m c 9 t) (iblk m c 10 t) (ix2 l p)
      = ((queryAt (argX m c) (t.val / 128) (t.val / 16 % 8) (t.val % 16 * 256 + p.val) l * ((1/8) * (Real.log 2)⁻¹) : ℝ) : EReal) := by
  have ht := point_bound t
  have hq : ∀ q : Fin 128, (iblk m c 2 t : FVec Ideal S256x128 .f32) (ix2 p q)
      = ((rowsOf (argX m c) (4096 + (t.val / 128 * 4096 + (t.val % 16 * 256 + p.val))) (t.val / 16 % 8 * 128 + q.val) : ℝ) : EReal) := fun q => by
    rw [query_block m c t p q ⟨4096 + (t.val / 128 * 4096 + (t.val % 16 * 256 + p.val)), by omega⟩ ⟨t.val / 16 % 8 * 128 + q.val, by omega⟩ rfl rfl]
    exact R.rows _ _ (by show 4096 ≤ 4096 + _; omega)
  rw [pay8_apply]
  refine Eq.trans ?_ (EReal.coe_mul _ _).symm
  refine congrArg (fun z : EReal => z * (((1/8) * (Real.log 2)⁻¹ : ℝ) : EReal)) ?_
  exact turned (fun l => rowsOf (argX m c) (4096 + (t.val / 128 * 4096 + (t.val % 16 * 256 + p.val))) (t.val / 16 % 8 * 128 + l)) _ l _ _ _ _
    (hq l) (hq _) (cos_block m c t p l) (sin_block m c t p l)

/-- The block written at a point, entry by entry. -/
theorem written (t : Fin cfg0.N) (p : Fin 256) (e : Fin 128) :
    (outsAt0 m c t.val t.isLt).1 (ix2 p e)
      = closed (attended (argX m c) (argL m c) (argCK m c) (argCV m c) (t.val / 128) (t.val / 16 % 8) (t.val % 16 * 256 + p.val)) (argG m c (ix1 e)) e := by
  have hlam : lamRow (iblk m c 0 t) (ix2 0 0) = ((lamOf (lamsOf (argL m c)) : ℝ) : EReal) := by
    rw [lams_whole, lamRow_apply]
    exact lam_real _ R.lams
  rw [← scale_block m c t e]
  by_cases h0 : t.val % 16 = 0
  · rw [out_first m c t h0]
    exact block_apply _ _ _ _ (keys_kept R t.val t.isLt) (values_kept R t.val t.isLt) _ _ hlam _ _ _ p (fun l => query_turned R t l p) e
  · rw [out_rest m c t h0]
    have e1 : (t.val - 1) / 128 = t.val / 128 := by omega
    have e2 : (t.val - 1) / 16 = t.val / 16 := by omega
    have hK := keys_kept R (t.val - 1) (by omega)
    have hV := values_kept R (t.val - 1) (by omega)
    rw [e1, e2] at hK hV
    exact block_apply _ _ _ _ hK hV _ _ hlam _ _ _ p (fun l => query_turned R t l p) e

end Cert.Proof.Attn

end
-- ==== Proof.Attn.Array.lean ====
/-
  The kernel's whole result: the rows below 4096 as they stood, the closed attention from there on.
-/
module

public import proofs.«01_k».proof.Proof.Attn.Rows

@[expose] public section

set_option maxRecDepth 65536

noncomputable section

namespace Cert.Proof.Attn

open Idealize.ShloMosaic Cert.KernelIdeal Cert.KernelIdeal.Gen Idealize.ShloMosaic.Pointwise Idealize.ShloMosaic.TcCoe
open Idealize.ShloMosaic.Pipeline (Dat)

/-- The result of both programs as one function of their arguments. -/
def wanted (x : FVec Ideal S20480x3072 .f32) (lp : FVec Ideal S4x64 .f32) (g : FVec Ideal S128 .f32) (ck cv : FVec Ideal S4x256x8x128 .f32)
    (prev : FVec Ideal S20480x1024 .bf16) : FVec Ideal S20480x1024 .bf16 := fun i =>
  if (i 0).val < 4096 then prev i
  else closed (attended x lp ck cv (((i 0).val - 4096) / 4096) ((i 1).val / 128) (((i 0).val - 4096) % 4096))
    (g (ix1 ⟨(i 1).val % 128, Nat.mod_lt _ (by norm_num)⟩)) ((i 1).val % 128)

theorem wanted_at (x : FVec Ideal S20480x3072 .f32) (lp : FVec Ideal S4x64 .f32) (g : FVec Ideal S128 .f32) (ck cv : FVec Ideal S4x256x8x128 .f32)
    (prev : FVec Ideal S20480x1024 .bf16) (i : S20480x1024.Idx) (b h p : ℕ) (e : Fin 128) (hp : p < 4096)
    (h0 : (i 0 : ℕ) = 4096 + (b * 4096 + p)) (h1 : (i 1 : ℕ) = h * 128 + e.val) :
    wanted x lp g ck cv prev i = closed (attended x lp ck cv b h p) (g (ix1 e)) e := by
  unfold wanted
  have k1 : ((i 0 : ℕ) - 4096) / 4096 = b := by omega
  have k2 : ((i 0 : ℕ) - 4096) % 4096 = p := by omega
  have k3 : (i 1 : ℕ) / 128 = h := by omega
  have k4 : (i 1 : ℕ) % 128 = e.val := by omega
  rw [if_neg (by omega), k1, k2, k3]
  simp only [k4]

variable {m : (ℓ : Loc nD τ sig) → Buf (Elt Ideal) ℓ} {c : Dev nD} (R : RealArgs m c)
include R

theorem kernel_array : (dats m 0 c).arrAt 11 cfg0.N
    = wanted (argX m c) (argL m c) (argG m c) (argCK m c) (argCV m c) (m (c, Proc.devRef .tc main_arg5)) := by
  have key : (dats m 0 c).arrAt 11 cfg0.N = fun i : S20480x1024.Idx => if 16 * 256 ≤ (i 0 : ℕ)
      then wanted (argX m c) (argL m c) (argG m c) (argCK m c) (argCV m c) (m (c, Proc.devRef .tc main_arg5)) i else V m c main_v45 i := by
    refine (dats m 0 c).arrAt_eq_of_coversWhere 11 _ (fun β => 16 ≤ β 0) (by decide +kernel) (fun t hf y => ?_)
      (fun j => by blk_simp [Pipeline.Window.cell_apply]; omega)
    blk_simp
    rw [after0_11]
    have ht := point_bound t
    have e0 : (((win0_11.blk t).view.emb y) 0 : ℕ) = 4096 + (t.val / 128 * 4096 + (t.val % 16 * 256 + (y 0 : ℕ))) := by
      blk_simp [idx_out t]; omega
    have e1 : (((win0_11.blk t).view.emb y) 1 : ℕ) = t.val / 16 % 8 * 128 + (y 1 : ℕ) := by
      blk_simp [idx_out t]
    have y0 : (y 0 : ℕ) < 256 := (y 0).isLt
    have y1 : (y 1 : ℕ) < 128 := (y 1).isLt
    refine (show _ = (outsAt0 m c t.val t.isLt).1 (ix2 (⟨(y 0 : ℕ), y0⟩ : Fin 256) (⟨(y 1 : ℕ), y1⟩ : Fin 128)) from congrArg _ (by
      funext a; match a with | 0 => rfl | 1 => rfl)).trans ?_
    exact (written R t _ _).trans (wanted_at _ _ _ _ _ _ _ _ _ (t.val % 16 * 256 + (y 0 : ℕ)) ⟨(y 1 : ℕ), y1⟩ (by omega) e0 e1).symm
  rw [key]
  funext i
  split
  · rfl
  · rename_i h
    rw [result_start]
    unfold wanted
    rw [if_pos (by omega)]

end Cert.Proof.Attn

end
-- ==== Proof.Attn.RefA.lean ====
module

public import proofs.«01_k».proof.Proof.Gen.ReferenceIdeal.Run
public import proofs.«01_k».proof.Proof.Attn.Spec
public import Idealize.ShloMosaic.Lib.Pointwise

@[expose] public section

set_option maxRecDepth 16384

noncomputable section

namespace Cert.Proof.Ref

open Idealize.ShloMosaic Cert.ReferenceIdeal Cert.ReferenceIdeal.Gen Cert.ReferenceIdeal.Value Idealize.ShloMosaic.Pointwise Idealize.ShloMosaic.TcCoe Cert.Proof.Attn

def keysIn (x : FVec Ideal S20480x3072 .f32) : FVec Ideal S4x4096x16x64 .f32 :=
  shapeCast _ (shapeCast S4x4096x8x128 (extractStridedSlice S4x4096x1024 ![0, 0, 1024] (shapeCast S4x4096x3072 (extractStridedSlice S16384x3072 ![4096, 0] x slices_S20480x3072_S16384x3072_4096_0) shapeCasts_S16384x3072_S4x4096x3072) slices_S4x4096x3072_S4x4096x1024_0_0_1024) shapeCasts_S4x4096x1024_S4x4096x8x128) shapeCasts_S4x4096x8x128_S4x4096x16x64

theorem keysIn_apply (x : FVec Ideal S20480x3072 .f32) (b : Fin 4) (p : Fin 4096) (h : Fin 16) (l : Fin 64) :
    keysIn x (ix4 b p h l) = x (ix2 (⟨4096 + (b.val * 4096 + p.val), by omega⟩ : Fin 20480) (⟨1024 + (h.val * 64 + l.val), by omega⟩ : Fin 3072)) := by
  unfold keysIn
  pointwise

def queriesIn (x : FVec Ideal S20480x3072 .f32) : FVec Ideal S4x4096x16x64 .f32 :=
  shapeCast _ (shapeCast S4x4096x8x128 (extractStridedSlice S4x4096x1024 ![0, 0, 0] (shapeCast S4x4096x3072 (extractStridedSlice S16384x3072 ![4096, 0] x slices_S20480x3072_S16384x3072_4096_0) shapeCasts_S16384x3072_S4x4096x3072) slices_S4x4096x3072_S4x4096x1024_0_0_0) shapeCasts_S4x4096x1024_S4x4096x8x128) shapeCasts_S4x4096x8x128_S4x4096x16x64

theorem queriesIn_apply (x : FVec Ideal S20480x3072 .f32) (b : Fin 4) (p : Fin 4096) (h : Fin 16) (l : Fin 64) :
    queriesIn x (ix4 b p h l) = x (ix2 (⟨4096 + (b.val * 4096 + p.val), by omega⟩ : Fin 20480) (⟨h.val * 64 + l.val, by omega⟩ : Fin 3072)) := by
  unfold queriesIn
  pointwise

def valuesIn (x : FVec Ideal S20480x3072 .f32) : FVec Ideal S4x4096x8x128 .f32 :=
  shapeCast S4x4096x8x128 (extractStridedSlice S4x4096x1024 ![0, 0, 2048] (shapeCast S4x4096x3072 (extractStridedSlice S16384x3072 ![4096, 0] x slices_S20480x3072_S16384x3072_4096_0) shapeCasts_S16384x3072_S4x4096x3072) slices_S4x4096x3072_S4x4096x1024_0_0_2048) shapeCasts_S4x4096x1024_S4x4096x8x128

theorem valuesIn_apply (x : FVec Ideal S20480x3072 .f32) (b : Fin 4) (p : Fin 4096) (h : Fin 8) (l : Fin 128) :
    valuesIn x (ix4 b p h l) = x (ix2 (⟨4096 + (b.val * 4096 + p.val), by omega⟩ : Fin 20480) (⟨2048 + (h.val * 128 + l.val), by omega⟩ : Fin 3072)) := by
  unfold valuesIn
  pointwise

def freqs : FVec Ideal S16 .f32 :=
  Host.divf (broadcastInDim S16 ![] bcast_S_S16 (constant S_ .f32 0x3F800000#32)) (Host.powf (broadcastInDim S16 ![] bcast_S_S16 (constant S_ .f32 0x461C4000#32)) (Host.divf (sitofp .f32 (iotaInDim S16 32 0)) (broadcastInDim S16 ![] bcast_S_S16 (constant S_ .f32 0x41800000#32))))

theorem freqs_apply (i : Fin 16) : freqs (ix1 i) = ((freq i : ℝ) : EReal) := by
  rw [← freq_real i i.isLt]
  unfold freqs
  pointwise

def rowAngles : FVec Ideal S1x4096x1x16 .f32 :=
  broadcastInDim S1x4096x1x16 ![1, 3] bcast_S4096x16_S1x4096x1x16_1_3 (mulf (broadcastInDim S4096x16 ![0, 1] bcast_S4096x1_S4096x16_0_1 (broadcastInDim S4096x1 ![0] bcast_S4096_S4096x1_0 (sitofp .f32 (shapeCast S4096 (broadcastInDim S64x64 ![0] bcast_S64_S64x64_0 (iotaInDim S64 32 0)) shapeCasts_S64x64_S4096)))) (broadcastInDim S4096x16 ![0, 1] bcast_S1x16_S4096x16_0_1 (broadcastInDim S1x16 ![1] bcast_S16_S1x16_1 freqs)))

theorem rowAngles_apply (p : Fin 4096) (i : Fin 16) : rowAngles (ix4 0 p 0 i) = ((((p.val / 64 : ℕ) : ℝ) * freq i : ℝ) : EReal) := by
  rw [EReal.coe_mul, ← freqs_apply, ← word_real (p.val / 64) (by omega)]
  unfold rowAngles
  generalize freqs = f
  pointwise

def colAngles : FVec Ideal S1x4096x1x16 .f32 :=
  broadcastInDim S1x4096x1x16 ![1, 3] bcast_S4096x16_S1x4096x1x16_1_3 (mulf (broadcastInDim S4096x16 ![0, 1] bcast_S4096x1_S4096x16_0_1 (broadcastInDim S4096x1 ![0] bcast_S4096_S4096x1_0 (sitofp .f32 (shapeCast S4096 (broadcastInDim S64x64 ![0, 1] bcast_S1x64_S64x64_0_1 (shapeCast S1x64 (iotaInDim S64 32 0) shapeCasts_S64_S1x64)) shapeCasts_S64x64_S4096)))) (broadcastInDim S4096x16 ![0, 1] bcast_S1x16_S4096x16_0_1 (broadcastInDim S1x16 ![1] bcast_S16_S1x16_1 freqs)))

theorem colAngles_apply (p : Fin 4096) (i : Fin 16) : colAngles (ix4 0 p 0 i) = ((((p.val % 64 : ℕ) : ℝ) * freq i : ℝ) : EReal) := by
  rw [EReal.coe_mul, ← freqs_apply, ← word_real (p.val % 64) (by omega)]
  unfold colAngles
  generalize freqs = f
  pointwise

def ropeRef (x : FVec Ideal S4x4096x16x64 .f32) (cr sr cc sc : FVec Ideal S1x4096x1x16 .f32) : FVec Ideal S4x4096x16x64 .f32 :=
  concatenate S4x4096x16x64 3 [⟨S4x4096x16x32, (concatenate S4x4096x16x32 3 [⟨S4x4096x16x16, (subf (mulf (extractStridedSlice S4x4096x16x16 ![0, 0, 0, 0] (extractStridedSlice S4x4096x16x32 ![0, 0, 0, 0] x slices_S4x4096x16x64_S4x4096x16x32_0_0_0_0) slices_S4x4096x16x32_S4x4096x16x16_0_0_0_0) (broadcastInDim S4x4096x16x16 ![0, 1, 2, 3] bcast_S1x4096x1x16_S4x4096x16x16_0_1_2_3 cr)) (mulf (extractStridedSlice S4x4096x16x16 ![0, 0, 0, 16] (extractStridedSlice S4x4096x16x32 ![0, 0, 0, 0] x slices_S4x4096x16x64_S4x4096x16x32_0_0_0_0) slices_S4x4096x16x32_S4x4096x16x16_0_0_0_16) (broadcastInDim S4x4096x16x16 ![0, 1, 2, 3] bcast_S1x4096x1x16_S4x4096x16x16_0_1_2_3 sr)))⟩, ⟨S4x4096x16x16, (addf (mulf (extractStridedSlice S4x4096x16x16 ![0, 0, 0, 16] (extractStridedSlice S4x4096x16x32 ![0, 0, 0, 0] x slices_S4x4096x16x64_S4x4096x16x32_0_0_0_0) slices_S4x4096x16x32_S4x4096x16x16_0_0_0_16) (broadcastInDim S4x4096x16x16 ![0, 1, 2, 3] bcast_S1x4096x1x16_S4x4096x16x16_0_1_2_3 cr)) (mulf (extractStridedSlice S4x4096x16x16 ![0, 0, 0, 0] (extractStridedSlice S4x4096x16x32 ![0, 0, 0, 0] x slices_S4x4096x16x64_S4x4096x16x32_0_0_0_0) slices_S4x4096x16x32_S4x4096x16x16_0_0_0_0) (broadcastInDim S4x4096x16x16 ![0, 1, 2, 3] bcast_S1x4096x1x16_S4x4096x16x16_0_1_2_3 sr)))⟩] concatenates_S4x4096x16x16_S4x4096x16x16_S4x4096x16x32_d3)⟩, ⟨S4x4096x16x32, (concatenate S4x4096x16x32 3 [⟨S4x4096x16x16, (subf (mulf (extractStridedSlice S4x4096x16x16 ![0, 0, 0, 0] (extractStridedSlice S4x4096x16x32 ![0, 0, 0, 32] x slices_S4x4096x16x64_S4x4096x16x32_0_0_0_32) slices_S4x4096x16x32_S4x4096x16x16_0_0_0_0) (broadcastInDim S4x4096x16x16 ![0, 1, 2, 3] bcast_S1x4096x1x16_S4x4096x16x16_0_1_2_3 cc)) (mulf (extractStridedSlice S4x4096x16x16 ![0, 0, 0, 16] (extractStridedSlice S4x4096x16x32 ![0, 0, 0, 32] x slices_S4x4096x16x64_S4x4096x16x32_0_0_0_32) slices_S4x4096x16x32_S4x4096x16x16_0_0_0_16) (broadcastInDim S4x4096x16x16 ![0, 1, 2, 3] bcast_S1x4096x1x16_S4x4096x16x16_0_1_2_3 sc)))⟩, ⟨S4x4096x16x16, (addf (mulf (extractStridedSlice S4x4096x16x16 ![0, 0, 0, 16] (extractStridedSlice S4x4096x16x32 ![0, 0, 0, 32] x slices_S4x4096x16x64_S4x4096x16x32_0_0_0_32) slices_S4x4096x16x32_S4x4096x16x16_0_0_0_16) (broadcastInDim S4x4096x16x16 ![0, 1, 2, 3] bcast_S1x4096x1x16_S4x4096x16x16_0_1_2_3 cc)) (mulf (extractStridedSlice S4x4096x16x16 ![0, 0, 0, 0] (extractStridedSlice S4x4096x16x32 ![0, 0, 0, 32] x slices_S4x4096x16x64_S4x4096x16x32_0_0_0_32) slices_S4x4096x16x32_S4x4096x16x16_0_0_0_0) (broadcastInDim S4x4096x16x16 ![0, 1, 2, 3] bcast_S1x4096x1x16_S4x4096x16x16_0_1_2_3 sc)))⟩] concatenates_S4x4096x16x16_S4x4096x16x16_S4x4096x16x32_d3)⟩] concatenates_S4x4096x16x32_S4x4096x16x32_S4x4096x16x64_d3

theorem ropeRef_real (x : FVec Ideal S4x4096x16x64 .f32) (b : Fin 4) (p : Fin 4096) (h : Fin 16) (f : ℕ → ℝ)
    (hx : ∀ l : Fin 64, x (ix4 b p h l) = ((f l : ℝ) : EReal)) (l : Fin 64) :
    ropeRef x (Host.cos rowAngles) (Host.sin rowAngles) (Host.cos colAngles) (Host.sin colAngles) (ix4 b p h l) = ((turn f p l : ℝ) : EReal) := by
  have c1 : ∀ i : Fin 16, Host.cos rowAngles (ix4 0 p 0 i) = ((Real.cos (((p.val / 64 : ℕ) : ℝ) * freq i) : ℝ) : EReal) :=
    fun i => by rw [← Ideal.cos_coe, ← rowAngles_apply]; rfl
  have s1 : ∀ i : Fin 16, Host.sin rowAngles (ix4 0 p 0 i) = ((Real.sin (((p.val / 64 : ℕ) : ℝ) * freq i) : ℝ) : EReal) :=
    fun i => by rw [← Ideal.sin_coe, ← rowAngles_apply]; rfl
  have c2 : ∀ i : Fin 16, Host.cos colAngles (ix4 0 p 0 i) = ((Real.cos (((p.val % 64 : ℕ) : ℝ) * freq i) : ℝ) : EReal) :=
    fun i => by rw [← Ideal.cos_coe, ← colAngles_apply]; rfl
  have s2 : ∀ i : Fin 16, Host.sin colAngles (ix4 0 p 0 i) = ((Real.sin (((p.val % 64 : ℕ) : ℝ) * freq i) : ℝ) : EReal) :=
    fun i => by rw [← Ideal.sin_coe, ← colAngles_apply]; rfl
  revert c1 s1 c2 s2
  unfold ropeRef
  generalize Host.cos rowAngles = cr
  generalize Host.sin rowAngles = sr
  generalize Host.cos colAngles = cc
  generalize Host.sin colAngles = sc
  intro c1 s1 c2 s2
  pointwise
  split_ifs <;> first
    | (exfalso; omega)
    | skip
  all_goals simp only [hx, c1, s1, c2, s2, ← EReal.coe_mul, ← EReal.coe_sub, ← EReal.coe_add]
  all_goals refine congrArg _ ?_
  all_goals unfold turn ang
  all_goals first
    | simp only [show l.val / 32 % 2 = 0 by omega, show l.val % 32 < 16 by omega, show l.val % 16 = l.val by omega,
        show 16 + l.val = l.val + 16 by omega, if_true, sub_eq_add_neg]
    | simp only [show l.val / 32 % 2 = 0 by omega, show ¬ l.val % 32 < 16 by omega, show l.val % 16 = l.val - 16 by omega,
        show 16 + (l.val - 16) = l.val by omega, if_true, if_false]
    | simp only [show ¬ l.val / 32 % 2 = 0 by omega, show l.val % 32 < 16 by omega, show l.val % 16 = l.val - 32 by omega,
        show 32 + (16 + (l.val - 32)) = l.val + 16 by omega, show 32 + (l.val - 32) = l.val by omega, if_true, if_false, sub_eq_add_neg]
    | simp only [show ¬ l.val / 32 % 2 = 0 by omega, show ¬ l.val % 32 < 16 by omega, show l.val % 16 = l.val - 32 - 16 by omega,
        show 32 + (16 + (l.val - 32 - 16)) = l.val by omega, show 32 + (l.val - 32 - 16) = l.val - 16 by omega, if_false]

end Cert.Proof.Ref

end
-- ==== Proof.Attn.RefB.lean ====
module

public import proofs.«01_k».proof.Proof.Gen.ReferenceIdeal.Run
public import proofs.«01_k».proof.Proof.Attn.Running
public import Idealize.ShloMosaic.Lib.Pointwise

@[expose] public section

set_option maxRecDepth 16384

noncomputable section

namespace Cert.Proof.Ref

open Idealize.ShloMosaic Cert.ReferenceIdeal Cert.ReferenceIdeal.Gen Cert.ReferenceIdeal.Value Idealize.ShloMosaic.Pointwise Idealize.ShloMosaic.TcCoe

theorem negInf : Ideal.ofBits .f32 0xFF800000#32 = (⊥ : EReal) := by
  simp [Ideal.ofBits, Ideal.ieee]

theorem rowMax {a b c d n : ℕ} {t : Shape} (h : (⟨5, ![a, b, c, d, n]⟩ : Shape).ReducesTo [4] t) {u : Shape} (hu : 0 < u.numel) (x : FVec Ideal ⟨5, ![a, b, c, d, n]⟩ .f32) (j : t.Idx) :
    Host.reduce FloatOps.maximumf x (constant u .f32 0xFF800000#32) h hu j = Finset.univ.fold max (⊥ : EReal) (fun k : Fin n => x (ix5 ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩ ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k)) := by
  rw [← negInf, Host.reduce_eq_fold, Shape.ReducesTo.fold_fiber_r5_a4]
  rfl

theorem rowMax' {a b c d n : ℕ} (h : (⟨5, ![a, b, c, d, n]⟩ : Shape).ReducesTo [4] ⟨4, ![a, b, c, d]⟩) {u : Shape} (hu : 0 < u.numel)
    (x : FVec Ideal ⟨5, ![a, b, c, d, n]⟩ .f32) (j0 : Fin a) (j1 : Fin b) (j2 : Fin c) (j3 : Fin d) :
    Host.reduce FloatOps.maximumf x (constant u .f32 0xFF800000#32) h hu (ix4 j0 j1 j2 j3)
      = Finset.univ.fold max (⊥ : EReal) (fun k : Fin n => x (ix5 j0 j1 j2 j3 k)) :=
  rowMax h hu x (ix4 j0 j1 j2 j3)

def expMax (s : FVec Ideal S4x8x2x4096x4352 .f32) (M : FVec Ideal S4x8x2x4096 .f32) : FVec Ideal S4x8x2x4096x4352 .f32 :=
  Host.exp (subf s (broadcastInDim S4x8x2x4096x4352 ![0, 1, 2, 3, 4] bcast_S4x8x2x4096x1_S4x8x2x4096x4352_0_1_2_3_4 (broadcastInDim S4x8x2x4096x1 ![0, 1, 2, 3] bcast_S4x8x2x4096_S4x8x2x4096x1_0_1_2_3 (maximumf (broadcastInDim S4x8x2x4096 ![] bcast_S_S4x8x2x4096 (constant S_ .f32 0xFF800000#32)) M))))

theorem expMax_apply (s : FVec Ideal S4x8x2x4096x4352 .f32) (M : FVec Ideal S4x8x2x4096 .f32) (b : Fin 4) (h : Fin 8) (i : Fin 2) (p : Fin 4096) (k : Fin 4352) :
    expMax s M (ix5 b h i p k) = Ideal.exp (s (ix5 b h i p k) - max ⊥ (M (ix4 b h i p))) := by
  rw [← negInf]
  unfold expMax
  pointwise

def expRef (s : FVec Ideal S4x8x2x4096x4352 .f32) : FVec Ideal S4x8x2x4096x4352 .f32 :=
  expMax s (Host.reduce FloatOps.maximumf s (constant S_ .f32 0xFF800000#32) reducesTo_S4x8x2x4096x4352_S4x8x2x4096_d4 h_S_)

theorem expRef_apply (s : FVec Ideal S4x8x2x4096x4352 .f32) (b : Fin 4) (h : Fin 8) (i : Fin 2) (p : Fin 4096) (k : Fin 4352) :
    expRef s (ix5 b h i p k) = Ideal.exp (s (ix5 b h i p k) - max ⊥ (Finset.univ.fold max ⊥ fun k : Fin 4352 => s (ix5 b h i p k))) := by
  unfold expRef
  rw [expMax_apply, rowMax']

end Cert.Proof.Ref

end
-- ==== Proof.Attn.RefC.lean ====
/-
  The reference's attention at an index: scores, softmax, the two maps' mixture, the closing norm, and the whole result.
-/
module

public import proofs.«01_k».proof.Proof.Attn.RefA
public import proofs.«01_k».proof.Proof.Attn.RefB

@[expose] public section

set_option maxRecDepth 16384

noncomputable section

namespace Cert.Proof.Ref

open Idealize.ShloMosaic Cert.ReferenceIdeal Cert.ReferenceIdeal.Gen Cert.ReferenceIdeal.Value Idealize.ShloMosaic.Pointwise Idealize.ShloMosaic.TcCoe Cert.Proof.Attn

def allKeys (x : FVec Ideal S4x4096x16x64 .f32) (ck : FVec Ideal S4x256x8x128 .f32) : FVec Ideal S4x4352x8x2x64 .f32 :=
  shapeCast _ (concatenate S4x4352x8x128 1 [⟨S4x4096x8x128, (shapeCast _ x shapeCasts_S4x4096x16x64_S4x4096x8x128)⟩, ⟨S4x256x8x128, ck⟩] concatenates_S4x4096x8x128_S4x256x8x128_S4x4352x8x128_d1) shapeCasts_S4x4352x8x128_S4x4352x8x2x64

theorem allKeys_apply (x : FVec Ideal S4x4096x16x64 .f32) (ck : FVec Ideal S4x256x8x128 .f32) (b : Fin 4) (k : Fin 4352) (h : Fin 8) (i : Fin 2) (l : Fin 64) :
    allKeys x ck (ix5 b k h i l) = if hk : k.val < 4096 then x (ix4 b ⟨k.val, hk⟩ ⟨h.val * 2 + i.val, by omega⟩ l) else ck (ix4 b ⟨k.val - 4096, by omega⟩ h ⟨i.val * 64 + l.val, by omega⟩) := by
  unfold allKeys
  have e1 : h.val * 2 + (i.val * 64 + l.val) / 64 = h.val * 2 + i.val := by omega
  pointwise
  simp only [e1]

def scoresRef (q : FVec Ideal S4x4096x16x64 .f32) (k : FVec Ideal S4x4352x8x2x64 .f32) : FVec Ideal S4x8x2x4096x4352 .f32 :=
  mulf (Host.dotGeneral dot_S4x4096x8x2x64_S4x4352x8x2x64_S4x8x2x4096x4352_4_4_1_1_023_023 none (shapeCast _ (shapeCast _ q shapeCasts_S4x4096x16x64_S4x4096x8x128) shapeCasts_S4x4096x8x128_S4x4096x8x2x64) k) (broadcastInDim S4x8x2x4096x4352 ![] bcast_S_S4x8x2x4096x4352 (constant S_ .f32 0x3E000000#32))

theorem scoresRef_apply (q : FVec Ideal S4x4096x16x64 .f32) (kk : FVec Ideal S4x4352x8x2x64 .f32) (b : Fin 4) (h : Fin 8) (i : Fin 2) (p : Fin 4096) (k : Fin 4352) :
    scoresRef q kk (ix5 b h i p k) = (∑ l : Fin 64, q (ix4 b p ⟨h.val * 2 + i.val, by omega⟩ l) * kk (ix5 b k h i l)) * Ideal.ofBits .f32 0x3E000000#32 := by
  unfold scoresRef
  pointwise

def softRef (e : FVec Ideal S4x8x2x4096x4352 .f32) : FVec Ideal S4x8x2x4096x4352 .f32 :=
  Host.divf e (broadcastInDim S4x8x2x4096x4352 ![0, 1, 2, 3, 4] bcast_S4x8x2x4096x1_S4x8x2x4096x4352_0_1_2_3_4 (broadcastInDim S4x8x2x4096x1 ![0, 1, 2, 3] bcast_S4x8x2x4096_S4x8x2x4096x1_0_1_2_3 (Host.reduceAdd e (constant S_ .f32 0x00000000#32) reducesTo_S4x8x2x4096x4352_S4x8x2x4096_d4 h_S_)))

theorem softRef_apply (e : FVec Ideal S4x8x2x4096x4352 .f32) (b : Fin 4) (h : Fin 8) (i : Fin 2) (p : Fin 4096) (k : Fin 4352) :
    softRef e (ix5 b h i p k) = Ideal.div (e (ix5 b h i p k)) (∑ k : Fin 4352, e (ix5 b h i p k)) := by
  unfold softRef
  pointwise

def mixRef (v : FVec Ideal S4x4096x8x128 .f32) (cv : FVec Ideal S4x256x8x128 .f32) (w : FVec Ideal S4x8x2x4096x4352 .f32) (lam : FVec Ideal S_ .f32) : FVec Ideal S4x4096x8x128 .f32 :=
  transpose S4x4096x8x128 [0, 3, 1, 2] (Host.dotGeneral dot_S4x4352x8x128_S4x8x4096x4352_S4x8x128x4096_1_3_3_2_02_01 none (concatenate S4x4352x8x128 1 [⟨S4x4096x8x128, v⟩, ⟨S4x256x8x128, cv⟩] concatenates_S4x4096x8x128_S4x256x8x128_S4x4352x8x128_d1) (subf (shapeCast _ (extractStridedSlice S4x8x1x4096x4352 ![0, 0, 0, 0, 0] w slices_S4x8x2x4096x4352_S4x8x1x4096x4352_0_0_0_0_0) shapeCasts_S4x8x1x4096x4352_S4x8x4096x4352) (mulf (broadcastInDim S4x8x4096x4352 ![] bcast_S_S4x8x4096x4352 lam) (shapeCast _ (extractStridedSlice S4x8x1x4096x4352 ![0, 0, 1, 0, 0] w slices_S4x8x2x4096x4352_S4x8x1x4096x4352_0_0_1_0_0) shapeCasts_S4x8x1x4096x4352_S4x8x4096x4352)))) transposes_S4x8x128x4096_S4x4096x8x128_0_3_1_2

theorem mixRef_apply (v : FVec Ideal S4x4096x8x128 .f32) (cv : FVec Ideal S4x256x8x128 .f32) (w : FVec Ideal S4x8x2x4096x4352 .f32) (lam : FVec Ideal S_ .f32) (b : Fin 4) (p : Fin 4096) (h : Fin 8) (e : Fin 128) :
    mixRef v cv w lam (ix4 b p h e) = ∑ k : Fin 4352, (if hk : k.val < 4096 then v (ix4 b ⟨k.val, hk⟩ h e) else cv (ix4 b ⟨k.val - 4096, by omega⟩ h e))
      * (w (ix5 b h 0 p k) - lam ix0 * w (ix5 b h 1 p k)) := by
  unfold mixRef
  pointwise

def lamRef (lp : FVec Ideal S4x64 .f32) : FVec Ideal S_ .f32 :=
  addf (subf (Host.exp (Host.reduceAdd (mulf (shapeCast _ (extractStridedSlice S1x64 ![0, 0] lp slices_S4x64_S1x64_0_0) shapeCasts_S1x64_S64) (shapeCast _ (extractStridedSlice S1x64 ![1, 0] lp slices_S4x64_S1x64_1_0) shapeCasts_S1x64_S64)) (constant S_ .f32 0x00000000#32) reducesTo_S64_S_d0 h_S_)) (Host.exp (Host.reduceAdd (mulf (shapeCast _ (extractStridedSlice S1x64 ![2, 0] lp slices_S4x64_S1x64_2_0) shapeCasts_S1x64_S64) (shapeCast _ (extractStridedSlice S1x64 ![3, 0] lp slices_S4x64_S1x64_3_0) shapeCasts_S1x64_S64)) (constant S_ .f32 0x00000000#32) reducesTo_S64_S_d0 h_S_))) (constant S_ .f32 0x3E4CCCCD#32)

theorem lamRef_apply (lp : FVec Ideal S4x64 .f32) :
    lamRef lp ix0 = Ideal.exp (∑ d : Fin 64, lp (ix2 0 d) * lp (ix2 1 d)) - Ideal.exp (∑ d : Fin 64, lp (ix2 2 d) * lp (ix2 3 d))
      + Ideal.ofBits .f32 0x3E4CCCCD#32 := by
  unfold lamRef
  pointwise

/-- The closing norm of every head's vector. -/
def normRef (o : FVec Ideal S4x4096x8x128 .f32) (g : FVec Ideal S128 .f32) : FVec Ideal S4x4096x8x128 .f32 :=
  mulf (mulf (mulf o (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 g))) (broadcastInDim S4x4096x8x128 ![] bcast_S_S4x4096x8x128 (constant S_ .f32 0x3F4CCCCD#32))

theorem normRef_apply (o : FVec Ideal S4x4096x8x128 .f32) (g : FVec Ideal S128 .f32) (b : Fin 4) (p : Fin 4096) (h : Fin 8) (e : Fin 128) :
    normRef o g (ix4 b p h e) = o (ix4 b p h e) * Ideal.rsqrt (Ideal.div (∑ f : Fin 128, o (ix4 b p h f) * o (ix4 b p h f)) (Ideal.ofBits .f32 0x43000000#32)
      + Ideal.ofBits .f32 0x358637BD#32) * g (ix1 e) * Ideal.ofBits .f32 0x3F4CCCCD#32 := by
  unfold normRef
  pointwise

def resultOf (y : FVec Ideal S4x4096x8x128 .f32) (prev : FVec Ideal S20480x1024 .bf16) : FVec Ideal S20480x1024 .bf16 :=
  concatenate S20480x1024 0 [⟨S4096x1024, (extractStridedSlice S4096x1024 ![0, 0] prev slices_S20480x1024_S4096x1024_0_0)⟩, ⟨S16384x1024, (truncf .bf16 (shapeCast _ y shapeCasts_S4x4096x8x128_S16384x1024) bitsLt_bf16_f32)⟩] concatenates_S4096x1024_S16384x1024_S20480x1024_d0

set_option maxRecDepth 100000 in
theorem resultOf_apply (y : FVec Ideal S4x4096x8x128 .f32) (prev : FVec Ideal S20480x1024 .bf16) (r : Fin 20480) (c : Fin 1024) :
    resultOf y prev (ix2 r c) = if h : r.val < 4096 then prev (ix2 r c)
      else y (ix4 (⟨(r.val - 4096) / 4096, by omega⟩ : Fin 4) ⟨(r.val - 4096) % 4096, by omega⟩ (⟨c.val / 128, by omega⟩ : Fin 8) ⟨c.val % 128, by omega⟩) := by
  unfold resultOf
  generalize hz : truncf .bf16 (shapeCast S16384x1024 y shapeCasts_S4x4096x8x128_S16384x1024) bitsLt_bf16_f32 = z
  pointwise
  split
  · rfl
  · rename_i h
    rw [← hz]
    pointwise

def mixOf (x : FVec Ideal S20480x3072 .f32) (lp : FVec Ideal S4x64 .f32) (ck cv : FVec Ideal S4x256x8x128 .f32) : FVec Ideal S4x4096x8x128 .f32 :=
  mixRef (valuesIn x) cv (softRef (expRef (scoresRef (ropeRef (queriesIn x) (Host.cos rowAngles) (Host.sin rowAngles) (Host.cos colAngles) (Host.sin colAngles))
    (allKeys (ropeRef (keysIn x) (Host.cos rowAngles) (Host.sin rowAngles) (Host.cos colAngles) (Host.sin colAngles)) ck)))) (lamRef lp)

section
variable {x : FVec Ideal S20480x3072 .f32} {lp : FVec Ideal S4x64 .f32} {ck cv : FVec Ideal S4x256x8x128 .f32} (R : Reals x lp ck cv)

include R in
theorem query_real (b : Fin 4) (p : Fin 4096) (h : Fin 8) (i : Fin 2) (l : Fin 64) :
    ropeRef (queriesIn x) (Host.cos rowAngles) (Host.sin rowAngles) (Host.cos colAngles) (Host.sin colAngles) (ix4 b p ⟨h.val * 2 + i.val, by omega⟩ l)
      = ((queryAt x b h p (i * 64 + l) : ℝ) : EReal) := by
  rw [ropeRef_real _ b p ⟨h.val * 2 + i.val, by omega⟩ (fun l => rowsOf x (4096 + (b.val * 4096 + p.val)) (h.val * 128 + (i.val * 64 + l)))
    (fun l => by
      rw [queriesIn_apply, R.rows _ _ (by show 4096 ≤ 4096 + _; omega)]
      show ((rowsOf x (4096 + (b.val * 4096 + p.val)) ((h.val * 2 + i.val) * 64 + l.val) : ℝ) : EReal) = _
      rw [show (h.val * 2 + i.val) * 64 + l.val = h.val * 128 + (i.val * 64 + l.val) by omega])]
  exact congrArg _ (turn_shift (fun l => rowsOf x (4096 + (b.val * 4096 + p.val)) (h.val * 128 + l)) p i l)

include R in
theorem key_real (b : Fin 4) (k : Fin 4352) (h : Fin 8) (i : Fin 2) (l : Fin 64) :
    allKeys (ropeRef (keysIn x) (Host.cos rowAngles) (Host.sin rowAngles) (Host.cos colAngles) (Host.sin colAngles)) ck (ix5 b k h i l)
      = ((keyAt x ck b h k (i * 64 + l) : ℝ) : EReal) := by
  rw [allKeys_apply, keyAt]
  by_cases hk : k.val < 4096
  · rw [dif_pos hk, if_pos hk, ropeRef_real _ b ⟨k.val, hk⟩ ⟨h.val * 2 + i.val, by omega⟩ (fun l => rowsOf x (4096 + (b.val * 4096 + k.val)) (1024 + (h.val * 128 + (i.val * 64 + l))))
      (fun l => by
        rw [keysIn_apply, R.rows _ _ (by show 4096 ≤ 4096 + _; omega)]
        show ((rowsOf x (4096 + (b.val * 4096 + k.val)) (1024 + ((h.val * 2 + i.val) * 64 + l.val)) : ℝ) : EReal) = _
        rw [show (h.val * 2 + i.val) * 64 + l.val = h.val * 128 + (i.val * 64 + l.val) by omega])]
    exact congrArg _ (turn_shift (fun l => rowsOf x (4096 + (b.val * 4096 + k.val)) (1024 + (h.val * 128 + l))) k i l)
  · rw [dif_neg hk, if_neg hk, R.keys]

include R in
theorem score_real (b : Fin 4) (p : Fin 4096) (h : Fin 8) (i : Fin 2) (k : Fin 4352) :
    scoresRef (ropeRef (queriesIn x) (Host.cos rowAngles) (Host.sin rowAngles) (Host.cos colAngles) (Host.sin colAngles))
      (allKeys (ropeRef (keysIn x) (Host.cos rowAngles) (Host.sin rowAngles) (Host.cos colAngles) (Host.sin colAngles)) ck) (ix5 b h i p k)
      = ((score (queryAt x b h p) (keyAt x ck b h) i k : ℝ) : EReal) := by
  rw [scoresRef_apply, bits_eighth, score, EReal.coe_mul, Finset.sum_range fun d => queryAt x b h p (i * 64 + d) * keyAt x ck b h k (i * 64 + d), coe_sum]
  refine congrArg (· * _) (Finset.sum_congr rfl fun l _ => ?_)
  rw [query_real R, key_real R, EReal.coe_mul]

theorem soft_real (s : FVec Ideal S4x8x2x4096x4352 .f32) (b : Fin 4) (p : Fin 4096) (h : Fin 8) (i : Fin 2) (S : ℕ → ℝ)
    (hs : ∀ k : Fin 4352, s (ix5 b h i p k) = ((S k : ℝ) : EReal)) (k : Fin 4352) :
    softRef (expRef s) (ix5 b h i p k) = ((weight S 4352 k : ℝ) : EReal) := by
  obtain ⟨M, hM⟩ := fold_max_coe (T := 4352) (by norm_num) fun k => S k
  have he : ∀ k : Fin 4352, expRef s (ix5 b h i p k) = ((Real.exp (S k - M) : ℝ) : EReal) := by
    intro k
    rw [expRef_apply]
    simp only [hs]
    rw [hM, max_eq_right bot_le, ← EReal.coe_sub, Ideal.exp_coe]
  rw [softRef_apply]
  simp only [he]
  rw [← coe_sum, ← Finset.sum_range fun k => Real.exp (S k - M), Ideal.div_coe (exp_sum_pos (fun k => S k - M) (by norm_num)).ne', ← EReal.coe_mul,
    ← shifted_quotient S 4352 M k, mul_one_div]

include R in
theorem mixOf_real (b : Fin 4) (p : Fin 4096) (h : Fin 8) (e : Fin 128) :
    mixOf x lp ck cv (ix4 b p h e) = ((attended x lp ck cv b h p e : ℝ) : EReal) := by
  unfold mixOf attended mixed
  rw [mixRef_apply, Finset.sum_range fun k => valueAt x cv b h k e * (weight (score (queryAt x b h p) (keyAt x ck b h) 0) 4352 k
    - lamOf (lamsOf lp) * weight (score (queryAt x b h p) (keyAt x ck b h) 1) 4352 k), coe_sum]
  refine Finset.sum_congr rfl fun k _ => ?_
  rw [soft_real _ b p h 0 _ (fun k => score_real R b p h 0 k), soft_real _ b p h 1 _ (fun k => score_real R b p h 1 k), lamRef_apply, lam_real lp R.lams,
    ← EReal.coe_mul, ← EReal.coe_sub, EReal.coe_mul]
  refine congrArg (· * _) ?_
  unfold valueAt
  by_cases hk : k.val < 4096
  · rw [dif_pos hk, if_pos hk, valuesIn_apply, R.rows _ _ (by show 4096 ≤ 4096 + _; omega)]
  · rw [dif_neg hk, if_neg hk, R.values]

end

/-- The reference's result at an index: kept rows below 4096, the closed attention from there on. -/
theorem result_real {x : FVec Ideal S20480x3072 .f32} {lp : FVec Ideal S4x64 .f32} {ck cv : FVec Ideal S4x256x8x128 .f32} (R : Reals x lp ck cv)
    (g : FVec Ideal S128 .f32) (prev : FVec Ideal S20480x1024 .bf16) (r : Fin 20480) (c : Fin 1024) :
    resultOf (normRef (mixOf x lp ck cv) g) prev (ix2 r c) = if r.val < 4096 then prev (ix2 r c)
      else closed (attended x lp ck cv ((r.val - 4096) / 4096) (c.val / 128) ((r.val - 4096) % 4096)) (g (ix1 ⟨c.val % 128, by omega⟩)) (c.val % 128) := by
  rw [resultOf_apply]
  by_cases h : r.val < 4096
  · rw [dif_pos h, if_pos h]
  · rw [dif_neg h, if_neg h, normRef_apply]
    simp only [mixOf_real R]
    unfold closed
    rw [mul_assoc]

theorem mix_eq (V0 : Valuation τ sig (Elt Ideal)) :
    res_main_v176 V0 = mixOf (V0 (Proc.devRef .tc main_arg0)) (V0 (Proc.devRef .tc main_arg1)) (V0 (Proc.devRef .tc main_arg3)) (V0 (Proc.devRef .tc main_arg4)) := by
  rfl

end Cert.Proof.Ref

end
-- ==== Proof.Attn.Finite.lean ====
/-
  The precondition, read back: an entry below infinity in absolute value is a real.
-/
module

public import proofs.«01_k».proof.Pre_finite
public import proofs.«01_k».proof.Proof.Attn.Spec
public import Idealize.ShloMosaic.Lib.ReduceAll
public import Idealize.ShloMosaic.Lib.Pointwise

@[expose] public section

set_option maxRecDepth 65536

noncomputable section

namespace Cert.Proof.Attn

open Idealize.ShloMosaic Cert.Pre_finite Idealize.ShloMosaic.Pointwise

instance pre_facts : Cert.Pre_finite.Facts where
  slices_S20480x3072_S16384x3072_4096_0 := by decide +kernel
  bcast_S_S16384x3072 := by decide +kernel
  reducesTo_S16384x3072_S_d0_1 := by decide +kernel
  h_S_ := by decide +kernel
  bcast_S_S4x64 := by decide +kernel
  reducesTo_S4x64_S_d0_1 := by decide +kernel
  bcast_S_S4x256x8x128 := by decide +kernel
  reducesTo_S4x256x8x128_S_d0_1_2_3 := by decide +kernel

theorem bits_inf : Ideal.ofBits .f32 0x7F800000#32 = (⊤ : EReal) := by
  simp [Ideal.ofBits, Ideal.ieee]

theorem real_below (x : EReal) (h : (FloatOps.cmpf .olt (FloatOps.absf (x : Ideal .f32)) (Ideal.ofBits .f32 0x7F800000#32 : Ideal .f32)) = 1#1) :
    x = ((x.toReal : ℝ) : EReal) := by
  rw [Ideal.cmpf_def, Ideal.absf_def, bits_inf] at h
  have h' : max x (-x) < ⊤ := by
    by_contra hn
    simp [Ideal.cmp, hn] at h
  refine (EReal.coe_toReal ?_ ?_).symm
  · rintro rfl; simp at h'
  · rintro rfl; simp at h'

/-- One array's part of the precondition. -/
theorem real_entry {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu
      = fun _ => 1#1) (i : s.Idx) : x i = (((x i : EReal).toReal : ℝ) : EReal) := by
  haveI : Subsingleton S_.Idx := ⟨fun a b => funext fun k => k.elim0⟩
  exact real_below _ (Host.reduce_andi_all _ _ hr hu (fun k => k.elim0) (congrFun h _) i)

theorem andi_one {a b : IVec S_ 1} (h : andi a b = fun _ => 1#1) : a = (fun _ => 1#1) ∧ b = fun _ => 1#1 := by
  have e : ∀ p q : BitVec 1, IntOp.andi p q = 1#1 → p = 1#1 ∧ q = 1#1 := by decide
  exact ⟨funext fun i => (e _ _ (congrFun h i)).1, funext fun i => (e _ _ (congrFun h i)).2⟩

theorem reals_of_pre (x : FVec Ideal S20480x3072 .f32) (lp : FVec Ideal S4x64 .f32) (g : FVec Ideal S128 .f32) (ck cv : FVec Ideal S4x256x8x128 .f32)
    (prev : FVec Ideal S20480x1024 .bf16) (h : Cert.Pre_finite.fn (F := Ideal) x lp g ck cv prev = fun _ => 1#1) : Reals x lp ck cv := by
  unfold Cert.Pre_finite.fn Cert.Pre_finite.fn_part1 at h
  obtain ⟨h, h4⟩ := andi_one h
  obtain ⟨h, h3⟩ := andi_one h
  obtain ⟨h1, h2⟩ := andi_one h
  have r1 := real_entry _ _ _ _ h1
  have r2 := real_entry _ _ _ _ h2
  have r3 := real_entry _ _ _ _ h3
  have r4 := real_entry _ _ _ _ h4
  clear h1 h2 h3 h4
  refine ⟨fun r c hr => ?_, fun i d => ?_, fun b k h l => ?_, fun b k h l => ?_⟩
  · have e := r1 (ix2 (⟨r.val - 4096, by omega⟩ : Fin 16384) c)
    have e' : extractStridedSlice S16384x3072 ![4096, 0] x pre_facts.slices_S20480x3072_S16384x3072_4096_0 (ix2 (⟨r.val - 4096, by omega⟩ : Fin 16384) c)
        = x (ix2 r c) := by
      refine congrArg x ?_
      funext a
      match a with
      | 0 => exact Fin.ext (by show 4096 + (r.val - 4096) = r.val; omega)
      | 1 => exact Fin.ext (by show 0 + c.val = c.val; omega)
    dsimp only at e
    rw [e'] at e
    rw [rowsOf, dif_pos ⟨r.isLt, c.isLt⟩]
    exact e
  · rw [lamsOf, dif_pos ⟨i.isLt, d.isLt⟩]
    exact r2 _
  · rw [cacheOf, dif_pos ⟨⟨b.isLt, k.isLt⟩, h.isLt, l.isLt⟩]
    exact r3 _
  · rw [cacheOf, dif_pos ⟨⟨b.isLt, k.isLt⟩, h.isLt, l.isLt⟩]
    exact r4 _

end Cert.Proof.Attn

end
-- ==== Proof.Attn.Claims.lean ====
/-
  The claims: both programs run and keep their arguments, the named constant, and one result for both programs.
-/
module

public import proofs.«01_k».proof.Defs
public import proofs.«01_k».proof.Proof.Gen.Kernel.Frame
public import proofs.«01_k».proof.Proof.Attn.Array
public import proofs.«01_k».proof.Proof.Attn.RefC
public import proofs.«01_k».proof.Proof.Attn.Finite

@[expose] public section

set_option maxRecDepth 65536

noncomputable section

open Idealize.ShloMosaic Idealize.ShloMosaic.TcCoe Idealize.SL.Sem Idealize.ShloMosaic.Pointwise

namespace Cert.Proof.Attn

/-- The reference's result is the wanted function of its arguments. -/
theorem reference_wanted {x : FVec Ideal Cert.ReferenceIdeal.S20480x3072 .f32} {lp : FVec Ideal Cert.ReferenceIdeal.S4x64 .f32}
    {ck cv : FVec Ideal Cert.ReferenceIdeal.S4x256x8x128 .f32} (R : Reals x lp ck cv)
    (g : FVec Ideal Cert.ReferenceIdeal.S128 .f32) (prev : FVec Ideal Cert.ReferenceIdeal.S20480x1024 .bf16) :
    Cert.Proof.Ref.resultOf (Cert.Proof.Ref.normRef (Cert.Proof.Ref.mixOf x lp ck cv) g) prev = wanted x lp g ck cv prev := by
  funext j
  have hj : ∃ (r : Fin 20480) (c : Fin 1024), j = ix2 r c := ⟨j 0, j 1, by funext a; match a with | 0 => rfl | 1 => rfl⟩
  obtain ⟨r, c, rfl⟩ := hj
  exact Cert.Proof.Ref.result_real R g prev r c

/-- The same from equal arguments. -/
theorem reference_result {x x' : FVec Ideal Cert.ReferenceIdeal.S20480x3072 .f32} {lp lp' : FVec Ideal Cert.ReferenceIdeal.S4x64 .f32}
    {g g' : FVec Ideal Cert.ReferenceIdeal.S128 .f32} {ck ck' cv cv' : FVec Ideal Cert.ReferenceIdeal.S4x256x8x128 .f32}
    {prev prev' : FVec Ideal Cert.ReferenceIdeal.S20480x1024 .bf16} (e0 : x' = x) (e1 : lp' = lp) (e2 : g' = g) (e3 : ck' = ck) (e4 : cv' = cv)
    (e5 : prev' = prev) (R : Reals x lp ck cv) :
    Cert.Proof.Ref.resultOf (Cert.Proof.Ref.normRef (Cert.Proof.Ref.mixOf x' lp' ck' cv') g') prev' = wanted x lp g ck cv prev := by
  rw [e0, e1, e2, e3, e4, e5]
  exact reference_wanted R g prev

theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "qk_scale" .f32 0x3E38AA3B#32 (((1 / 8) * (Real.log 2)⁻¹ : ℝ) : EReal) rfl

theorem algebraic : Cert.algebraic_KernelIdeal_ReferenceIdeal_pre_finite := by
  intro m ρ m' ρ' hpre hag
  have R : ∀ c, RealArgs m c := fun c => reals_of_pre _ _ _ _ _ _ (hpre c)
  refine ⟨fun c => wanted (argX m c) (argL m c) (argG m c) (argCK m c) (argCV m c) (m (c, Proc.devRef .tc Cert.KernelIdeal.main_arg5)),
    (θ_run Cert.KernelIdeal.defs _ _).mono (fun _ h c => ⟨(h c).1.trans (kernel_array (R c)), (h c).2⟩) (Cert.KernelIdeal.Value.run_blocks (F := Ideal) m ρ), ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5⟩ := hag c
  rw [Cert.Proof.Ref.mix_eq]
  exact reference_result e0 e1 e2 e3 e4 e5 (R c)

end Cert.Proof.Attn

end
-- ==== Proof.Dense.Common.lean ====
/-
  What the projections share: a rank-2 or rank-3 array from its entries, and the gate's sigmoid through the hyperbolic tangent.
-/
module

public import Idealize.ShloMosaic.PureOps.Ideal
public import Idealize.ShloMosaic.PureOps.Ideal.Laws
public import Idealize.ShloMosaic.Lib.Pointwise

@[expose] public section

noncomputable section

namespace Cert.Proof.Dense

open Idealize.ShloMosaic Idealize.ShloMosaic.Pointwise

theorem pair_index {A B : ℕ} (i : Shape.Idx ⟨2, ![A, B]⟩) : ∃ (r : Fin A) (j : Fin B), i = ix2 r j :=
  ⟨i 0, i 1, by funext a; match a with | 0 => rfl | 1 => rfl⟩

theorem triple_index {A B C : ℕ} (i : Shape.Idx ⟨3, ![A, B, C]⟩) : ∃ (e : Fin A) (r : Fin B) (j : Fin C), i = ix3 e r j :=
  ⟨i 0, i 1, i 2, by funext a; match a with | 0 => rfl | 1 => rfl | 2 => rfl⟩

/-- Half the hyperbolic tangent of half a real, plus a half, is the sigmoid. -/
theorem sigmoid_real (r : ℝ) : 1 / 2 * Real.tanh (1 / 2 * r) + 1 / 2 = 1 / (1 + Real.exp (-r)) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have hb : b = a⁻¹ := by field_simp; linarith
  subst hb
  field_simp
  ring

/-- The same of every extended real. -/
theorem sigmoid (x : EReal) : ((1 / 2 : ℝ) : EReal) * Ideal.tanh (((1 / 2 : ℝ) : EReal) * x) + ((1 / 2 : ℝ) : EReal)
    = Ideal.logistic x := by
  induction x with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add, sigmoid_real, one_div]

/-- One entry of a row scaled by the reciprocal root of its mean square (the small constant added), and by its column's scale. -/
def normed (y g : Fin 2048 → EReal) (j : Fin 2048) : EReal :=
  y j * Ideal.rsqrt (Ideal.div (∑ k : Fin 2048, y k * y k) (Ideal.ofBits .f32 1157627904#32) + Ideal.ofBits .f32 897988541#32) * g j

end Cert.Proof.Dense

end
-- ==== Proof.Dense.Gates.lean ====
/-
  The gates: the rows against the first layer's gate matrix, its bias added, through the sigmoid.
-/
module

public import proofs.«01_k».proof.Defs
public import proofs.«01_k».proof.Proof.Dense.Common
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.Gates

open Idealize.ShloMosaic Cert.Kernel2Ideal Cert.Kernel2Ideal.Gen Idealize.ShloMosaic.Pointwise Idealize.ShloMosaic.TcCoe Idealize.SL.Sem
open Idealize.ShloMosaic.Pipeline (Dat)

/-- One entry of the result: the sigmoid of a row against a column of the first layer's matrix, its bias added. -/
def entry (x : FVec Ideal S20480x2048 .bf16) (w : FVec Ideal S2x2048x6144 .f32) (b : FVec Ideal S2x6144 .f32) (r : Fin 20480) (j : Fin 6144) : EReal :=
  Ideal.logistic ((∑ k : Fin 2048, x (ix2 r k) * w (ix3 0 k j)) + b (ix2 0 j))

/-- The result of both programs as one function of their arguments. -/
def wanted (x : FVec Ideal S20480x2048 .bf16) (w : FVec Ideal S2x2048x6144 .f32) (b : FVec Ideal S2x6144 .f32) : FVec Ideal S20480x6144 .bf16 :=
  fun i => entry x w b (i 0) (i 1)

theorem indices : ∀ t : Fin cfg0.N, win0_0.index t = ![t.val % 20, 0] ∧ win0_1.index t = ![0, 0, t.val / 20]
    ∧ win0_2.index t = ![0, 0, t.val / 20] ∧ win0_3.index t = ![t.val % 20, t.val / 20] := by
  decide +kernel

theorem kept_payload (v : FVec Ideal S1x2048x1024 .f32) (k : Fin 2048) (l : Fin 1024) :
    (k0_pay1 (F := Ideal) v (ix2 k l) : EReal) = v (ix3 0 k l) := by
  pointwise [k0_pay1]

theorem half_word : Ideal.ofBits .f32 1056964608#32 = ((1 / 2 : ℝ) : EReal) := by
  simp [Ideal.ofBits, Ideal.ieee, -EReal.coe_mul]
  norm_num

theorem gate_payload (a : FVec Ideal S1024x2048 .bf16) (b : FVec Ideal S2048x1024 .bf16) (d : FVec Ideal S1x1x1024 .f32) (r l : Fin 1024) :
    (k0_pay2 (F := Ideal) a b d (ix2 r l) : EReal) = Ideal.logistic ((∑ k : Fin 2048, a (ix2 r k) * b (ix2 k l)) + d (ix3 0 0 l)) := by
  rw [← Dense.sigmoid, ← half_word]
  pointwise [k0_pay2]

variable (m : (ℓ : Loc nD τ sig) → Buf (Elt Ideal) ℓ) (c : Dev nD)

theorem bias (j : Fin 6144) : (V m c main_v0 : FVec Ideal S2x1x6144 .f32) (ix3 0 0 j) = m (c, Proc.devRef .tc main_arg2) (ix2 0 j) := by
  unfold V
  after_reads_at

theorem kept_first (t : Fin cfg0.N) (h0 : t.val % 20 = 0) : (outsAt0 m c t.val t.isLt).2 = k0_pay1 (iblk m c 1 t) := by
  rw [outsAt0_A m c t h0]
  dsimp only
  frame_out

theorem kept_rest (t : Fin cfg0.N) (h0 : ¬ t.val % 20 = 0) :
    (outsAt0 m c t.val t.isLt).2 = (outsAt0 m c (t.val - 1) (Nat.lt_of_le_of_lt (Nat.sub_le _ _) t.isLt)).2 := by
  rw [outsAt0_B m c t h0]
  rfl

theorem written (t : Fin cfg0.N) : (outsAt0 m c t.val t.isLt).1 = k0_pay2 (iblk m c 0 t) (outsAt0 m c t.val t.isLt).2 (iblk m c 2 t) := by
  by_cases h0 : t.val % 20 = 0
  · rw [kept_first m c t h0, outsAt0_A m c t h0]
    dsimp only
    frame_out
  · rw [kept_rest m c t h0, outsAt0_B m c t h0]
    dsimp only
    frame_out
    simp only [read_unread_whole]

/-- The matrix columns kept beside the run of points `t` is in. -/
theorem kept (t : Fin cfg0.N) (k : Fin 2048) (l : Fin 1024) (q : Fin 6144) (hq : q.val = t.val / 20 * 1024 + l.val) :
    (outsAt0 m c t.val t.isLt).2 (ix2 k l) = m (c, Proc.devRef .tc main_arg1) (ix3 0 k q) := by
  rw [Pipeline.eq_of_write_hold (fun n h => (outsAt0 m c n h).2) 20 (fun t => k0_pay1 (iblk m c 1 t)) (kept_first m c) (kept_rest m c) t]
  refine (kept_payload _ k l).trans ?_
  blk_ext [iblk, V, indices ⟨20 * (t.val / 20), Pipeline.run_start_lt t⟩]

theorem block_entry (t : Fin cfg0.N) (r : Fin 20480) (i : Fin 1024) (hr : r.val = t.val % 20 * 1024 + i.val)
    (j : Fin 6144) (l : Fin 1024) (hj : j.val = t.val / 20 * 1024 + l.val) :
    (dats m 0 c).after 3 t (ix2 i l)
      = entry (m (c, Proc.devRef .tc main_arg0)) (m (c, Proc.devRef .tc main_arg1)) (m (c, Proc.devRef .tc main_arg2)) r j := by
  have h2 : (iblk m c 2 t : FVec Ideal S1x1x1024 .f32) (ix3 0 0 l) = m (c, Proc.devRef .tc main_arg2) (ix2 0 j) := by
    refine Eq.trans ?_ (bias m c j)
    blk_ext [iblk, indices t]
  rw [after0_3, written]
  refine (gate_payload _ _ _ i l).trans ?_
  unfold entry
  rw [h2]
  congr 2
  refine Finset.sum_congr rfl fun k _ => ?_
  rw [kept m c t k l j (by omega)]
  congr 1
  blk_ext [iblk, V, indices t]

theorem kernel_array : (dats m 0 c).arrAt 3 cfg0.N
    = wanted (m (c, Proc.devRef .tc main_arg0)) (m (c, Proc.devRef .tc main_arg1)) (m (c, Proc.devRef .tc main_arg2)) := by
  refine (dats m 0 c).arrAt_eq_of_covers 3 _ (by decide +kernel) (fun t hf y => ?_)
  blk_simp
  have e0 : (((win0_3.blk t).view.emb y) 0 : ℕ) = t.val % 20 * 1024 + (y 0 : ℕ) := by blk_simp [indices t]
  have e1 : (((win0_3.blk t).view.emb y) 1 : ℕ) = t.val / 20 * 1024 + (y 1 : ℕ) := by blk_simp [indices t]
  have y0 : (y 0 : ℕ) < 1024 := (y 0).isLt
  have y1 : (y 1 : ℕ) < 1024 := (y 1).isLt
  refine (show _ = (dats m 0 c).after 3 t (ix2 (⟨(y 0 : ℕ), y0⟩ : Fin 1024) (⟨(y 1 : ℕ), y1⟩ : Fin 1024)) from congrArg _ (by
    funext a; match a with | 0 => rfl | 1 => rfl)).trans ?_
  exact block_entry m c t (((win0_3.blk t).view.emb y) 0) _ e0 (((win0_3.blk t).view.emb y) 1) _ e1

theorem reference_entry (x : FVec Ideal S20480x2048 .bf16) (w : FVec Ideal S2x2048x6144 .f32) (b : FVec Ideal S2x6144 .f32)
    (v : FVec Ideal S20480x6144 .bf16) (h : ∀ r j, v (ix2 r j) = entry x w b r j) : v = wanted x w b := by
  funext i
  obtain ⟨r, j, rfl⟩ := Dense.pair_index i
  exact h r j

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m ρ m' ρ' _ hag
  refine ⟨fun c => wanted (m (c, Proc.devRef .tc main_arg0)) (m (c, Proc.devRef .tc main_arg1)) (m (c, Proc.devRef .tc main_arg2)),
    (θ_run Cert.Kernel2Ideal.defs _ _).mono (fun _ h c => ⟨(h c).1.trans (kernel_array m c), (h c).2⟩) (Cert.Kernel2Ideal.Value.run_blocks (F := Ideal) m ρ), ?_⟩
  refine (θ_run Cert.Reference2Ideal.defs _ _).mono (fun _ h c => ⟨(h c).1.trans ?_, (h c).2⟩) (Cert.Reference2Ideal.Value.run (F := Ideal) m' ρ')
  obtain ⟨e0, e1, e2⟩ := hag c
  dsimp only
  rw [e0, e1, e2]
  refine reference_entry _ _ _ _ fun r j => ?_
  unfold entry Ideal.logistic
  pointwise

end Cert.Proof.Gates

end
-- ==== Proof.Dense.Mix.lean ====
/-
  The mixing part of the first projection: the rows against columns 3072 to 7168 of the first layer's matrix.
-/
module

public import proofs.«01_k».proof.Defs
public import proofs.«01_k».proof.Proof.Dense.Common
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 65536

noncomputable section

namespace Cert.Proof.Mix

open Idealize.ShloMosaic Cert.Kernel3Ideal Cert.Kernel3Ideal.Gen Idealize.ShloMosaic.Pointwise Idealize.ShloMosaic.TcCoe Idealize.SL.Sem
open Idealize.ShloMosaic.Pipeline (Dat)

/-- One entry of the result: a row against a column of the first layer's matrix. -/
def entry (x : FVec Ideal S20480x2048 .bf16) (w : FVec Ideal S2x2048x7168 .f32) (r : Fin 20480) (j : Fin 4096) : EReal :=
  ∑ k : Fin 2048, x (ix2 r k) * w (ix3 0 k ⟨3072 + j.val, by omega⟩)

/-- The result of both programs as one function of their arguments. -/
def wanted (x : FVec Ideal S20480x2048 .bf16) (w : FVec Ideal S2x2048x7168 .f32) : FVec Ideal S20480x4096 .bf16 := fun i => entry x w (i 0) (i 1)

theorem indices : ∀ t : Fin cfg0.N, win0_0.index t = ![t.val % 20, 0] ∧ win0_1.index t = ![0, 0, 3 + t.val / 20]
    ∧ win0_2.index t = ![t.val % 20, t.val / 20] := by
  decide +kernel

theorem kept_payload (v : FVec Ideal S1x2048x1024 .f32) (k : Fin 2048) (l : Fin 1024) :
    (k0_pay1 (F := Ideal) v (ix2 k l) : EReal) = v (ix3 0 k l) := by
  pointwise [k0_pay1]

theorem product_payload (a : FVec Ideal S1024x2048 .bf16) (b : FVec Ideal S2048x1024 .bf16) (r l : Fin 1024) :
    (k0_pay2 (F := Ideal) a b (ix2 r l) : EReal) = ∑ k : Fin 2048, a (ix2 r k) * b (ix2 k l) := by
  pointwise [k0_pay2]

variable (m : (ℓ : Loc nD τ sig) → Buf (Elt Ideal) ℓ) (c : Dev nD)

theorem kept_first (t : Fin cfg0.N) (h0 : t.val % 20 = 0) : (outsAt0 m c t.val t.isLt).2 = k0_pay1 (iblk m c 1 t) := by
  rw [outsAt0_A m c t h0]
  dsimp only
  frame_out

theorem kept_rest (t : Fin cfg0.N) (h0 : ¬ t.val % 20 = 0) :
    (outsAt0 m c t.val t.isLt).2 = (outsAt0 m c (t.val - 1) (Nat.lt_of_le_of_lt (Nat.sub_le _ _) t.isLt)).2 := by
  rw [outsAt0_B m c t h0]
  rfl

theorem written (t : Fin cfg0.N) : (outsAt0 m c t.val t.isLt).1 = k0_pay2 (iblk m c 0 t) (outsAt0 m c t.val t.isLt).2 := by
  by_cases h0 : t.val % 20 = 0
  · rw [kept_first m c t h0, outsAt0_A m c t h0]
    dsimp only
    frame_out
  · rw [kept_rest m c t h0, outsAt0_B m c t h0]
    dsimp only
    frame_out
    simp only [read_unread_whole]

/-- The matrix columns kept beside the run of points `t` is in. -/
theorem kept (t : Fin cfg0.N) (k : Fin 2048) (l : Fin 1024) (q : Fin 7168) (hq : q.val = (3 + t.val / 20) * 1024 + l.val) :
    (outsAt0 m c t.val t.isLt).2 (ix2 k l) = m (c, Proc.devRef .tc main_arg1) (ix3 0 k q) := by
  rw [Pipeline.eq_of_write_hold (fun n h => (outsAt0 m c n h).2) 20 (fun t => k0_pay1 (iblk m c 1 t)) (kept_first m c) (kept_rest m c) t]
  refine (kept_payload _ k l).trans ?_
  blk_ext [iblk, V, indices ⟨20 * (t.val / 20), Pipeline.run_start_lt t⟩]

theorem block_entry (t : Fin cfg0.N) (r : Fin 20480) (i : Fin 1024) (hr : r.val = t.val % 20 * 1024 + i.val)
    (j : Fin 4096) (l : Fin 1024) (hj : j.val = t.val / 20 * 1024 + l.val) :
    (dats m 0 c).after 2 t (ix2 i l) = entry (m (c, Proc.devRef .tc main_arg0)) (m (c, Proc.devRef .tc main_arg1)) r j := by
  rw [after0_2, written]
  refine (product_payload _ _ i l).trans ?_
  unfold entry
  refine Finset.sum_congr rfl fun k _ => ?_
  rw [kept m c t k l ⟨3072 + j.val, by omega⟩ (by simp only; omega)]
  congr 1
  blk_ext [iblk, V, indices t]

theorem kernel_array : (dats m 0 c).arrAt 2 cfg0.N = wanted (m (c, Proc.devRef .tc main_arg0)) (m (c, Proc.devRef .tc main_arg1)) := by
  refine (dats m 0 c).arrAt_eq_of_covers 2 _ (by decide +kernel) (fun t hf y => ?_)
  blk_simp
  have e0 : (((win0_2.blk t).view.emb y) 0 : ℕ) = t.val % 20 * 1024 + (y 0 : ℕ) := by blk_simp [indices t]
  have e1 : (((win0_2.blk t).view.emb y) 1 : ℕ) = t.val / 20 * 1024 + (y 1 : ℕ) := by blk_simp [indices t]
  have y0 : (y 0 : ℕ) < 1024 := (y 0).isLt
  have y1 : (y 1 : ℕ) < 1024 := (y 1).isLt
  refine (show _ = (dats m 0 c).after 2 t (ix2 (⟨(y 0 : ℕ), y0⟩ : Fin 1024) (⟨(y 1 : ℕ), y1⟩ : Fin 1024)) from congrArg _ (by
    funext a; match a with | 0 => rfl | 1 => rfl)).trans ?_
  exact block_entry m c t (((win0_2.blk t).view.emb y) 0) _ e0 (((win0_2.blk t).view.emb y) 1) _ e1

theorem reference_entry (x : FVec Ideal S20480x2048 .bf16) (w : FVec Ideal S2x2048x7168 .f32) (v : FVec Ideal S20480x4096 .bf16)
    (h : ∀ r j, v (ix2 r j) = entry x w r j) : v = wanted x w := by
  funext i
  obtain ⟨r, j, rfl⟩ := Dense.pair_index i
  exact h r j

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hag
  refine ⟨fun c => wanted (m (c, Proc.devRef .tc main_arg0)) (m (c, Proc.devRef .tc main_arg1)),
    (θ_run Cert.Kernel3Ideal.defs _ _).mono (fun _ h c => ⟨(h c).1.trans (kernel_array m c), (h c).2⟩) (Cert.Kernel3Ideal.Value.run_blocks (F := Ideal) m ρ), ?_⟩
  refine (θ_run Cert.Reference3Ideal.defs _ _).mono (fun _ h c => ⟨(h c).1.trans ?_, (h c).2⟩) (Cert.Reference3Ideal.Value.run (F := Ideal) m' ρ')
  obtain ⟨e0, e1⟩ := hag c
  dsimp only
  rw [e0, e1]
  refine reference_entry _ _ _ fun r j => ?_
  unfold entry
  pointwise

end Cert.Proof.Mix

end
-- ==== Proof.Dense.Qkv.lean ====
/-
  The attention's part of the first projection: the rows against the first 3072 columns of the first layer's matrix, kept in 32 bits.
-/
module

public import proofs.«01_k».proof.Defs
public import proofs.«01_k».proof.Proof.Dense.Common
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 65536

noncomputable section

namespace Cert.Proof.Qkv

open Idealize.ShloMosaic Cert.Kernel4Ideal Cert.Kernel4Ideal.Gen Idealize.ShloMosaic.Pointwise Idealize.ShloMosaic.TcCoe Idealize.SL.Sem
open Idealize.ShloMosaic.Pipeline (Dat)

/-- One entry of the result: a row against a column of the first layer's matrix. -/
def entry (x : FVec Ideal S20480x2048 .bf16) (w : FVec Ideal S2x2048x7168 .f32) (r : Fin 20480) (j : Fin 3072) : EReal :=
  ∑ k : Fin 2048, x (ix2 r k) * w (ix3 0 k ⟨j.val, by omega⟩)

/-- The result of both programs as one function of their arguments. -/
def wanted (x : FVec Ideal S20480x2048 .bf16) (w : FVec Ideal S2x2048x7168 .f32) : FVec Ideal S20480x3072 .f32 := fun i => entry x w (i 0) (i 1)

theorem indices : ∀ t : Fin cfg0.N, win0_0.index t = ![t.val % 20, 0] ∧ win0_1.index t = ![0, 0, t.val / 20]
    ∧ win0_2.index t = ![t.val % 20, t.val / 20] := by
  decide +kernel

theorem kept_payload (v : FVec Ideal S1x2048x1024 .f32) (k : Fin 2048) (l : Fin 1024) :
    (k0_pay1 (F := Ideal) v (ix2 k l) : EReal) = v (ix3 0 k l) := by
  pointwise [k0_pay1]

theorem product_payload (a : FVec Ideal S1024x2048 .bf16) (b : FVec Ideal S2048x1024 .bf16) (r l : Fin 1024) :
    (k0_pay2 (F := Ideal) a b (ix2 r l) : EReal) = ∑ k : Fin 2048, a (ix2 r k) * b (ix2 k l) := by
  pointwise [k0_pay2]

variable (m : (ℓ : Loc nD τ sig) → Buf (Elt Ideal) ℓ) (c : Dev nD)

theorem kept_first (t : Fin cfg0.N) (h0 : t.val % 20 = 0) : (outsAt0 m c t.val t.isLt).2 = k0_pay1 (iblk m c 1 t) := by
  rw [outsAt0_A m c t h0]
  dsimp only
  frame_out

theorem kept_rest (t : Fin cfg0.N) (h0 : ¬ t.val % 20 = 0) :
    (outsAt0 m c t.val t.isLt).2 = (outsAt0 m c (t.val - 1) (Nat.lt_of_le_of_lt (Nat.sub_le _ _) t.isLt)).2 := by
  rw [outsAt0_B m c t h0]
  rfl

theorem written (t : Fin cfg0.N) : (outsAt0 m c t.val t.isLt).1 = k0_pay2 (iblk m c 0 t) (outsAt0 m c t.val t.isLt).2 := by
  by_cases h0 : t.val % 20 = 0
  · rw [kept_first m c t h0, outsAt0_A m c t h0]
    dsimp only
    frame_out
  · rw [kept_rest m c t h0, outsAt0_B m c t h0]
    dsimp only
    frame_out
    simp only [read_unread_whole]

/-- The matrix columns kept beside the run of points `t` is in. -/
theorem kept (t : Fin cfg0.N) (k : Fin 2048) (l : Fin 1024) (q : Fin 7168) (hq : q.val = t.val / 20 * 1024 + l.val) :
    (outsAt0 m c t.val t.isLt).2 (ix2 k l) = m (c, Proc.devRef .tc main_arg1) (ix3 0 k q) := by
  rw [Pipeline.eq_of_write_hold (fun n h => (outsAt0 m c n h).2) 20 (fun t => k0_pay1 (iblk m c 1 t)) (kept_first m c) (kept_rest m c) t]
  refine (kept_payload _ k l).trans ?_
  blk_ext [iblk, V, indices ⟨20 * (t.val / 20), Pipeline.run_start_lt t⟩]

theorem block_entry (t : Fin cfg0.N) (r : Fin 20480) (i : Fin 1024) (hr : r.val = t.val % 20 * 1024 + i.val)
    (j : Fin 3072) (l : Fin 1024) (hj : j.val = t.val / 20 * 1024 + l.val) :
    (dats m 0 c).after 2 t (ix2 i l) = entry (m (c, Proc.devRef .tc main_arg0)) (m (c, Proc.devRef .tc main_arg1)) r j := by
  rw [after0_2, written]
  refine (product_payload _ _ i l).trans ?_
  unfold entry
  refine Finset.sum_congr rfl fun k _ => ?_
  rw [kept m c t k l ⟨j.val, by omega⟩ (by simp only; omega)]
  congr 1
  blk_ext [iblk, V, indices t]

theorem kernel_array : (dats m 0 c).arrAt 2 cfg0.N = wanted (m (c, Proc.devRef .tc main_arg0)) (m (c, Proc.devRef .tc main_arg1)) := by
  refine (dats m 0 c).arrAt_eq_of_covers 2 _ (by decide +kernel) (fun t hf y => ?_)
  blk_simp
  have e0 : (((win0_2.blk t).view.emb y) 0 : ℕ) = t.val % 20 * 1024 + (y 0 : ℕ) := by blk_simp [indices t]
  have e1 : (((win0_2.blk t).view.emb y) 1 : ℕ) = t.val / 20 * 1024 + (y 1 : ℕ) := by blk_simp [indices t]
  have y0 : (y 0 : ℕ) < 1024 := (y 0).isLt
  have y1 : (y 1 : ℕ) < 1024 := (y 1).isLt
  refine (show _ = (dats m 0 c).after 2 t (ix2 (⟨(y 0 : ℕ), y0⟩ : Fin 1024) (⟨(y 1 : ℕ), y1⟩ : Fin 1024)) from congrArg _ (by
    funext a; match a with | 0 => rfl | 1 => rfl)).trans ?_
  exact block_entry m c t (((win0_2.blk t).view.emb y) 0) _ e0 (((win0_2.blk t).view.emb y) 1) _ e1

theorem reference_entry (x : FVec Ideal S20480x2048 .bf16) (w : FVec Ideal S2x2048x7168 .f32) (v : FVec Ideal S20480x3072 .f32)
    (h : ∀ r j, v (ix2 r j) = entry x w r j) : v = wanted x w := by
  funext i
  obtain ⟨r, j, rfl⟩ := Dense.pair_index i
  exact h r j

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hag
  refine ⟨fun c => wanted (m (c, Proc.devRef .tc main_arg0)) (m (c, Proc.devRef .tc main_arg1)),
    (θ_run Cert.Kernel4Ideal.defs _ _).mono (fun _ h c => ⟨(h c).1.trans (kernel_array m c), (h c).2⟩) (Cert.Kernel4Ideal.Value.run_blocks (F := Ideal) m ρ), ?_⟩
  refine (θ_run Cert.Reference4Ideal.defs _ _).mono (fun _ h c => ⟨(h c).1.trans ?_, (h c).2⟩) (Cert.Reference4Ideal.Value.run (F := Ideal) m' ρ')
  obtain ⟨e0, e1⟩ := hag c
  dsimp only
  rw [e0, e1]
  refine reference_entry _ _ _ fun r j => ?_
  unfold entry
  pointwise

end Cert.Proof.Qkv

end
-- ==== Proof.Dense.Down.lean ====
/-
  The experts' way down: every expert's rows times its weight matrix, each row scaled by its gate.
-/
module

public import proofs.«01_k».proof.Defs
public import proofs.«01_k».proof.Proof.Dense.Common
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.Down

open Idealize.ShloMosaic Cert.Kernel5Ideal Cert.Kernel5Ideal.Gen Idealize.ShloMosaic.Pointwise Idealize.ShloMosaic.TcCoe Idealize.SL.Sem
open Idealize.ShloMosaic.Pipeline (Dat)

/-- One entry of the result: a row of an expert against a column of its matrix, scaled by the row's gate. -/
def entry (x : FVec Ideal S16x2560x2048 .bf16) (w : FVec Ideal S2x16x2048x2048 .f32) (g : FVec Ideal S16x2560 .f32)
    (e : Fin 16) (r : Fin 2560) (j : Fin 2048) : EReal :=
  (∑ k : Fin 2048, x (ix3 e r k) * w (ix4 0 e k j)) * g (ix2 e r)

/-- The result of both programs as one function of their arguments. -/
def wanted (x : FVec Ideal S16x2560x2048 .bf16) (w : FVec Ideal S2x16x2048x2048 .f32) (g : FVec Ideal S16x2560 .f32) :
    FVec Ideal S16x2560x2048 .f32 := fun i => entry x w g (i 0) (i 1) (i 2)

theorem indices : ∀ t : Fin cfg0.N, win0_0.index t = ![t.val / 4, 0, 0] ∧ win0_1.index t = ![0, t.val / 4, 0, t.val % 4]
    ∧ win0_2.index t = ![t.val / 4, 0, 0] ∧ win0_3.index t = ![t.val / 4, 0, t.val % 4] := by
  decide +kernel

theorem payload (v0 : FVec Ideal S1x2560x2048 .bf16) (v2 : FVec Ideal S1x1x2048x512 .f32) (v6 : FVec Ideal S1x2560x1 .f32)
    (r : Fin 2560) (j : Fin 512) :
    (k0_pay1 (F := Ideal) v0 v2 v6 (ix3 0 r j) : EReal) = (∑ k : Fin 2048, v0 (ix3 0 r k) * v2 (ix4 0 0 k j)) * v6 (ix3 0 r 0) := by
  pointwise [k0_pay1]

variable (m : (ℓ : Loc nD τ sig) → Buf (Elt Ideal) ℓ) (c : Dev nD)

theorem gates (e : Fin 16) (r : Fin 2560) :
    (V m c main_v0 : FVec Ideal S16x2560x1 .f32) (ix3 e r 0) = m (c, Proc.devRef .tc main_arg2) (ix2 e r) := by
  unfold V
  after_reads_at

theorem block_entry (t : Fin cfg0.N) (e : Fin 16) (he : e.val = t.val / 4) (j : Fin 2048) (l : Fin 512) (hj : j.val = t.val % 4 * 512 + l.val)
    (r : Fin 2560) :
    (dats m 0 c).after 3 t (ix3 0 r l) = entry (m (c, Proc.devRef .tc main_arg0)) (m (c, Proc.devRef .tc main_arg1)) (m (c, Proc.devRef .tc main_arg2)) e r j := by
  rw [after0_3]
  have h0 : ∀ k : Fin 2048, (iblk m c 0 t : FVec Ideal S1x2560x2048 .bf16) (ix3 0 r k) = m (c, Proc.devRef .tc main_arg0) (ix3 e r k) := fun k => by
    blk_ext [iblk, V, indices t]
  have h1 : ∀ k : Fin 2048, (iblk m c 1 t : FVec Ideal S1x1x2048x512 .f32) (ix4 0 0 k l) = m (c, Proc.devRef .tc main_arg1) (ix4 0 e k j) := fun k => by
    blk_ext [iblk, V, indices t]
  have h2 : (iblk m c 2 t : FVec Ideal S1x2560x1 .f32) (ix3 0 r 0) = m (c, Proc.devRef .tc main_arg2) (ix2 e r) := by
    refine Eq.trans ?_ (gates m c e r)
    blk_ext [iblk, indices t]
  frame_out
  refine (payload _ _ _ r l).trans ?_
  unfold entry
  rw [h2]
  congr 1
  exact Finset.sum_congr rfl fun k _ => by rw [h0, h1]

theorem kernel_array : (dats m 0 c).arrAt 3 cfg0.N
    = wanted (m (c, Proc.devRef .tc main_arg0)) (m (c, Proc.devRef .tc main_arg1)) (m (c, Proc.devRef .tc main_arg2)) := by
  refine (dats m 0 c).arrAt_eq_of_covers 3 _ (by decide +kernel) (fun t hf y => ?_)
  blk_simp
  have ht : t.val < 64 := t.isLt
  have e0 : (((win0_3.blk t).view.emb y) 0 : ℕ) = t.val / 4 + (y 0 : ℕ) := by blk_simp [indices t]
  have e1 : (((win0_3.blk t).view.emb y) 1 : ℕ) = (y 1 : ℕ) := by blk_simp [indices t]
  have e2 : (((win0_3.blk t).view.emb y) 2 : ℕ) = t.val % 4 * 512 + (y 2 : ℕ) := by blk_simp [indices t]
  have y0 : (y 0 : ℕ) < 1 := (y 0).isLt
  have y1 : (y 1 : ℕ) < 2560 := (y 1).isLt
  have y2 : (y 2 : ℕ) < 512 := (y 2).isLt
  refine (show _ = (dats m 0 c).after 3 t (ix3 (0 : Fin 1) (⟨(y 1 : ℕ), y1⟩ : Fin 2560) (⟨(y 2 : ℕ), y2⟩ : Fin 512)) from congrArg _ (by
    funext a; match a with | 0 => exact Fin.ext (by simpa using y0) | 1 => rfl | 2 => rfl)).trans ?_
  refine (block_entry m c t (((win0_3.blk t).view.emb y) 0) (by omega) (((win0_3.blk t).view.emb y) 2) _ e2 _).trans ?_
  unfold wanted
  congr 1
  exact Fin.ext e1.symm

theorem reference_entry (x : FVec Ideal S16x2560x2048 .bf16) (w : FVec Ideal S2x16x2048x2048 .f32) (g : FVec Ideal S16x2560 .f32)
    (v : FVec Ideal S16x2560x2048 .f32) (h : ∀ e r j, v (ix3 e r j) = entry x w g e r j) : v = wanted x w g := by
  funext i
  obtain ⟨e, r, j, rfl⟩ := Dense.triple_index i
  exact h e r j

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hag
  refine ⟨fun c => wanted (m (c, Proc.devRef .tc main_arg0)) (m (c, Proc.devRef .tc main_arg1)) (m (c, Proc.devRef .tc main_arg2)),
    (θ_run Cert.Kernel5Ideal.defs _ _).mono (fun _ h c => ⟨(h c).1.trans (kernel_array m c), (h c).2⟩) (Cert.Kernel5Ideal.Value.run_blocks (F := Ideal) m ρ), ?_⟩
  refine (θ_run Cert.Reference5Ideal.defs _ _).mono (fun _ h c => ⟨(h c).1.trans ?_, (h c).2⟩) (Cert.Reference5Ideal.Value.run (F := Ideal) m' ρ')
  obtain ⟨e0, e1, e2⟩ := hag c
  dsimp only
  rw [e0, e1, e2]
  refine reference_entry _ _ _ _ fun e r j => ?_
  unfold entry
  pointwise

end Cert.Proof.Down

end
-- ==== Proof.Dense.Merge.lean ====
/-
  The merge: three branches, each times its matrix and its gate, added.
-/
module

public import proofs.«01_k».proof.Defs
public import proofs.«01_k».proof.Proof.Dense.Common
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.Merge

open Idealize.ShloMosaic Cert.Kernel6Ideal Cert.Kernel6Ideal.Gen Idealize.ShloMosaic.Pointwise Idealize.ShloMosaic.TcCoe Idealize.SL.Sem
open Idealize.ShloMosaic.Pipeline (Dat)

/-- One branch's share of an entry: its gate, times its row against its column of the first layer's matrices. -/
def branch (y : FVec Ideal S20480x1024 .bf16) (w : FVec Ideal S2x3x1024x2048 .f32) (g : FVec Ideal S20480x6144 .bf16) (b : Fin 3)
    (r : Fin 20480) (j : Fin 2048) (q : Fin 6144) : EReal :=
  g (ix2 r q) * ∑ k : Fin 1024, y (ix2 r k) * w (ix4 0 b k j)

/-- One entry of the result. -/
def entry (o yb yc : FVec Ideal S20480x1024 .bf16) (w : FVec Ideal S2x3x1024x2048 .f32) (g : FVec Ideal S20480x6144 .bf16)
    (r : Fin 20480) (j : Fin 2048) : EReal :=
  branch o w g 0 r j ⟨j.val, by omega⟩ + branch yb w g 1 r j ⟨2048 + j.val, by omega⟩ + branch yc w g 2 r j ⟨4096 + j.val, by omega⟩

/-- The result of both programs as one function of their arguments. -/
def wanted (o yb yc : FVec Ideal S20480x1024 .bf16) (w : FVec Ideal S2x3x1024x2048 .f32) (g : FVec Ideal S20480x6144 .bf16) :
    FVec Ideal S20480x2048 .bf16 := fun i => entry o yb yc w g (i 0) (i 1)

theorem indices : ∀ t : Fin cfg0.N, win0_0.index t = ![t.val % 40, 0] ∧ win0_1.index t = ![t.val % 40, 0] ∧ win0_2.index t = ![t.val % 40, 0]
    ∧ win0_3.index t = ![0, 0, t.val / 40] ∧ win0_7.index t = ![t.val % 40, t.val / 40] := by
  decide +kernel
theorem gate_indices : ∀ t : Fin cfg0.N, win0_4.index t = ![t.val % 40, t.val / 40] ∧ win0_5.index t = ![t.val % 40, 2 + t.val / 40]
    ∧ win0_6.index t = ![t.val % 40, 4 + t.val / 40] := by
  decide +kernel

theorem payload (ga o : FVec Ideal S512x1024 .bf16) (wa : FVec Ideal S1x1024x1024 .bf16) (gb yb : FVec Ideal S512x1024 .bf16)
    (wb : FVec Ideal S1x1024x1024 .bf16) (gc yc : FVec Ideal S512x1024 .bf16) (wc : FVec Ideal S1x1024x1024 .bf16) (r : Fin 512) (l : Fin 1024) :
    (k0_pay1 (F := Ideal) ga o wa gb yb wb gc yc wc (ix2 r l) : EReal)
      = ga (ix2 r l) * (∑ k : Fin 1024, o (ix2 r k) * wa (ix3 0 k l)) + gb (ix2 r l) * (∑ k : Fin 1024, yb (ix2 r k) * wb (ix3 0 k l))
        + gc (ix2 r l) * ∑ k : Fin 1024, yc (ix2 r k) * wc (ix3 0 k l) := by
  pointwise [k0_pay1]

variable (m : (ℓ : Loc nD τ sig) → Buf (Elt Ideal) ℓ) (c : Dev nD)

theorem matrices (b : Fin 3) (k : Fin 1024) (j : Fin 2048) :
    (V m c main_v2 : FVec Ideal S3x1024x2048 .bf16) (ix3 b k j) = m (c, Proc.devRef .tc main_arg3) (ix4 0 b k j) := by
  unfold V
  after_reads_at

theorem matrix_block (t : Fin cfg0.N) (b : Fin 3) (k l : Fin 1024) (j : Fin 2048) (hj : j.val = t.val / 40 * 1024 + l.val) :
    (iblk m c 3 t : FVec Ideal S3x1024x1024 .bf16) (ix3 b k l) = m (c, Proc.devRef .tc main_arg3) (ix4 0 b k j) := by
  refine Eq.trans ?_ (matrices m c b k j)
  blk_ext [iblk, indices t]

theorem slab (X : Vec Ideal S3x1024x1024 .bf16) (k l : Fin 1024) : View.ld X r0_1 (ix3 0 k l) = X (ix3 0 k l)
    ∧ View.ld X r0_2 (ix3 0 k l) = X (ix3 1 k l) ∧ View.ld X r0_3 (ix3 0 k l) = X (ix3 2 k l) := by
  refine ⟨?_, ?_, ?_⟩ <;> refine (View.ld_apply ..).trans (congrArg X ?_) <;> funext a <;>
    match a with
    | 0 => rfl
    | 1 => exact Fin.ext (by simp [Rect.unit])
    | 2 => exact Fin.ext (by simp [Rect.unit])

theorem block_entry (t : Fin cfg0.N) (r : Fin 20480) (i : Fin 512) (hr : r.val = t.val % 40 * 512 + i.val)
    (j : Fin 2048) (l : Fin 1024) (hj : j.val = t.val / 40 * 1024 + l.val) :
    (dats m 0 c).after 7 t (ix2 i l)
      = entry (m (c, Proc.devRef .tc main_arg0)) (m (c, Proc.devRef .tc main_arg1)) (m (c, Proc.devRef .tc main_arg2))
        (m (c, Proc.devRef .tc main_arg3)) (m (c, Proc.devRef .tc main_arg4)) r j := by
  have h0 : ∀ k : Fin 1024, (iblk m c 0 t : FVec Ideal S512x1024 .bf16) (ix2 i k) = m (c, Proc.devRef .tc main_arg0) (ix2 r k) := fun k => by
    blk_ext [iblk, V, indices t]
  have h1 : ∀ k : Fin 1024, (iblk m c 1 t : FVec Ideal S512x1024 .bf16) (ix2 i k) = m (c, Proc.devRef .tc main_arg1) (ix2 r k) := fun k => by
    blk_ext [iblk, V, indices t]
  have h2 : ∀ k : Fin 1024, (iblk m c 2 t : FVec Ideal S512x1024 .bf16) (ix2 i k) = m (c, Proc.devRef .tc main_arg2) (ix2 r k) := fun k => by
    blk_ext [iblk, V, indices t]
  have g0 : (iblk m c 4 t : FVec Ideal S512x1024 .bf16) (ix2 i l) = m (c, Proc.devRef .tc main_arg4) (ix2 r ⟨j.val, by omega⟩) := by
    blk_ext [iblk, V, gate_indices t]
  have g1 : (iblk m c 5 t : FVec Ideal S512x1024 .bf16) (ix2 i l) = m (c, Proc.devRef .tc main_arg4) (ix2 r ⟨2048 + j.val, by omega⟩) := by
    blk_ext [iblk, V, gate_indices t]
  have g2 : (iblk m c 6 t : FVec Ideal S512x1024 .bf16) (ix2 i l) = m (c, Proc.devRef .tc main_arg4) (ix2 r ⟨4096 + j.val, by omega⟩) := by
    blk_ext [iblk, V, gate_indices t]
  have w0 : ∀ k : Fin 1024, View.ld (iblk m c 3 t : FVec Ideal S3x1024x1024 .bf16) r0_1 (ix3 0 k l) = m (c, Proc.devRef .tc main_arg3) (ix4 0 0 k j) :=
    fun k => (slab _ k l).1.trans (matrix_block m c t 0 k l j hj)
  have w1 : ∀ k : Fin 1024, View.ld (iblk m c 3 t : FVec Ideal S3x1024x1024 .bf16) r0_2 (ix3 0 k l) = m (c, Proc.devRef .tc main_arg3) (ix4 0 1 k j) :=
    fun k => (slab _ k l).2.1.trans (matrix_block m c t 1 k l j hj)
  have w2 : ∀ k : Fin 1024, View.ld (iblk m c 3 t : FVec Ideal S3x1024x1024 .bf16) r0_3 (ix3 0 k l) = m (c, Proc.devRef .tc main_arg3) (ix4 0 2 k j) :=
    fun k => (slab _ k l).2.2.trans (matrix_block m c t 2 k l j hj)
  rw [after0_7]
  have e : out0_7 (iblk m c 0 t) (iblk m c 1 t) (iblk m c 2 t) (iblk m c 3 t) (iblk m c 4 t) (iblk m c 5 t) (iblk m c 6 t)
      = k0_pay1 (iblk m c 4 t) (iblk m c 0 t) (View.ld (iblk m c 3 t) r0_1) (iblk m c 5 t) (iblk m c 1 t) (View.ld (iblk m c 3 t) r0_2)
        (iblk m c 6 t) (iblk m c 2 t) (View.ld (iblk m c 3 t) r0_3) := by
    frame_out
    rfl
  rw [e]
  refine (payload _ _ _ _ _ _ _ _ _ i l).trans ?_
  unfold entry branch
  simp only [h0, h1, h2, g0, g1, g2, w0, w1, w2]

theorem kernel_array : (dats m 0 c).arrAt 7 cfg0.N
    = wanted (m (c, Proc.devRef .tc main_arg0)) (m (c, Proc.devRef .tc main_arg1)) (m (c, Proc.devRef .tc main_arg2))
      (m (c, Proc.devRef .tc main_arg3)) (m (c, Proc.devRef .tc main_arg4)) := by
  refine (dats m 0 c).arrAt_eq_of_covers 7 _ (by decide +kernel) (fun t hf y => ?_)
  blk_simp
  have e0 : (((win0_7.blk t).view.emb y) 0 : ℕ) = t.val % 40 * 512 + (y 0 : ℕ) := by blk_simp [indices t]
  have e1 : (((win0_7.blk t).view.emb y) 1 : ℕ) = t.val / 40 * 1024 + (y 1 : ℕ) := by blk_simp [indices t]
  have y0 : (y 0 : ℕ) < 512 := (y 0).isLt
  have y1 : (y 1 : ℕ) < 1024 := (y 1).isLt
  refine (show _ = (dats m 0 c).after 7 t (ix2 (⟨(y 0 : ℕ), y0⟩ : Fin 512) (⟨(y 1 : ℕ), y1⟩ : Fin 1024)) from congrArg _ (by
    funext a; match a with | 0 => rfl | 1 => rfl)).trans ?_
  exact block_entry m c t (((win0_7.blk t).view.emb y) 0) _ e0 (((win0_7.blk t).view.emb y) 1) _ e1

theorem reference_entry (o yb yc : FVec Ideal S20480x1024 .bf16) (w : FVec Ideal S2x3x1024x2048 .f32) (g : FVec Ideal S20480x6144 .bf16)
    (v : FVec Ideal S20480x2048 .bf16) (h : ∀ r j, v (ix2 r j) = entry o yb yc w g r j) : v = wanted o yb yc w g := by
  funext i
  obtain ⟨r, j, rfl⟩ := Dense.pair_index i
  exact h r j

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m ρ m' ρ' _ hag
  refine ⟨fun c => wanted (m (c, Proc.devRef .tc main_arg0)) (m (c, Proc.devRef .tc main_arg1)) (m (c, Proc.devRef .tc main_arg2))
      (m (c, Proc.devRef .tc main_arg3)) (m (c, Proc.devRef .tc main_arg4)),
    (θ_run Cert.Kernel6Ideal.defs _ _).mono (fun _ h c => ⟨(h c).1.trans (kernel_array m c), (h c).2⟩) (Cert.Kernel6Ideal.Value.run_blocks (F := Ideal) m ρ), ?_⟩
  refine (θ_run Cert.Reference6Ideal.defs _ _).mono (fun _ h c => ⟨(h c).1.trans ?_, (h c).2⟩) (Cert.Reference6Ideal.Value.run (F := Ideal) m' ρ')
  obtain ⟨e0, e1, e2, e3, e4⟩ := hag c
  dsimp only
  rw [e0, e1, e2, e3, e4]
  refine reference_entry _ _ _ _ _ _ fun r j => ?_
  unfold entry branch
  pointwise

end Cert.Proof.Merge

end
-- ==== Proof.Dense.LastContext.lean ====
/-
  The last sum over the context rows: the residual stream plus the experts' sum, normalised, scaled and gated by the last layer's modulation.
-/
module

public import proofs.«01_k».proof.Defs
public import proofs.«01_k».proof.Proof.Dense.Common
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.LastContext

open Idealize.ShloMosaic Cert.Kernel7Ideal Cert.Kernel7Ideal.Gen Idealize.ShloMosaic.Pointwise Idealize.ShloMosaic.TcCoe Idealize.SL.Sem
open Idealize.ShloMosaic.Pipeline (Dat)

/-- Which row of the stream a row of the result belongs to. -/
def source (r : Fin 4096) : Fin 20480 := ⟨r.val, by omega⟩

/-- Which row of the modulation a row of the result takes. -/
def chosen (r : Fin 4096) : Fin 8 := 0

/-- One entry of the result: the stream's, plus the gate times the normalised entry of the experts' sum. -/
def entry (x hff : FVec Ideal S20480x2048 .f32) (g : FVec Ideal S2x4x2048 .f32) (mod : FVec Ideal S2x8x12288 .f32) (r : Fin 4096) (j : Fin 2048) : EReal :=
  x (ix2 (source r) j) + mod (ix3 1 (chosen r) ⟨10240 + j.val, by omega⟩)
    * Dense.normed (fun k => hff (ix2 (source r) k)) (fun k => g (ix3 1 3 k)) j

/-- The result of both programs as one function of their arguments. -/
def wanted (x hff : FVec Ideal S20480x2048 .f32) (g : FVec Ideal S2x4x2048 .f32) (mod : FVec Ideal S2x8x12288 .f32) : FVec Ideal S4096x2048 .f32 :=
  fun i => entry x hff g mod (i 0) (i 1)

theorem indices : ∀ t : Fin cfg0.N, win0_0.index t = ![t.val, 0] ∧ win0_1.index t = ![t.val, 0]
    ∧ win0_2.index t = ![3, 0, 0] ∧ win0_3.index t = ![0, 0, 5] ∧ win0_4.index t = ![t.val, 0] := by
  decide +kernel

theorem payload (v0 : FVec Ideal S512x2048 .f32) (v1 : FVec Ideal S1x1x2048 .f32) (v3 : FVec Ideal S512x2048 .f32)
    (v4 : FVec Ideal S1x1x2048 .f32) (r : Fin 512) (j : Fin 2048) :
    (k0_pay1 (F := Ideal) v0 v1 v3 v4 (ix2 r j) : EReal)
      = v0 (ix2 r j) + v1 (ix3 0 0 j) * Dense.normed (fun k => v3 (ix2 r k)) (fun k => v4 (ix3 0 0 k)) j := by
  unfold Dense.normed
  pointwise [k0_pay1]

variable (m : (ℓ : Loc nD τ sig) → Buf (Elt Ideal) ℓ) (c : Dev nD)

theorem scales (j : Fin 2048) : (V m c main_v2 : FVec Ideal S4x1x2048 .f32) (ix3 3 0 j) = m (c, Proc.devRef .tc main_arg2) (ix3 1 3 j) := by
  unfold V
  after_reads_at

theorem modulation (r : Fin 8) (j : Fin 12288) :
    (V m c main_v5 : FVec Ideal S8x1x12288 .f32) (ix3 r 0 j) = m (c, Proc.devRef .tc main_arg3) (ix3 1 r j) := by
  unfold V
  after_reads_at

theorem block_entry (t : Fin cfg0.N) (r : Fin 4096) (i : Fin 512) (hr : r.val = t.val * 512 + i.val) (j : Fin 2048) :
    (dats m 0 c).after 4 t (ix2 i j) = entry (m (c, Proc.devRef .tc main_arg0)) (m (c, Proc.devRef .tc main_arg1))
      (m (c, Proc.devRef .tc main_arg2)) (m (c, Proc.devRef .tc main_arg3)) r j := by
  have h0 : (iblk m c 0 t : FVec Ideal S512x2048 .f32) (ix2 i j) = m (c, Proc.devRef .tc main_arg0) (ix2 (source r) j) := by
    unfold source
    blk_ext [iblk, V, indices t]
  have h1 : ∀ k : Fin 2048, (iblk m c 1 t : FVec Ideal S512x2048 .f32) (ix2 i k) = m (c, Proc.devRef .tc main_arg1) (ix2 (source r) k) := fun k => by
    unfold source
    blk_ext [iblk, V, indices t]
  have h2 : ∀ k : Fin 2048, (iblk m c 2 t : FVec Ideal S1x1x2048 .f32) (ix3 0 0 k) = m (c, Proc.devRef .tc main_arg2) (ix3 1 3 k) := fun k => by
    refine Eq.trans ?_ (scales m c k)
    blk_ext [iblk, indices t]
  have h3 : (iblk m c 3 t : FVec Ideal S1x1x2048 .f32) (ix3 0 0 j)
      = m (c, Proc.devRef .tc main_arg3) (ix3 1 (chosen r) ⟨10240 + j.val, by omega⟩) := by
    refine Eq.trans ?_ (modulation m c (chosen r) ⟨10240 + j.val, by omega⟩)
    unfold chosen
    blk_ext [iblk, indices t]
  rw [after0_4]
  frame_out
  refine (payload _ _ _ _ i j).trans ?_
  unfold entry
  rw [h0, h3]
  simp only [h1, h2]

theorem kernel_array : (dats m 0 c).arrAt 4 cfg0.N = wanted (m (c, Proc.devRef .tc main_arg0)) (m (c, Proc.devRef .tc main_arg1))
    (m (c, Proc.devRef .tc main_arg2)) (m (c, Proc.devRef .tc main_arg3)) := by
  refine (dats m 0 c).arrAt_eq_of_covers 4 _ (by decide +kernel) (fun t hf y => ?_)
  blk_simp
  have e0 : (((win0_4.blk t).view.emb y) 0 : ℕ) = t.val * 512 + (y 0 : ℕ) := by blk_simp [indices t]
  have e1 : (((win0_4.blk t).view.emb y) 1 : ℕ) = (y 1 : ℕ) := by blk_simp [indices t]
  have y0 : (y 0 : ℕ) < 512 := (y 0).isLt
  have y1 : (y 1 : ℕ) < 2048 := (y 1).isLt
  refine (show _ = (dats m 0 c).after 4 t (ix2 (⟨(y 0 : ℕ), y0⟩ : Fin 512) (⟨(y 1 : ℕ), y1⟩ : Fin 2048)) from congrArg _ (by
    funext a; match a with | 0 => rfl | 1 => rfl)).trans ?_
  refine (block_entry m c t (((win0_4.blk t).view.emb y) 0) _ e0 _).trans ?_
  unfold wanted
  congr 1
  exact Fin.ext e1.symm

theorem reference_entry (x hff : FVec Ideal S20480x2048 .f32) (g : FVec Ideal S2x4x2048 .f32) (mod : FVec Ideal S2x8x12288 .f32)
    (v : FVec Ideal S4096x2048 .f32) (h : ∀ r j, v (ix2 r j) = entry x hff g mod r j) : v = wanted x hff g mod := by
  funext i
  obtain ⟨r, j, rfl⟩ := Dense.pair_index i
  exact h r j

theorem frame_kernel : Cert.quiescent_Kernel7 := fun m ρ _ => Cert.Kernel7.Gen.frame m ρ
theorem frame_ideal : Cert.quiescent_Kernel7Ideal := fun m ρ _ => Cert.Kernel7Ideal.Gen.frame m ρ
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hag
  refine ⟨fun c => wanted (m (c, Proc.devRef .tc main_arg0)) (m (c, Proc.devRef .tc main_arg1)) (m (c, Proc.devRef .tc main_arg2)) (m (c, Proc.devRef .tc main_arg3)),
    (θ_run Cert.Kernel7Ideal.defs _ _).mono (fun _ h c => ⟨(h c).1.trans (kernel_array m c), (h c).2⟩) (Cert.Kernel7Ideal.Value.run_blocks (F := Ideal) m ρ), ?_⟩
  refine (θ_run Cert.Reference7Ideal.defs _ _).mono (fun _ h c => ⟨(h c).1.trans ?_, (h c).2⟩) (Cert.Reference7Ideal.Value.run (F := Ideal) m' ρ')
  obtain ⟨e0, e1, e2, e3⟩ := hag c
  dsimp only
  rw [e0, e1, e2, e3]
  refine reference_entry _ _ _ _ _ fun r j => ?_
  unfold entry Dense.normed source chosen
  pointwise

end Cert.Proof.LastContext

end
-- ==== Proof.Dense.LastLatent.lean ====
/-
  The last sum over the latent tokens' rows: the residual stream plus the experts' sum, normalised, scaled and gated by the last layer's modulation.
-/
module

public import proofs.«01_k».proof.Defs
public import proofs.«01_k».proof.Proof.Dense.Common
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.LastLatent

open Idealize.ShloMosaic Cert.Kernel8Ideal Cert.Kernel8Ideal.Gen Idealize.ShloMosaic.Pointwise Idealize.ShloMosaic.TcCoe Idealize.SL.Sem
open Idealize.ShloMosaic.Pipeline (Dat)

/-- Which row of the stream a row of the result belongs to. -/
def source (r : Fin 16384) : Fin 20480 := ⟨4096 + r.val, by omega⟩

/-- Which row of the modulation a row of the result takes. -/
def chosen (r : Fin 16384) : Fin 8 := ⟨1 + r.val / 4096, by omega⟩

/-- One entry of the result: the stream's, plus the gate times the normalised entry of the experts' sum. -/
def entry (x hff : FVec Ideal S20480x2048 .f32) (g : FVec Ideal S2x4x2048 .f32) (mod : FVec Ideal S2x8x12288 .f32) (r : Fin 16384) (j : Fin 2048) : EReal :=
  x (ix2 (source r) j) + mod (ix3 1 (chosen r) ⟨10240 + j.val, by omega⟩)
    * Dense.normed (fun k => hff (ix2 (source r) k)) (fun k => g (ix3 1 3 k)) j

/-- The result of both programs as one function of their arguments. -/
def wanted (x hff : FVec Ideal S20480x2048 .f32) (g : FVec Ideal S2x4x2048 .f32) (mod : FVec Ideal S2x8x12288 .f32) : FVec Ideal S16384x2048 .f32 :=
  fun i => entry x hff g mod (i 0) (i 1)

theorem indices : ∀ t : Fin cfg0.N, win0_0.index t = ![8 + t.val, 0] ∧ win0_1.index t = ![8 + t.val, 0]
    ∧ win0_2.index t = ![3, 0, 0] ∧ win0_3.index t = ![1 + t.val / 8, 0, 5] ∧ win0_4.index t = ![t.val, 0] := by
  decide +kernel

theorem payload (v0 : FVec Ideal S512x2048 .f32) (v1 : FVec Ideal S1x1x2048 .f32) (v3 : FVec Ideal S512x2048 .f32)
    (v4 : FVec Ideal S1x1x2048 .f32) (r : Fin 512) (j : Fin 2048) :
    (k0_pay1 (F := Ideal) v0 v1 v3 v4 (ix2 r j) : EReal)
      = v0 (ix2 r j) + v1 (ix3 0 0 j) * Dense.normed (fun k => v3 (ix2 r k)) (fun k => v4 (ix3 0 0 k)) j := by
  unfold Dense.normed
  pointwise [k0_pay1]

variable (m : (ℓ : Loc nD τ sig) → Buf (Elt Ideal) ℓ) (c : Dev nD)

theorem scales (j : Fin 2048) : (V m c main_v2 : FVec Ideal S4x1x2048 .f32) (ix3 3 0 j) = m (c, Proc.devRef .tc main_arg2) (ix3 1 3 j) := by
  unfold V
  after_reads_at

theorem modulation (r : Fin 8) (j : Fin 12288) :
    (V m c main_v5 : FVec Ideal S8x1x12288 .f32) (ix3 r 0 j) = m (c, Proc.devRef .tc main_arg3) (ix3 1 r j) := by
  unfold V
  after_reads_at

theorem block_entry (t : Fin cfg0.N) (r : Fin 16384) (i : Fin 512) (hr : r.val = t.val * 512 + i.val) (j : Fin 2048) :
    (dats m 0 c).after 4 t (ix2 i j) = entry (m (c, Proc.devRef .tc main_arg0)) (m (c, Proc.devRef .tc main_arg1))
      (m (c, Proc.devRef .tc main_arg2)) (m (c, Proc.devRef .tc main_arg3)) r j := by
  have h0 : (iblk m c 0 t : FVec Ideal S512x2048 .f32) (ix2 i j) = m (c, Proc.devRef .tc main_arg0) (ix2 (source r) j) := by
    unfold source
    blk_ext [iblk, V, indices t]
  have h1 : ∀ k : Fin 2048, (iblk m c 1 t : FVec Ideal S512x2048 .f32) (ix2 i k) = m (c, Proc.devRef .tc main_arg1) (ix2 (source r) k) := fun k => by
    unfold source
    blk_ext [iblk, V, indices t]
  have h2 : ∀ k : Fin 2048, (iblk m c 2 t : FVec Ideal S1x1x2048 .f32) (ix3 0 0 k) = m (c, Proc.devRef .tc main_arg2) (ix3 1 3 k) := fun k => by
    refine Eq.trans ?_ (scales m c k)
    blk_ext [iblk, indices t]
  have h3 : (iblk m c 3 t : FVec Ideal S1x1x2048 .f32) (ix3 0 0 j)
      = m (c, Proc.devRef .tc main_arg3) (ix3 1 (chosen r) ⟨10240 + j.val, by omega⟩) := by
    refine Eq.trans ?_ (modulation m c (chosen r) ⟨10240 + j.val, by omega⟩)
    unfold chosen
    blk_ext [iblk, indices t]
  rw [after0_4]
  frame_out
  refine (payload _ _ _ _ i j).trans ?_
  unfold entry
  rw [h0, h3]
  simp only [h1, h2]

theorem kernel_array : (dats m 0 c).arrAt 4 cfg0.N = wanted (m (c, Proc.devRef .tc main_arg0)) (m (c, Proc.devRef .tc main_arg1))
    (m (c, Proc.devRef .tc main_arg2)) (m (c, Proc.devRef .tc main_arg3)) := by
  refine (dats m 0 c).arrAt_eq_of_covers 4 _ (by decide +kernel) (fun t hf y => ?_)
  blk_simp
  have e0 : (((win0_4.blk t).view.emb y) 0 : ℕ) = t.val * 512 + (y 0 : ℕ) := by blk_simp [indices t]
  have e1 : (((win0_4.blk t).view.emb y) 1 : ℕ) = (y 1 : ℕ) := by blk_simp [indices t]
  have y0 : (y 0 : ℕ) < 512 := (y 0).isLt
  have y1 : (y 1 : ℕ) < 2048 := (y 1).isLt
  refine (show _ = (dats m 0 c).after 4 t (ix2 (⟨(y 0 : ℕ), y0⟩ : Fin 512) (⟨(y 1 : ℕ), y1⟩ : Fin 2048)) from congrArg _ (by
    funext a; match a with | 0 => rfl | 1 => rfl)).trans ?_
  refine (block_entry m c t (((win0_4.blk t).view.emb y) 0) _ e0 _).trans ?_
  unfold wanted
  congr 1
  exact Fin.ext e1.symm

theorem reference_entry (x hff : FVec Ideal S20480x2048 .f32) (g : FVec Ideal S2x4x2048 .f32) (mod : FVec Ideal S2x8x12288 .f32)
    (v : FVec Ideal S16384x2048 .f32) (h : ∀ r j, v (ix2 r j) = entry x hff g mod r j) : v = wanted x hff g mod := by
  funext i
  obtain ⟨r, j, rfl⟩ := Dense.pair_index i
  exact h r j

theorem frame_kernel : Cert.quiescent_Kernel8 := fun m ρ _ => Cert.Kernel8.Gen.frame m ρ
theorem frame_ideal : Cert.quiescent_Kernel8Ideal := fun m ρ _ => Cert.Kernel8Ideal.Gen.frame m ρ
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m ρ m' ρ' _ hag
  refine ⟨fun c => wanted (m (c, Proc.devRef .tc main_arg0)) (m (c, Proc.devRef .tc main_arg1)) (m (c, Proc.devRef .tc main_arg2)) (m (c, Proc.devRef .tc main_arg3)),
    (θ_run Cert.Kernel8Ideal.defs _ _).mono (fun _ h c => ⟨(h c).1.trans (kernel_array m c), (h c).2⟩) (Cert.Kernel8Ideal.Value.run_blocks (F := Ideal) m ρ), ?_⟩
  refine (θ_run Cert.Reference8Ideal.defs _ _).mono (fun _ h c => ⟨(h c).1.trans ?_, (h c).2⟩) (Cert.Reference8Ideal.Value.run (F := Ideal) m' ρ')
  obtain ⟨e0, e1, e2, e3⟩ := hag c
  dsimp only
  rw [e0, e1, e2, e3]
  refine reference_entry _ _ _ _ _ fun r j => ?_
  unfold entry Dense.normed source chosen
  pointwise

end Cert.Proof.LastLatent

end
-- ==== Proof.Dense.Up.lean ====
/-
  The experts' way up: every expert's rows, two bf16 entries packed to a word, against its two weight matrices; the first product through the
  sigmoid-weighted unit, times the second.
-/
module

public import proofs.«01_k».proof.Defs
public import proofs.«01_k».proof.Proof.Dense.Common
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.Up

open Idealize.ShloMosaic Cert.Kernel9Ideal Cert.Kernel9Ideal.Gen Idealize.ShloMosaic.Pointwise Idealize.ShloMosaic.TcCoe Idealize.SL.Sem
open Idealize.ShloMosaic.Pipeline (Dat)

/-- The float word of one entry: columns below 1024 are the words' low halves, the others their high halves. -/
def word (x : Fin 1024 → BitVec 32) (k : Fin 2048) : BitVec 32 :=
  if h : k.val < 1024 then x ⟨k.val, h⟩ <<< 16 else (x ⟨k.val - 1024, by omega⟩ >>> 16) <<< 16

/-- One row of packed words against a column of a matrix. -/
def product (x : Fin 1024 → BitVec 32) (w : Fin 2048 → EReal) : EReal := ∑ k : Fin 2048, Ideal.ofBits .f32 (word x k) * w k

/-- One entry of the result from the two products. -/
def gated (a u : EReal) : EReal := a * Ideal.logistic a * u

/-- One entry of the result. -/
def entry (x : IVec S16x2560x1024 32) (w1 w3 : FVec Ideal S2x16x2048x2048 .f32) (e : Fin 16) (r : Fin 2560) (j : Fin 2048) : EReal :=
  gated (product (fun k => x (ix3 e r k)) fun k => w1 (ix4 0 e k j)) (product (fun k => x (ix3 e r k)) fun k => w3 (ix4 0 e k j))

/-- The result of both programs as one function of their arguments. -/
def wanted (x : IVec S16x2560x1024 32) (w1 w3 : FVec Ideal S2x16x2048x2048 .f32) : FVec Ideal S16x2560x2048 .bf16 :=
  fun i => entry x w1 w3 (i 0) (i 1) (i 2)

theorem indices : ∀ t : Fin cfg0.N, win0_0.index t = ![t.val / 8, 0, 0] ∧ win0_1.index t = ![0, t.val / 8, 0, t.val % 8]
    ∧ win0_2.index t = ![0, t.val / 8, 0, t.val % 8] ∧ win0_3.index t = ![t.val / 8, 0, t.val % 8] := by
  decide +kernel

/-- Masking the low half off is shifting it out and back. -/
theorem high_half (w : BitVec 32) : w &&& 4294901760#32 = (w >>> 16) <<< 16 := by
  ext i hi
  interval_cases i <;> simp

theorem shift_left (u : ArithUnit) (w : BitVec 32) : IntOp.shli u w 16#32 = w <<< 16 := by
  simp [IntOp.shli]

theorem shift_right (u : ArithUnit) (w : BitVec 32) : IntOp.shrui u w 16#32 = w >>> 16 := by
  simp [IntOp.shrui]

theorem kept_payload (v : IVec S1x2560x1024 32) (r : Fin 2560) (k : Fin 2048) :
    (k0_pay1 (F := Ideal) v (ix2 r k) : EReal) = Ideal.ofBits .f32 (word (fun k => v (ix3 0 r k)) k) := by
  unfold word
  pointwise [k0_pay1]
  by_cases h : k.val < 1024
  · simp only [dif_pos h, shift_left]
  · simp only [dif_neg h, ← high_half]
    rfl

theorem half_word : Ideal.ofBits .f32 1056964608#32 = ((1 / 2 : ℝ) : EReal) := by
  simp [Ideal.ofBits, Ideal.ieee, -EReal.coe_mul]
  norm_num

theorem payload (a : FVec Ideal S2560x2048 .bf16) (b d : FVec Ideal S1x1x2048x256 .f32) (r : Fin 2560) (l : Fin 256) :
    (k0_pay2 (F := Ideal) a b d (ix3 0 r l) : EReal)
      = gated (∑ k : Fin 2048, a (ix2 r k) * b (ix4 0 0 k l)) (∑ k : Fin 2048, a (ix2 r k) * d (ix4 0 0 k l)) := by
  unfold gated
  rw [← Dense.sigmoid, ← half_word]
  pointwise [k0_pay2]

variable (m : (ℓ : Loc nD τ sig) → Buf (Elt Ideal) ℓ) (c : Dev nD)

theorem kept_first (t : Fin cfg0.N) (h0 : t.val % 8 = 0) : (outsAt0 m c t.val t.isLt).2 = k0_pay1 (iblk m c 0 t) := by
  rw [outsAt0_A m c t h0]
  dsimp only
  frame_out

theorem kept_rest (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

theorem written (t : Fin cfg0.N) : (outsAt0 m c t.val t.isLt).1 = k0_pay2 (outsAt0 m c t.val t.isLt).2 (iblk m c 1 t) (iblk m c 2 t) := by
  by_cases h0 : t.val % 8 = 0
  · rw [kept_first m c t h0, outsAt0_A m c t h0]
    dsimp only
    frame_out
  · rw [kept_rest m c t h0, outsAt0_B m c t h0]
    dsimp only
    frame_out
    simp only [read_unread_whole]

/-- The unpacked rows kept over the points of one expert. -/
theorem kept (t : Fin cfg0.N) (e : Fin 16) (he : e.val = t.val / 8) (r : Fin 2560) (k : Fin 2048) :
    ((outsAt0 m c t.val t.isLt).2 (ix2 r k) : EReal)
      = Ideal.ofBits .f32 (word (fun k => m (c, Proc.devRef .tc main_arg0) (ix3 e r k)) k) := by
  rw [Pipeline.eq_of_write_hold (fun n h => (outsAt0 m c n h).2) 8 (fun t => k0_pay1 (iblk m c 0 t)) (kept_first m c) (kept_rest m c) t]
  refine (kept_payload _ r k).trans ?_
  congr 2
  funext k
  blk_ext [iblk, V, indices ⟨8 * (t.val / 8), Pipeline.run_start_lt t⟩]

theorem block_entry (t : Fin cfg0.N) (e : Fin 16) (he : e.val = t.val / 8) (j : Fin 2048) (l : Fin 256) (hj : j.val = t.val % 8 * 256 + l.val)
    (r : Fin 2560) :
    (dats m 0 c).after 3 t (ix3 0 r l) = entry (m (c, Proc.devRef .tc main_arg0)) (m (c, Proc.devRef .tc main_arg1)) (m (c, Proc.devRef .tc main_arg2)) e r j := by
  have h1 : ∀ k : Fin 2048, (iblk m c 1 t : FVec Ideal S1x1x2048x256 .f32) (ix4 0 0 k l) = m (c, Proc.devRef .tc main_arg1) (ix4 0 e k j) := fun k => by
    blk_ext [iblk, V, indices t]
  have h2 : ∀ k : Fin 2048, (iblk m c 2 t : FVec Ideal S1x1x2048x256 .f32) (ix4 0 0 k l) = m (c, Proc.devRef .tc main_arg2) (ix4 0 e k j) := fun k => by
    blk_ext [iblk, V, indices t]
  rw [after0_3, written]
  refine (payload _ _ _ r l).trans ?_
  unfold entry product
  congr 1
  · exact Finset.sum_congr rfl fun k _ => by rw [kept m c t e he, h1]
  · exact Finset.sum_congr rfl fun k _ => by rw [kept m c t e he, h2]

theorem kernel_array : (dats m 0 c).arrAt 3 cfg0.N
    = wanted (m (c, Proc.devRef .tc main_arg0)) (m (c, Proc.devRef .tc main_arg1)) (m (c, Proc.devRef .tc main_arg2)) := by
  refine (dats m 0 c).arrAt_eq_of_covers 3 _ (by decide +kernel) (fun t hf y => ?_)
  blk_simp
  have ht : t.val < 128 := t.isLt
  have e0 : (((win0_3.blk t).view.emb y) 0 : ℕ) = t.val / 8 + (y 0 : ℕ) := by blk_simp [indices t]
  have e1 : (((win0_3.blk t).view.emb y) 1 : ℕ) = (y 1 : ℕ) := by blk_simp [indices t]
  have e2 : (((win0_3.blk t).view.emb y) 2 : ℕ) = t.val % 8 * 256 + (y 2 : ℕ) := by blk_simp [indices t]
  have y0 : (y 0 : ℕ) < 1 := (y 0).isLt
  have y1 : (y 1 : ℕ) < 2560 := (y 1).isLt
  have y2 : (y 2 : ℕ) < 256 := (y 2).isLt
  refine (show _ = (dats m 0 c).after 3 t (ix3 (0 : Fin 1) (⟨(y 1 : ℕ), y1⟩ : Fin 2560) (⟨(y 2 : ℕ), y2⟩ : Fin 256)) from congrArg _ (by
    funext a; match a with | 0 => exact Fin.ext (by simpa using y0) | 1 => rfl | 2 => rfl)).trans ?_
  refine (block_entry m c t (((win0_3.blk t).view.emb y) 0) (by omega) (((win0_3.blk t).view.emb y) 2) _ e2 _).trans ?_
  unfold wanted
  congr 1
  exact Fin.ext e1.symm

theorem reference_entry (x : IVec S16x2560x1024 32) (w1 w3 : FVec Ideal S2x16x2048x2048 .f32) (v : FVec Ideal S16x2560x2048 .bf16)
    (h : ∀ e r j, v (ix3 e r j) = entry x w1 w3 e r j) : v = wanted x w1 w3 := by
  funext i
  obtain ⟨e, r, j, rfl⟩ := Dense.triple_index i
  exact h e r j

theorem frame_kernel : Cert.quiescent_Kernel9 := fun m ρ _ => Cert.Kernel9.Gen.frame m ρ
theorem frame_ideal : Cert.quiescent_Kernel9Ideal := fun m ρ _ => Cert.Kernel9Ideal.Gen.frame m ρ
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m ρ m' ρ' _ hag
  refine ⟨fun c => wanted (m (c, Proc.devRef .tc main_arg0)) (m (c, Proc.devRef .tc main_arg1)) (m (c, Proc.devRef .tc main_arg2)),
    (θ_run Cert.Kernel9Ideal.defs _ _).mono (fun _ h c => ⟨(h c).1.trans (kernel_array m c), (h c).2⟩) (Cert.Kernel9Ideal.Value.run_blocks (F := Ideal) m ρ), ?_⟩
  refine (θ_run Cert.Reference9Ideal.defs _ _).mono (fun _ h c => ⟨(h c).1.trans ?_, (h c).2⟩) (Cert.Reference9Ideal.Value.run (F := Ideal) m' ρ')
  obtain ⟨e0, e1, e2⟩ := hag c
  dsimp only
  rw [e0, e1, e2]
  refine reference_entry _ _ _ _ fun e r j => ?_
  unfold entry gated product word Ideal.logistic
  pointwise
  simp only [shift_left, shift_right]

end Cert.Proof.Up

end
-- ==== Proof.Dense.NextReference.lean ====
/-
  What the plain program computes between the layers: the stream as five sequences of rows, and a sequence normalised and modulated, each by its entries.
-/
module

public import proofs.«01_k».proof.Proof.Dense.Common
public import proofs.«01_k».proof.Proof.Gen.Reference10Ideal.Run
public import Idealize.ShloMosaic.Lib.Pointwise

@[expose] public section

set_option maxRecDepth 65536

noncomputable section

namespace Cert.Proof.NextReference

open Idealize.ShloMosaic Cert.Reference10Ideal Cert.Reference10Ideal.Gen Idealize.ShloMosaic.Pointwise

/-- The stream by sequences. -/
def stream (x hff : FVec Ideal S20480x2048 .f32) (g : FVec Ideal S2x4x2048 .f32) (mod : FVec Ideal S2x8x12288 .f32) : FVec Ideal S5x4096x2048 .f32 :=
  addf (shapeCast _ x shapeCasts_S20480x2048_S5x4096x2048) (mulf (broadcastInDim S5x4096x2048 ![0, 1, 2] bcast_S5x1x2048_S5x4096x2048_0_1_2
    (broadcastInDim S5x1x2048 ![0, 2] bcast_S5x2048_S5x1x2048_0_2 (shapeCast _ (extractStridedSlice S1x5x2048 ![0, 0, 10240] mod
    slices_S2x8x12288_S1x5x2048_0_0_10240) shapeCasts_S1x5x2048_S5x2048))) (mulf (mulf (shapeCast _ hff shapeCasts_S20480x2048_S5x4096x2048)
    (broadcastInDim S5x4096x2048 ![0, 1, 2] bcast_S5x4096x1_S5x4096x2048_0_1_2 (Host.rsqrt (addf (Host.divf (broadcastInDim S5x4096x1 ![0, 1]
    bcast_S5x4096_S5x4096x1_0_1 (Host.reduceAdd (mulf (shapeCast _ hff shapeCasts_S20480x2048_S5x4096x2048) (shapeCast _ hff
    shapeCasts_S20480x2048_S5x4096x2048)) (constant S_ .f32 0x00000000#32) reducesTo_S5x4096x2048_S5x4096_d2 h_S_)) (broadcastInDim S5x4096x1
    ![] bcast_S_S5x4096x1 (constant S_ .f32 0x45000000#32))) (broadcastInDim S5x4096x1 ![] bcast_S_S5x4096x1 (constant S_ .f32
    0x358637BD#32)))))) (broadcastInDim S5x4096x2048 ![0, 1, 2] bcast_S1x1x2048_S5x4096x2048_0_1_2 (broadcastInDim S1x1x2048 ![2]
    bcast_S2048_S1x1x2048_2 (shapeCast _ (extractStridedSlice S1x1x2048 ![0, 3, 0] g slices_S2x4x2048_S1x1x2048_0_3_0)
    shapeCasts_S1x1x2048_S2048)))))

/-- Any sequences of rows, normalised and modulated. -/
def modulated (X : FVec Ideal S5x4096x2048 .f32) (g : FVec Ideal S2x4x2048 .f32) (mod : FVec Ideal S2x8x12288 .f32) : FVec Ideal S5x4096x2048 .f32 :=
  addf (mulf (mulf (mulf X (broadcastInDim S5x4096x2048 ![0, 1, 2] bcast_S5x4096x1_S5x4096x2048_0_1_2 (Host.rsqrt (addf (Host.divf
    (broadcastInDim S5x4096x1 ![0, 1] bcast_S5x4096_S5x4096x1_0_1 (Host.reduceAdd (mulf X X) (constant S_ .f32 0x00000000#32)
    reducesTo_S5x4096x2048_S5x4096_d2 h_S_)) (broadcastInDim S5x4096x1 ![] bcast_S_S5x4096x1 (constant S_ .f32 0x45000000#32)))
    (broadcastInDim S5x4096x1 ![] bcast_S_S5x4096x1 (constant S_ .f32 0x358637BD#32)))))) (broadcastInDim S5x4096x2048 ![0, 1, 2]
    bcast_S1x1x2048_S5x4096x2048_0_1_2 (broadcastInDim S1x1x2048 ![2] bcast_S2048_S1x1x2048_2 (shapeCast _ (extractStridedSlice S1x1x2048
    ![1, 0, 0] g slices_S2x4x2048_S1x1x2048_1_0_0) shapeCasts_S1x1x2048_S2048)))) (broadcastInDim S5x4096x2048 ![0, 1, 2]
    bcast_S5x1x2048_S5x4096x2048_0_1_2 (addf (broadcastInDim S5x1x2048 ![] bcast_S_S5x1x2048 (constant S_ .f32 0x3F800000#32))
    (broadcastInDim S5x1x2048 ![0, 2] bcast_S5x2048_S5x1x2048_0_2 (shapeCast _ (extractStridedSlice S1x5x2048 ![1, 0, 2048] mod
    slices_S2x8x12288_S1x5x2048_1_0_2048) shapeCasts_S1x5x2048_S5x2048))))) (broadcastInDim S5x4096x2048 ![0, 1, 2]
    bcast_S5x1x2048_S5x4096x2048_0_1_2 (broadcastInDim S5x1x2048 ![0, 2] bcast_S5x2048_S5x1x2048_0_2 (shapeCast _ (extractStridedSlice
    S1x5x2048 ![1, 0, 0] mod slices_S2x8x12288_S1x5x2048_1_0_0) shapeCasts_S1x5x2048_S5x2048)))

theorem stream_entry (x hff : FVec Ideal S20480x2048 .f32) (g : FVec Ideal S2x4x2048 .f32) (mod : FVec Ideal S2x8x12288 .f32)
    (b : Fin 5) (r : Fin 4096) (j : Fin 2048) :
    (stream x hff g mod (ix3 b r j) : EReal) = x (ix2 ⟨b.val * 4096 + r.val, by omega⟩ j)
      + mod (ix3 0 ⟨b.val, by omega⟩ ⟨10240 + j.val, by omega⟩) * Dense.normed (fun k => hff (ix2 ⟨b.val * 4096 + r.val, by omega⟩ k)) (fun k => g (ix3 0 3 k)) j := by
  unfold stream Dense.normed
  pointwise

theorem modulated_entry (X : FVec Ideal S5x4096x2048 .f32) (g : FVec Ideal S2x4x2048 .f32) (mod : FVec Ideal S2x8x12288 .f32)
    (b : Fin 5) (r : Fin 4096) (j : Fin 2048) :
    (modulated X g mod (ix3 b r j) : EReal) = Dense.normed (fun k => X (ix3 b r k)) (fun k => g (ix3 1 0 k)) j
        * (1 + mod (ix3 1 ⟨b.val, by omega⟩ ⟨2048 + j.val, by omega⟩)) + mod (ix3 1 ⟨b.val, by omega⟩ ⟨j.val, by omega⟩) := by
  unfold modulated Dense.normed
  pointwise

end Cert.Proof.NextReference

end
-- ==== Proof.Dense.Next.lean ====
/-
  The sum between the layers and the second layer's first normalisation: the residual stream plus the first layer's experts' sum, and that row normalised and modulated.
-/
module

public import proofs.«01_k».proof.Defs
public import proofs.«01_k».proof.Proof.Dense.Common
public import proofs.«01_k».proof.Proof.Dense.NextReference
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.Next

open Idealize.ShloMosaic Cert.Kernel10Ideal Cert.Kernel10Ideal.Gen Idealize.ShloMosaic.Pointwise Idealize.ShloMosaic.TcCoe Idealize.SL.Sem
open Idealize.ShloMosaic.Pipeline (Dat)

/-- Which row of the modulation a row of the stream takes. -/
def chosen (r : Fin 20480) : Fin 8 := ⟨r.val / 4096, by omega⟩

/-- One entry of the first result: the stream's, plus the gate times the normalised entry of the experts' sum. -/
def total (x hff : FVec Ideal S20480x2048 .f32) (g : FVec Ideal S2x4x2048 .f32) (mod : FVec Ideal S2x8x12288 .f32) (r : Fin 20480) (j : Fin 2048) : EReal :=
  x (ix2 r j) + mod (ix3 0 (chosen r) ⟨10240 + j.val, by omega⟩) * Dense.normed (fun k => hff (ix2 r k)) (fun k => g (ix3 0 3 k)) j

/-- One entry of the second result: the first's row normalised, scaled and shifted by the second layer's modulation. -/
def next (x hff : FVec Ideal S20480x2048 .f32) (g : FVec Ideal S2x4x2048 .f32) (mod : FVec Ideal S2x8x12288 .f32) (r : Fin 20480) (j : Fin 2048) : EReal :=
  Dense.normed (fun k => total x hff g mod r k) (fun k => g (ix3 1 0 k)) j * (1 + mod (ix3 1 (chosen r) ⟨2048 + j.val, by omega⟩))
    + mod (ix3 1 (chosen r) ⟨j.val, by omega⟩)

/-- The first result of both programs as one function of their arguments. -/
def stream (x hff : FVec Ideal S20480x2048 .f32) (g : FVec Ideal S2x4x2048 .f32) (mod : FVec Ideal S2x8x12288 .f32) : FVec Ideal S20480x2048 .f32 :=
  fun i => total x hff g mod (i 0) (i 1)

/-- The second result of both programs as one function of their arguments. -/
def hidden (x hff : FVec Ideal S20480x2048 .f32) (g : FVec Ideal S2x4x2048 .f32) (mod : FVec Ideal S2x8x12288 .f32) : FVec Ideal S20480x2048 .bf16 :=
  fun i => next x hff g mod (i 0) (i 1)

theorem indices : ∀ t : Fin cfg0.N, win0_0.index t = ![t.val, 0] ∧ win0_1.index t = ![t.val, 0]
    ∧ win0_2.index t = ![3, 0, 0] ∧ win0_3.index t = ![t.val / 8, 0, 5] ∧ win0_4.index t = ![0, 0, 0]
    ∧ win0_5.index t = ![t.val / 8, 0, 0] ∧ win0_6.index t = ![t.val / 8, 0, 1]
    ∧ win0_7.index t = ![t.val, 0] ∧ win0_8.index t = ![t.val, 0] := by
  decide +kernel

theorem payload (v0 : FVec Ideal S512x2048 .f32) (v1 : FVec Ideal S1x1x2048 .f32) (v3 : FVec Ideal S512x2048 .f32)
    (v4 : FVec Ideal S1x1x2048 .f32) (r : Fin 512) (j : Fin 2048) :
    (k0_pay2 (F := Ideal) v0 v1 v3 v4 (ix2 r j) : EReal)
      = v0 (ix2 r j) + v1 (ix3 0 0 j) * Dense.normed (fun k => v3 (ix2 r k)) (fun k => v4 (ix3 0 0 k)) j := by
  unfold Dense.normed
  pointwise [k0_pay2]

theorem payload_normed (v0 : FVec Ideal S512x2048 .f32) (v1 : FVec Ideal S1x1x2048 .f32) (v3 : FVec Ideal S512x2048 .f32)
    (v4 v22 : FVec Ideal S1x1x2048 .f32) (r : Fin 512) (j : Fin 2048) :
    (k0_pay3 (F := Ideal) v0 v1 v3 v4 v22 (ix2 r j) : EReal)
      = Dense.normed (fun k => k0_pay2 (F := Ideal) v0 v1 v3 v4 (ix2 r k)) (fun k => v22 (ix3 0 0 k)) j := by
  unfold Dense.normed k0_pay3
  generalize k0_pay2 (F := Ideal) v0 v1 v3 v4 = y
  pointwise

theorem payload_modulated (v35 : FVec Ideal S512x2048 .f32) (v36 v42 : FVec Ideal S1x1x2048 .f32) (r : Fin 512) (j : Fin 2048) :
    (k0_pay1 (F := Ideal) v35 v36 v42 (ix2 r j) : EReal) = v35 (ix2 r j) * (1 + v36 (ix3 0 0 j)) + v42 (ix3 0 0 j) := by
  pointwise [k0_pay1]

variable (m : (ℓ : Loc nD τ sig) → Buf (Elt Ideal) ℓ) (c : Dev nD)

theorem scales_before (j : Fin 2048) : (V m c main_v3 : FVec Ideal S4x1x2048 .f32) (ix3 3 0 j) = m (c, Proc.devRef .tc main_arg2) (ix3 0 3 j) := by
  unfold V
  after_reads_at

theorem scales_after (j : Fin 2048) : (V m c main_v8 : FVec Ideal S4x1x2048 .f32) (ix3 0 0 j) = m (c, Proc.devRef .tc main_arg2) (ix3 1 0 j) := by
  unfold V
  after_reads_at

theorem modulation_before (r : Fin 8) (j : Fin 12288) :
    (V m c main_v5 : FVec Ideal S8x1x12288 .f32) (ix3 r 0 j) = m (c, Proc.devRef .tc main_arg3) (ix3 0 r j) := by
  unfold V
  after_reads_at

theorem modulation_after (r : Fin 8) (j : Fin 12288) :
    (V m c main_v10 : FVec Ideal S8x1x12288 .f32) (ix3 r 0 j) = m (c, Proc.devRef .tc main_arg3) (ix3 1 r j) := by
  unfold V
  after_reads_at

theorem block_total (t : Fin cfg0.N) (r : Fin 20480) (i : Fin 512) (hr : r.val = t.val * 512 + i.val) (j : Fin 2048) :
    (k0_pay2 (F := Ideal) (iblk m c 0 t) (iblk m c 3 t) (iblk m c 1 t) (iblk m c 2 t) (ix2 i j) : EReal) = total (m (c, Proc.devRef .tc main_arg0)) (m (c, Proc.devRef .tc main_arg1))
      (m (c, Proc.devRef .tc main_arg2)) (m (c, Proc.devRef .tc main_arg3)) r j := by
  have h0 : (iblk m c 0 t : FVec Ideal S512x2048 .f32) (ix2 i j) = m (c, Proc.devRef .tc main_arg0) (ix2 r j) := by
    blk_ext [iblk, V, indices t]
  have h1 : ∀ k : Fin 2048, (iblk m c 1 t : FVec Ideal S512x2048 .f32) (ix2 i k) = m (c, Proc.devRef .tc main_arg1) (ix2 r k) := fun k => by
    blk_ext [iblk, V, indices t]
  have h2 : ∀ k : Fin 2048, (iblk m c 2 t : FVec Ideal S1x1x2048 .f32) (ix3 0 0 k) = m (c, Proc.devRef .tc main_arg2) (ix3 0 3 k) := fun k => by
    refine Eq.trans ?_ (scales_before m c k)
    blk_ext [iblk, indices t]
  have h3 : (iblk m c 3 t : FVec Ideal S1x1x2048 .f32) (ix3 0 0 j)
      = m (c, Proc.devRef .tc main_arg3) (ix3 0 (chosen r) ⟨10240 + j.val, by omega⟩) := by
    refine Eq.trans ?_ (modulation_before m c (chosen r) ⟨10240 + j.val, by omega⟩)
    unfold chosen
    blk_ext [iblk, indices t]
  refine (payload _ _ _ _ i j).trans ?_
  unfold total
  rw [h0, h3]
  simp only [h1, h2]

theorem block_stream (t : Fin cfg0.N) (r : Fin 20480) (i : Fin 512) (hr : r.val = t.val * 512 + i.val) (j : Fin 2048) :
    (dats m 0 c).after 7 t (ix2 i j) = total (m (c, Proc.devRef .tc main_arg0)) (m (c, Proc.devRef .tc main_arg1))
      (m (c, Proc.devRef .tc main_arg2)) (m (c, Proc.devRef .tc main_arg3)) r j := by
  rw [after0_7]
  frame_out
  exact block_total m c t r i hr j

theorem block_hidden (t : Fin cfg0.N) (r : Fin 20480) (i : Fin 512) (hr : r.val = t.val * 512 + i.val) (j : Fin 2048) :
    (dats m 0 c).after 8 t (ix2 i j) = next (m (c, Proc.devRef .tc main_arg0)) (m (c, Proc.devRef .tc main_arg1))
      (m (c, Proc.devRef .tc main_arg2)) (m (c, Proc.devRef .tc main_arg3)) r j := by
  have h4 : ∀ k : Fin 2048, (iblk m c 4 t : FVec Ideal S1x1x2048 .f32) (ix3 0 0 k) = m (c, Proc.devRef .tc main_arg2) (ix3 1 0 k) := fun k => by
    refine Eq.trans ?_ (scales_after m c k)
    blk_ext [iblk, indices t]
  have h5 : (iblk m c 5 t : FVec Ideal S1x1x2048 .f32) (ix3 0 0 j)
      = m (c, Proc.devRef .tc main_arg3) (ix3 1 (chosen r) ⟨j.val, by omega⟩) := by
    refine Eq.trans ?_ (modulation_after m c (chosen r) ⟨j.val, by omega⟩)
    unfold chosen
    blk_ext [iblk, indices t]
  have h6 : (iblk m c 6 t : FVec Ideal S1x1x2048 .f32) (ix3 0 0 j)
      = m (c, Proc.devRef .tc main_arg3) (ix3 1 (chosen r) ⟨2048 + j.val, by omega⟩) := by
    refine Eq.trans ?_ (modulation_after m c (chosen r) ⟨2048 + j.val, by omega⟩)
    unfold chosen
    blk_ext [iblk, indices t]
  rw [after0_8]
  frame_out
  refine (payload_modulated _ _ _ i j).trans ?_
  rw [payload_normed]
  unfold next
  rw [h5, h6]
  simp only [h4, block_total m c t r i hr]

theorem stream_array : (dats m 0 c).arrAt 7 cfg0.N = stream (m (c, Proc.devRef .tc main_arg0)) (m (c, Proc.devRef .tc main_arg1))
      (m (c, Proc.devRef .tc main_arg2)) (m (c, Proc.devRef .tc main_arg3)) := by
  refine (dats m 0 c).arrAt_eq_of_covers 7 _ (by decide +kernel) (fun t hf y => ?_)
  blk_simp
  have e0 : (((win0_7.blk t).view.emb y) 0 : ℕ) = t.val * 512 + (y 0 : ℕ) := by blk_simp [indices t]
  have e1 : (((win0_7.blk t).view.emb y) 1 : ℕ) = (y 1 : ℕ) := by blk_simp [indices t]
  have y0 : (y 0 : ℕ) < 512 := (y 0).isLt
  have y1 : (y 1 : ℕ) < 2048 := (y 1).isLt
  refine (show _ = (dats m 0 c).after 7 t (ix2 (⟨(y 0 : ℕ), y0⟩ : Fin 512) (⟨(y 1 : ℕ), y1⟩ : Fin 2048)) from congrArg _ (by
    funext a; match a with | 0 => rfl | 1 => rfl)).trans ?_
  refine (block_stream m c t (((win0_7.blk t).view.emb y) 0) _ e0 _).trans ?_
  unfold stream
  congr 1
  exact Fin.ext e1.symm

theorem hidden_array : (dats m 0 c).arrAt 8 cfg0.N = hidden (m (c, Proc.devRef .tc main_arg0)) (m (c, Proc.devRef .tc main_arg1))
      (m (c, Proc.devRef .tc main_arg2)) (m (c, Proc.devRef .tc main_arg3)) := by
  refine (dats m 0 c).arrAt_eq_of_covers 8 _ (by decide +kernel) (fun t hf y => ?_)
  blk_simp
  have e0 : (((win0_8.blk t).view.emb y) 0 : ℕ) = t.val * 512 + (y 0 : ℕ) := by blk_simp [indices t]
  have e1 : (((win0_8.blk t).view.emb y) 1 : ℕ) = (y 1 : ℕ) := by blk_simp [indices t]
  have y0 : (y 0 : ℕ) < 512 := (y 0).isLt
  have y1 : (y 1 : ℕ) < 2048 := (y 1).isLt
  refine (show _ = (dats m 0 c).after 8 t (ix2 (⟨(y 0 : ℕ), y0⟩ : Fin 512) (⟨(y 1 : ℕ), y1⟩ : Fin 2048)) from congrArg _ (by
    funext a; match a with | 0 => rfl | 1 => rfl)).trans ?_
  refine (block_hidden m c t (((win0_8.blk t).view.emb y) 0) _ e0 _).trans ?_
  unfold hidden
  congr 1
  exact Fin.ext e1.symm

theorem stream_of_entries (x hff : FVec Ideal S20480x2048 .f32) (g : FVec Ideal S2x4x2048 .f32) (mod : FVec Ideal S2x8x12288 .f32)
    (v : FVec Ideal S20480x2048 .f32) (h : ∀ r j, v (ix2 r j) = total x hff g mod r j) : v = stream x hff g mod := by
  funext i
  obtain ⟨r, j, rfl⟩ := Dense.pair_index i
  exact h r j

theorem hidden_of_entries (x hff : FVec Ideal S20480x2048 .f32) (g : FVec Ideal S2x4x2048 .f32) (mod : FVec Ideal S2x8x12288 .f32)
    (v : FVec Ideal S20480x2048 .bf16) (h : ∀ r j, v (ix2 r j) = next x hff g mod r j) : v = hidden x hff g mod := by
  funext i
  obtain ⟨r, j, rfl⟩ := Dense.pair_index i
  exact h r j

theorem reference_hidden (m : (ℓ : Loc Reference10Ideal.nD Reference10Ideal.τ Reference10Ideal.sig) → Buf (Elt Ideal) ℓ) (c : Dev Reference10Ideal.nD) :
    Cert.Reference10Ideal.Value.res_main_v52 m c
      = shapeCast _ (truncf .bf16 (NextReference.modulated (NextReference.stream (m ((c.tc : Thread Reference10Ideal.nD Reference10Ideal.τ).loc Reference10Ideal.main_arg0))
          (m ((c.tc : Thread Reference10Ideal.nD Reference10Ideal.τ).loc Reference10Ideal.main_arg1)) (m ((c.tc : Thread Reference10Ideal.nD Reference10Ideal.τ).loc Reference10Ideal.main_arg2))
          (m ((c.tc : Thread Reference10Ideal.nD Reference10Ideal.τ).loc Reference10Ideal.main_arg3))) (m ((c.tc : Thread Reference10Ideal.nD Reference10Ideal.τ).loc Reference10Ideal.main_arg2))
          (m ((c.tc : Thread Reference10Ideal.nD Reference10Ideal.τ).loc Reference10Ideal.main_arg3))) Reference10Ideal.Gen.bitsLt_bf16_f32) Reference10Ideal.Gen.shapeCasts_S5x4096x2048_S20480x2048 := rfl

theorem modulated_stream (x hff : FVec Ideal S20480x2048 .f32) (g : FVec Ideal S2x4x2048 .f32) (mod : FVec Ideal S2x8x12288 .f32) (r : Fin 20480) (j : Fin 2048) :
    (shapeCast Reference10Ideal.S20480x2048 (truncf .bf16 (NextReference.modulated (NextReference.stream x hff g mod) g mod) Reference10Ideal.Gen.bitsLt_bf16_f32)
      Reference10Ideal.Gen.shapeCasts_S5x4096x2048_S20480x2048 (ix2 r j) : EReal) = next x hff g mod r j := by
  have hr : r.val / 4096 * 4096 + r.val % 4096 = r.val := by omega
  unfold next total chosen
  refine Eq.trans (b := (NextReference.modulated (NextReference.stream x hff g mod) g mod (ix3 ⟨r.val / 4096, by omega⟩ ⟨r.val % 4096, by omega⟩ j) : EReal)) (by
    generalize NextReference.modulated (NextReference.stream x hff g mod) g mod = Y
    pointwise) ?_
  rw [NextReference.modulated_entry]
  simp only [NextReference.stream_entry, hr]

theorem summed_stream (x hff : FVec Ideal S20480x2048 .f32) (g : FVec Ideal S2x4x2048 .f32) (mod : FVec Ideal S2x8x12288 .f32) (r : Fin 20480) (j : Fin 2048) :
    (shapeCast Reference10Ideal.S20480x2048 (NextReference.stream x hff g mod)
      Reference10Ideal.Gen.shapeCasts_S5x4096x2048_S20480x2048 (ix2 r j) : EReal) = total x hff g mod r j := by
  have hr : r.val / 4096 * 4096 + r.val % 4096 = r.val := by omega
  unfold total chosen
  refine Eq.trans (b := (NextReference.stream x hff g mod (ix3 ⟨r.val / 4096, by omega⟩ ⟨r.val % 4096, by omega⟩ j) : EReal)) (by
    generalize NextReference.stream x hff g mod = Y
    pointwise) ?_
  rw [NextReference.stream_entry]
  simp only [hr]

theorem frame_kernel : Cert.quiescent_Kernel10 := fun m ρ _ => Cert.Kernel10.Gen.frame m ρ
theorem frame_ideal : Cert.quiescent_Kernel10Ideal := fun m ρ _ => Cert.Kernel10Ideal.Gen.frame m ρ
theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic : Cert.algebraic_Kernel10Ideal_Reference10Ideal := by
  intro m ρ m' ρ' _ hag
  refine ⟨fun c => stream (m (c, Proc.devRef .tc main_arg0)) (m (c, Proc.devRef .tc main_arg1)) (m (c, Proc.devRef .tc main_arg2)) (m (c, Proc.devRef .tc main_arg3)),
    fun c => hidden (m (c, Proc.devRef .tc main_arg0)) (m (c, Proc.devRef .tc main_arg1)) (m (c, Proc.devRef .tc main_arg2)) (m (c, Proc.devRef .tc main_arg3)),
    (θ_run Cert.Kernel10Ideal.defs _ _).mono (fun _ h c => ⟨(h c).1.trans (stream_array m c), (h c).2.1.trans (hidden_array m c), (h c).2.2⟩)
      (Cert.Kernel10Ideal.Value.run_blocks (F := Ideal) m ρ), ?_⟩
  refine (θ_run Cert.Reference10Ideal.defs _ _).mono (fun _ h c => ⟨(h c).1.trans ?_, (h c).2.1.trans ?_, (h c).2.2⟩)
    (Cert.Reference10Ideal.Value.run (F := Ideal) m' ρ')
  · obtain ⟨e0, e1, e2, e3⟩ := hag c
    dsimp only
    rw [e0, e1, e2, e3]
    exact stream_of_entries _ _ _ _ _ fun r j => summed_stream _ _ _ _ r j
  · obtain ⟨e0, e1, e2, e3⟩ := hag c
    dsimp only
    refine (reference_hidden m' c).trans ?_
    rw [e0, e1, e2, e3]
    exact hidden_of_entries _ _ _ _ _ fun r j => modulated_stream _ _ _ _ r j

end Cert.Proof.Next

end
-- ==== Proof.Dense.Modulation.lean ====
/-
  The modulation vectors of both layers: the timesteps' vectors through the sigmoid gate, a matrix and a bias.
-/
module

public import proofs.«01_k».proof.Defs
public import proofs.«01_k».proof.Proof.Dense.Common
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.Modulation

open Idealize.ShloMosaic Cert.Kernel11Ideal Cert.Kernel11Ideal.Gen Idealize.ShloMosaic.Pointwise Idealize.ShloMosaic.TcCoe Idealize.SL.Sem
open Idealize.ShloMosaic.Pipeline (Dat)

/-- The eight rows: the context's vector, the four latent ones, and three rows of zeros. -/
def row (a : FVec Ideal S2048 .f32) (b : FVec Ideal S4x2048 .f32) (r : Fin 8) (k : Fin 2048) : EReal :=
  if _h : r.val < 1 then a (ix1 k) else if h : r.val - 1 < 4 then b (ix2 ⟨r.val - 1, h⟩ k) else 0

/-- One entry of the result: a row through its gate against a column of the layer's matrix, plus the bias. -/
def entry (u : Fin 8 → Fin 2048 → EReal) (w : FVec Ideal S2x2048x12288 .f32) (bias : FVec Ideal S2x12288 .f32)
    (l : Fin 2) (r : Fin 8) (j : Fin 12288) : EReal :=
  (∑ k : Fin 2048, u r k * Ideal.logistic (u r k) * w (ix3 l k j)) + bias (ix2 l j)

/-- The result of both programs as one function of their arguments. -/
def wanted (a : FVec Ideal S2048 .f32) (b : FVec Ideal S4x2048 .f32) (w : FVec Ideal S2x2048x12288 .f32) (bias : FVec Ideal S2x12288 .f32) : FVec Ideal S2x8x12288 .f32 :=
  fun i => entry (row a b) w bias (i 0) (i 1) (i 2)

theorem indices : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] := by
  decide +kernel

theorem payload (v0 : FVec Ideal S8x2048 .f32) (v5 : FVec Ideal S1x2048x1024 .f32) (v9 : FVec Ideal S1x1x1024 .f32)
    (r : Fin 8) (j : Fin 1024) :
    (k0_pay1 (F := Ideal) v0 v5 v9 (ix3 0 r j) : EReal)
      = (∑ k : Fin 2048, v0 (ix2 r k) * Ideal.logistic (v0 (ix2 r k)) * v5 (ix3 0 k j)) + v9 (ix3 0 0 j) := by
  pointwise [k0_pay1]

variable (m : (ℓ : Loc nD τ sig) → Buf (Elt Ideal) ℓ) (c : Dev nD)

theorem inputs (r : Fin 8) (k : Fin 2048) :
    (V m c main_v2 : FVec Ideal S8x2048 .f32) (ix2 r k) = row (m (c, Proc.devRef .tc main_arg0)) (m (c, Proc.devRef .tc main_arg1)) r k := by
  have e : (V m c main_v2 : FVec Ideal S8x2048 .f32)
      = concatenate S8x2048 0 [⟨S1x2048, (broadcastInDim S1x2048 ![1] bcast_S2048_S1x2048_1 (m (c, Proc.devRef .tc main_arg0) : FVec Ideal S2048 .f32) : FVec Ideal S1x2048 .f32)⟩,
        ⟨S4x2048, (m (c, Proc.devRef .tc main_arg1) : FVec Ideal S4x2048 .f32)⟩,
        ⟨S3x2048, (broadcastInDim S3x2048 ![] bcast_S_S3x2048 (constant S_ .f32 0x00000000#32 : FVec Ideal S_ .f32) : FVec Ideal S3x2048 .f32)⟩] concatenates_S1x2048_S4x2048_S3x2048_S8x2048_d0 := by
    unfold V
    after_results <;> rfl
  rw [e]
  unfold row
  pointwise

theorem biases (l : Fin 2) (j : Fin 12288) :
    (V m c main_v3 : FVec Ideal S2x1x12288 .f32) (ix3 l 0 j) = m (c, Proc.devRef .tc main_arg3) (ix2 l j) := by
  unfold V
  after_reads_at

theorem block_entry (t : Fin cfg0.N) (e : Fin 2) (he : e.val = t.val / 12) (j : Fin 12288) (l : Fin 1024) (hj : j.val = t.val % 12 * 1024 + l.val)
    (r : Fin 8) :
    (dats m 0 c).after 3 t (ix3 0 r l) = entry (row (m (c, Proc.devRef .tc main_arg0)) (m (c, Proc.devRef .tc main_arg1)))
      (m (c, Proc.devRef .tc main_arg2)) (m (c, Proc.devRef .tc main_arg3)) e r j := by
  rw [after0_3]
  have h0 : ∀ k : Fin 2048, (iblk m c 0 t : FVec Ideal S8x2048 .f32) (ix2 r k)
      = row (m (c, Proc.devRef .tc main_arg0)) (m (c, Proc.devRef .tc main_arg1)) r k := fun k => by
    refine Eq.trans ?_ (inputs m c r k)
    blk_ext [iblk, indices t]
  have h1 : ∀ k : Fin 2048, (iblk m c 1 t : FVec Ideal S1x2048x1024 .f32) (ix3 0 k l) = m (c, Proc.devRef .tc main_arg2) (ix3 e k j) := fun k => by
    blk_ext [iblk, V, indices t]
  have h2 : (iblk m c 2 t : FVec Ideal S1x1x1024 .f32) (ix3 0 0 l) = m (c, Proc.devRef .tc main_arg3) (ix2 e j) := by
    refine Eq.trans ?_ (biases m c e j)
    blk_ext [iblk, indices t]
  frame_out
  refine (payload _ _ _ r l).trans ?_
  unfold entry
  rw [h2]
  exact congrArg (· + _) (Finset.sum_congr rfl fun k _ => by rw [h0, h1])

theorem kernel_array : (dats m 0 c).arrAt 3 cfg0.N = wanted (m (c, Proc.devRef .tc main_arg0)) (m (c, Proc.devRef .tc main_arg1))
      (m (c, Proc.devRef .tc main_arg2)) (m (c, Proc.devRef .tc main_arg3)) := by
  refine (dats m 0 c).arrAt_eq_of_covers 3 _ (by decide +kernel) (fun t hf y => ?_)
  blk_simp
  have ht : t.val < 24 := t.isLt
  have e0 : (((win0_3.blk t).view.emb y) 0 : ℕ) = t.val / 12 + (y 0 : ℕ) := by blk_simp [indices t]
  have e1 : (((win0_3.blk t).view.emb y) 1 : ℕ) = (y 1 : ℕ) := by blk_simp [indices t]
  have e2 : (((win0_3.blk t).view.emb y) 2 : ℕ) = t.val % 12 * 1024 + (y 2 : ℕ) := by blk_simp [indices t]
  have y0 : (y 0 : ℕ) < 1 := (y 0).isLt
  have y1 : (y 1 : ℕ) < 8 := (y 1).isLt
  have y2 : (y 2 : ℕ) < 1024 := (y 2).isLt
  refine (show _ = (dats m 0 c).after 3 t (ix3 (0 : Fin 1) (⟨(y 1 : ℕ), y1⟩ : Fin 8) (⟨(y 2 : ℕ), y2⟩ : Fin 1024)) from congrArg _ (by
    funext a; match a with | 0 => exact Fin.ext (by simpa using y0) | 1 => rfl | 2 => rfl)).trans ?_
  refine (block_entry m c t (((win0_3.blk t).view.emb y) 0) (by omega) (((win0_3.blk t).view.emb y) 2) _ e2 _).trans ?_
  unfold wanted
  congr 1
  exact Fin.ext e1.symm

theorem reference_entry (a : FVec Ideal S2048 .f32) (b : FVec Ideal S4x2048 .f32) (w : FVec Ideal S2x2048x12288 .f32) (bias : FVec Ideal S2x12288 .f32)
    (v : FVec Ideal S2x8x12288 .f32) (h : ∀ l r j, v (ix3 l r j) = entry (row a b) w bias l r j) : v = wanted a b w bias := by
  funext i
  obtain ⟨l, r, j, rfl⟩ := Dense.triple_index i
  exact h l r j

theorem frame_kernel : Cert.quiescent_Kernel11 := fun m ρ _ => Cert.Kernel11.Gen.frame m ρ
theorem frame_ideal : Cert.quiescent_Kernel11Ideal := fun m ρ _ => Cert.Kernel11Ideal.Gen.frame m ρ
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  intro m ρ m' ρ' _ hag
  refine ⟨fun c => wanted (m (c, Proc.devRef .tc main_arg0)) (m (c, Proc.devRef .tc main_arg1)) (m (c, Proc.devRef .tc main_arg2)) (m (c, Proc.devRef .tc main_arg3)),
    (θ_run Cert.Kernel11Ideal.defs _ _).mono (fun _ h c => ⟨(h c).1.trans (kernel_array m c), (h c).2⟩) (Cert.Kernel11Ideal.Value.run_blocks (F := Ideal) m ρ), ?_⟩
  refine (θ_run Cert.Reference11Ideal.defs _ _).mono (fun _ h c => ⟨(h c).1.trans ?_, (h c).2⟩) (Cert.Reference11Ideal.Value.run (F := Ideal) m' ρ')
  obtain ⟨e0, e1, e2, e3⟩ := hag c
  dsimp only
  rw [e0, e1, e2, e3]
  refine reference_entry _ _ _ _ _ fun l r j => ?_
  unfold entry row Ideal.logistic
  pointwise
  exact congrArg (· + _) (Finset.sum_congr rfl fun k _ => mul_comm _ _)

end Cert.Proof.Modulation

end
-- ==== Proof.Dense.OutReference.lean ====
/-
  What the plain program computes after the output projection: the stream as five sequences of rows, and a sequence normalised and modulated, each by its entries.
-/
module

public import proofs.«01_k».proof.Proof.Dense.Common
public import proofs.«01_k».proof.Proof.Gen.Reference13Ideal.Run
public import Idealize.ShloMosaic.Lib.Pointwise

@[expose] public section

set_option maxRecDepth 65536

noncomputable section

namespace Cert.Proof.OutReference

open Idealize.ShloMosaic Cert.Reference13Ideal Cert.Reference13Ideal.Gen Idealize.ShloMosaic.Pointwise

/-- The stream by sequences. -/
def stream (merged : FVec Ideal S20480x2048 .bf16) (w : FVec Ideal S2x2048x2048 .f32) (x : FVec Ideal S20480x2048 .f32) (g : FVec Ideal S2x4x2048 .f32)
    (mod : FVec Ideal S2x8x12288 .f32) : FVec Ideal S5x4096x2048 .f32 :=
  addf (shapeCast _ x shapeCasts_S20480x2048_S5x4096x2048) (mulf (broadcastInDim S5x4096x2048 ![0, 1, 2] bcast_S5x1x2048_S5x4096x2048_0_1_2
    (broadcastInDim S5x1x2048 ![0, 2] bcast_S5x2048_S5x1x2048_0_2 (shapeCast _ (extractStridedSlice S1x5x2048 ![1, 0, 4096] mod
    slices_S2x8x12288_S1x5x2048_1_0_4096) shapeCasts_S1x5x2048_S5x2048))) (mulf (mulf (shapeCast _ (Host.dotGeneral
    dot_S20480x2048_S2048x2048_S20480x2048_1_0_0_1_n_n none (extf .f32 merged bitsLt_bf16_f32) (shapeCast _ (extractStridedSlice S1x2048x2048
    ![1, 0, 0] w slices_S2x2048x2048_S1x2048x2048_1_0_0) shapeCasts_S1x2048x2048_S2048x2048)) shapeCasts_S20480x2048_S5x4096x2048)
    (broadcastInDim S5x4096x2048 ![0, 1, 2] bcast_S5x4096x1_S5x4096x2048_0_1_2 (Host.rsqrt (addf (Host.divf (broadcastInDim S5x4096x1 ![0, 1]
    bcast_S5x4096_S5x4096x1_0_1 (Host.reduceAdd (mulf (shapeCast _ (Host.dotGeneral dot_S20480x2048_S2048x2048_S20480x2048_1_0_0_1_n_n none
    (extf .f32 merged bitsLt_bf16_f32) (shapeCast _ (extractStridedSlice S1x2048x2048 ![1, 0, 0] w slices_S2x2048x2048_S1x2048x2048_1_0_0)
    shapeCasts_S1x2048x2048_S2048x2048)) shapeCasts_S20480x2048_S5x4096x2048) (shapeCast _ (Host.dotGeneral
    dot_S20480x2048_S2048x2048_S20480x2048_1_0_0_1_n_n none (extf .f32 merged bitsLt_bf16_f32) (shapeCast _ (extractStridedSlice S1x2048x2048
    ![1, 0, 0] w slices_S2x2048x2048_S1x2048x2048_1_0_0) shapeCasts_S1x2048x2048_S2048x2048)) shapeCasts_S20480x2048_S5x4096x2048)) (constant
    S_ .f32 0x00000000#32) reducesTo_S5x4096x2048_S5x4096_d2 h_S_)) (broadcastInDim S5x4096x1 ![] bcast_S_S5x4096x1 (constant S_ .f32
    0x45000000#32))) (broadcastInDim S5x4096x1 ![] bcast_S_S5x4096x1 (constant S_ .f32 0x358637BD#32)))))) (broadcastInDim S5x4096x2048 ![0,
    1, 2] bcast_S1x1x2048_S5x4096x2048_0_1_2 (broadcastInDim S1x1x2048 ![2] bcast_S2048_S1x1x2048_2 (shapeCast _ (extractStridedSlice
    S1x1x2048 ![1, 1, 0] g slices_S2x4x2048_S1x1x2048_1_1_0) shapeCasts_S1x1x2048_S2048)))))

/-- Any sequences of rows, normalised and modulated. -/
def modulated (X : FVec Ideal S5x4096x2048 .f32) (g : FVec Ideal S2x4x2048 .f32) (mod : FVec Ideal S2x8x12288 .f32) : FVec Ideal S5x4096x2048 .f32 :=
  addf (mulf (mulf (mulf X (broadcastInDim S5x4096x2048 ![0, 1, 2] bcast_S5x4096x1_S5x4096x2048_0_1_2 (Host.rsqrt (addf (Host.divf
    (broadcastInDim S5x4096x1 ![0, 1] bcast_S5x4096_S5x4096x1_0_1 (Host.reduceAdd (mulf X X) (constant S_ .f32 0x00000000#32)
    reducesTo_S5x4096x2048_S5x4096_d2 h_S_)) (broadcastInDim S5x4096x1 ![] bcast_S_S5x4096x1 (constant S_ .f32 0x45000000#32)))
    (broadcastInDim S5x4096x1 ![] bcast_S_S5x4096x1 (constant S_ .f32 0x358637BD#32)))))) (broadcastInDim S5x4096x2048 ![0, 1, 2]
    bcast_S1x1x2048_S5x4096x2048_0_1_2 (broadcastInDim S1x1x2048 ![2] bcast_S2048_S1x1x2048_2 (shapeCast _ (extractStridedSlice S1x1x2048
    ![1, 2, 0] g slices_S2x4x2048_S1x1x2048_1_2_0) shapeCasts_S1x1x2048_S2048)))) (broadcastInDim S5x4096x2048 ![0, 1, 2]
    bcast_S5x1x2048_S5x4096x2048_0_1_2 (addf (broadcastInDim S5x1x2048 ![] bcast_S_S5x1x2048 (constant S_ .f32 0x3F800000#32))
    (broadcastInDim S5x1x2048 ![0, 2] bcast_S5x2048_S5x1x2048_0_2 (shapeCast _ (extractStridedSlice S1x5x2048 ![1, 0, 8192] mod
    slices_S2x8x12288_S1x5x2048_1_0_8192) shapeCasts_S1x5x2048_S5x2048))))) (broadcastInDim S5x4096x2048 ![0, 1, 2]
    bcast_S5x1x2048_S5x4096x2048_0_1_2 (broadcastInDim S5x1x2048 ![0, 2] bcast_S5x2048_S5x1x2048_0_2 (shapeCast _ (extractStridedSlice
    S1x5x2048 ![1, 0, 6144] mod slices_S2x8x12288_S1x5x2048_1_0_6144) shapeCasts_S1x5x2048_S5x2048)))

theorem stream_entry (merged : FVec Ideal S20480x2048 .bf16) (w : FVec Ideal S2x2048x2048 .f32) (x : FVec Ideal S20480x2048 .f32) (g : FVec Ideal S2x4x2048 .f32)
    (mod : FVec Ideal S2x8x12288 .f32)
    (b : Fin 5) (r : Fin 4096) (j : Fin 2048) :
    (stream merged w x g mod (ix3 b r j) : EReal) = x (ix2 ⟨b.val * 4096 + r.val, by omega⟩ j)
      + mod (ix3 1 ⟨b.val, by omega⟩ ⟨4096 + j.val, by omega⟩) * Dense.normed (fun k => ∑ l : Fin 2048, merged (ix2 ⟨b.val * 4096 + r.val, by omega⟩ l) * w (ix3 1 l k)) (fun k => g (ix3 1 1 k)) j := by
  unfold stream Dense.normed
  pointwise

theorem modulated_entry (X : FVec Ideal S5x4096x2048 .f32) (g : FVec Ideal S2x4x2048 .f32) (mod : FVec Ideal S2x8x12288 .f32)
    (b : Fin 5) (r : Fin 4096) (j : Fin 2048) :
    (modulated X g mod (ix3 b r j) : EReal) = Dense.normed (fun k => X (ix3 b r k)) (fun k => g (ix3 1 2 k)) j
        * (1 + mod (ix3 1 ⟨b.val, by omega⟩ ⟨8192 + j.val, by omega⟩)) + mod (ix3 1 ⟨b.val, by omega⟩ ⟨6144 + j.val, by omega⟩) := by
  unfold modulated Dense.normed
  pointwise

end Cert.Proof.OutReference

end
-- ==== Proof.Dense.Scales.lean ====
/-
  The normalised rows are real whatever the rows are, and so are the modulated ones when the scales are: a row with an infinite entry has an infinite mean square, whose reciprocal root is zero.
-/
module

public import proofs.«01_k».proof.Pre_finite_scales
public import proofs.«01_k».proof.Proof.Attn.Finite
public import proofs.«01_k».proof.Proof.Attn.Running
public import proofs.«01_k».proof.Proof.Dense.Common

@[expose] public section

set_option maxRecDepth 65536

noncomputable section

namespace Cert.Proof.Scales

open Idealize.ShloMosaic Cert.Pre_finite_scales Idealize.ShloMosaic.Pointwise

instance scale_facts : Cert.Pre_finite_scales.Facts where
  slices_S2x4x2048_S1x1x2048_1_2_0 := by decide +kernel
  shapeCasts_S1x1x2048_S2048 := by decide +kernel
  bcast_S_S2048 := by decide +kernel
  reducesTo_S2048_S_d0 := by decide +kernel
  h_S_ := by decide +kernel
  slices_S2x8x12288_S1x5x4096_1_0_6144 := by decide +kernel
  shapeCasts_S1x5x4096_S5x4096 := by decide +kernel
  bcast_S_S5x4096 := by decide +kernel
  reducesTo_S5x4096_S_d0_1 := by decide +kernel
  slices_S2x2048x16_S1x2048x16_1_0_0 := by decide +kernel
  shapeCasts_S1x2048x16_S2048x16 := by decide +kernel
  bcast_S_S2048x16 := by decide +kernel
  reducesTo_S2048x16_S_d0_1 := by decide +kernel

/-- An extended real that is a real. -/
def IsReal (x : EReal) : Prop := ∃ r : ℝ, x = (r : EReal)

theorem real_add {x y : EReal} : IsReal x → IsReal y → IsReal (x + y) := by
  rintro ⟨a, rfl⟩ ⟨b, rfl⟩
  exact ⟨a + b, (EReal.coe_add a b).symm⟩

theorem real_mul {x y : EReal} : IsReal x → IsReal y → IsReal (x * y) := by
  rintro ⟨a, rfl⟩ ⟨b, rfl⟩
  exact ⟨a * b, (EReal.coe_mul a b).symm⟩

theorem real_sub_self {x : EReal} : IsReal x → x - x = 0 := by
  rintro ⟨a, rfl⟩
  rw [← EReal.coe_sub, sub_self, EReal.coe_zero]

/-- A sum of products whose factors are split into themselves and their remainders, the remainders of reals being zero. -/
theorem split_sum (h w : Fin 2048 → EReal) (hh : ∀ k, IsReal (h k)) (hw : ∀ k, IsReal (w k)) :
    (∑ k : Fin 2048, h k * w k) + (∑ k : Fin 2048, (h k - h k) * w k) + ∑ k : Fin 2048, h k * (w k - w k) = ∑ k : Fin 2048, h k * w k := by
  have z1 : ∀ k, h k - h k = 0 := fun k => real_sub_self (hh k)
  have z2 : ∀ k, w k - w k = 0 := fun k => real_sub_self (hw k)
  simp only [z1, z2, zero_mul, mul_zero, Finset.sum_const_zero, add_zero]

theorem bits_2048 : Ideal.ofBits .f32 1157627904#32 = ((2048 : ℝ) : EReal) := by
  simp [Ideal.ofBits, Ideal.ieee, -EReal.coe_mul]; norm_num

theorem bits_small : ∃ e : ℝ, 0 < e ∧ Ideal.ofBits .f32 897988541#32 = (e : EReal) := by
  refine ⟨_, ?_, by simp [Ideal.ofBits, Ideal.ieee, -EReal.coe_mul]; rfl⟩
  norm_num

theorem square_nonneg (x : EReal) : 0 ≤ x * x := by
  induction x with
  | bot => simp
  | top => simp
  | coe r => rw [← EReal.coe_mul]; exact_mod_cast mul_self_nonneg r

theorem square_infinite {x : EReal} (h : ¬ IsReal x) : x * x = ⊤ := by
  induction x with
  | bot => simp
  | top => simp
  | coe r => exact absurd ⟨r, rfl⟩ h

theorem normed_real (y g : Fin 2048 → EReal) (j : Fin 2048) (hg : IsReal (g j)) : IsReal (Dense.normed y g j) := by
  obtain ⟨e, e0, he⟩ := bits_small
  unfold Dense.normed
  rw [bits_2048, he, Ideal.div_coe (by norm_num)]
  by_cases h : ∀ k, IsReal (y k)
  · choose a ha using h
    refine real_mul (real_mul ⟨a j, ha j⟩ ?_) hg
    have hs : ∑ k : Fin 2048, y k * y k = ((∑ k : Fin 2048, a k * a k : ℝ) : EReal) := by
      rw [Attn.coe_sum]
      exact Finset.sum_congr rfl fun k _ => by rw [ha, EReal.coe_mul]
    have hn : 0 ≤ ∑ k : Fin 2048, a k * a k := Finset.sum_nonneg fun k _ => mul_self_nonneg _
    rw [hs, ← EReal.coe_mul, ← EReal.coe_add, Ideal.rsqrt_coe]
    have hp : 0 < (∑ k : Fin 2048, a k * a k) * (1 / 2048) + e := by positivity
    rw [if_neg (not_lt.mpr hp.le), if_neg hp.ne']
    exact ⟨_, rfl⟩
  · obtain ⟨k, hk⟩ := not_forall.mp h
    have ht : ∑ k : Fin 2048, y k * y k = ⊤ :=
      top_le_iff.mp ((square_infinite hk).ge.trans
        (Finset.single_le_sum (f := fun k => y k * y k) (fun k _ => square_nonneg (y k)) (Finset.mem_univ k)))
    rw [ht, EReal.top_mul_coe_of_pos (by norm_num), EReal.top_add_coe, Ideal.rsqrt_top, mul_zero, zero_mul]
    exact ⟨0, rfl⟩

/-- The precondition by entries. -/
theorem reals_of_pre (merged : FVec Ideal S20480x2048 .bf16) (w : FVec Ideal S2x2048x2048 .f32) (x : FVec Ideal S20480x2048 .f32) (g : FVec Ideal S2x4x2048 .f32)
    (mod : FVec Ideal S2x8x12288 .f32) (router : FVec Ideal S2x2048x16 .f32)
    (h : Cert.Pre_finite_scales.fn (F := Ideal) merged w x g mod router = fun _ => 1#1) :
    (∀ j : Fin 2048, IsReal (g (ix3 1 2 j))) ∧ (∀ (b : Fin 5) (j : Fin 4096), IsReal (mod (ix3 1 ⟨b.val, by omega⟩ ⟨6144 + j.val, by omega⟩)))
      ∧ ∀ (k : Fin 2048) (l : Fin 16), IsReal (router (ix3 1 k l)) := by
  unfold Cert.Pre_finite_scales.fn Cert.Pre_finite_scales.fn_part1 at h
  obtain ⟨h, h3⟩ := Attn.andi_one h
  obtain ⟨h1, h2⟩ := Attn.andi_one h
  have r1 := Attn.real_entry _ _ _ _ h1
  have r2 := Attn.real_entry _ _ _ _ h2
  have r3 := Attn.real_entry _ _ _ _ h3
  clear h1 h2 h3 h
  refine ⟨fun j => ⟨_, Eq.trans ?_ (r1 (ix1 j))⟩, fun b j => ⟨_, Eq.trans ?_ (r2 (ix2 b j))⟩, fun k l => ⟨_, Eq.trans ?_ (r3 (ix2 k l))⟩⟩
  · clear r1 r2 r3; pointwise
  · clear r1 r2 r3; pointwise
  · clear r1 r2 r3; pointwise

end Cert.Proof.Scales

end
-- ==== Proof.Dense.Out.lean ====
/-
  The second layer's output projection: the stream plus the gated, normalised product of the mixed heads with the output matrix, that row normalised and modulated, and the router's scores of it.
-/
module

public import proofs.«01_k».proof.Defs
public import proofs.«01_k».proof.Proof.Dense.Common
public import proofs.«01_k».proof.Proof.Dense.OutReference
public import proofs.«01_k».proof.Proof.Dense.Scales
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Lib.StableHlo.ReadAt
public import Idealize.ShloMosaic.Lib.StableHlo.RunRead
public import Idealize.ShloMosaic.Lib.Pointwise

@[expose] public section

set_option maxRecDepth 65536

noncomputable section

namespace Cert.Proof.Out

open Idealize.ShloMosaic Cert.Kernel13Ideal Cert.Kernel13Ideal.Gen Idealize.ShloMosaic.Pointwise Idealize.ShloMosaic.TcCoe Idealize.SL.Sem
open Idealize.ShloMosaic.Pipeline (Dat)

/-- Which row of the modulation a row of the stream takes. -/
def chosen (r : Fin 20480) : Fin 8 := ⟨r.val / 4096, by omega⟩

/-- One entry of the first result: the stream's, plus the gate times the normalised entry of the projected row. -/
def total (merged : FVec Ideal S20480x2048 .bf16) (w : FVec Ideal S2x2048x2048 .f32) (x : FVec Ideal S20480x2048 .f32) (g : FVec Ideal S2x4x2048 .f32)
    (mod : FVec Ideal S2x8x12288 .f32) (r : Fin 20480) (j : Fin 2048) : EReal :=
  x (ix2 r j) + mod (ix3 1 (chosen r) ⟨4096 + j.val, by omega⟩)
    * Dense.normed (fun k => ∑ l : Fin 2048, merged (ix2 r l) * w (ix3 1 l k)) (fun k => g (ix3 1 1 k)) j

/-- One entry of the second result: the first's row normalised, scaled and shifted. -/
def next (merged : FVec Ideal S20480x2048 .bf16) (w : FVec Ideal S2x2048x2048 .f32) (x : FVec Ideal S20480x2048 .f32) (g : FVec Ideal S2x4x2048 .f32)
    (mod : FVec Ideal S2x8x12288 .f32) (r : Fin 20480) (j : Fin 2048) : EReal :=
  Dense.normed (fun k => total merged w x g mod r k) (fun k => g (ix3 1 2 k)) j * (1 + mod (ix3 1 (chosen r) ⟨8192 + j.val, by omega⟩))
    + mod (ix3 1 (chosen r) ⟨6144 + j.val, by omega⟩)

/-- One entry of the third result: the second's row against a column of the router's matrix. -/
def logit (merged : FVec Ideal S20480x2048 .bf16) (w : FVec Ideal S2x2048x2048 .f32) (x : FVec Ideal S20480x2048 .f32) (g : FVec Ideal S2x4x2048 .f32)
    (mod : FVec Ideal S2x8x12288 .f32) (router : FVec Ideal S2x2048x16 .f32)
    (r : Fin 20480) (e : Fin 16) : EReal := ∑ k : Fin 2048, next merged w x g mod r k * router (ix3 1 k e)

/-- The first result of both programs as one function of their arguments. -/
def stream (merged : FVec Ideal S20480x2048 .bf16) (w : FVec Ideal S2x2048x2048 .f32) (x : FVec Ideal S20480x2048 .f32) (g : FVec Ideal S2x4x2048 .f32)
    (mod : FVec Ideal S2x8x12288 .f32) : FVec Ideal S20480x2048 .f32 :=
  fun i => total merged w x g mod (i 0) (i 1)

/-- The second result of both programs as one function of their arguments. -/
def hidden (merged : FVec Ideal S20480x2048 .bf16) (w : FVec Ideal S2x2048x2048 .f32) (x : FVec Ideal S20480x2048 .f32) (g : FVec Ideal S2x4x2048 .f32)
    (mod : FVec Ideal S2x8x12288 .f32) : FVec Ideal S20480x2048 .bf16 :=
  fun i => next merged w x g mod (i 0) (i 1)

/-- The third result of both programs as one function of their arguments. -/
def logits (merged : FVec Ideal S20480x2048 .bf16) (w : FVec Ideal S2x2048x2048 .f32) (x : FVec Ideal S20480x2048 .f32) (g : FVec Ideal S2x4x2048 .f32)
    (mod : FVec Ideal S2x8x12288 .f32) (router : FVec Ideal S2x2048x16 .f32) : FVec Ideal S20480x16 .f32 :=
  fun i => logit merged w x g mod router (i 0) (i 1)

theorem indices : ∀ t : Fin cfg0.N, win0_0.index t = ![t.val, 0] ∧ win0_1.index t = ![0, 0] ∧ win0_2.index t = ![t.val, 0]
    ∧ win0_3.index t = ![1, 0, 0] ∧ win0_4.index t = ![t.val / 16, 0, 2] ∧ win0_5.index t = ![2, 0, 0]
    ∧ win0_6.index t = ![t.val / 16, 0, 3] ∧ win0_7.index t = ![t.val / 16, 0, 4] ∧ win0_8.index t = ![0, 0]
    ∧ win0_9.index t = ![t.val, 0] ∧ win0_10.index t = ![t.val, 0] ∧ win0_11.index t = ![t.val, 0] := by
  decide +kernel

theorem payload_total (v0 : FVec Ideal S256x2048 .bf16) (v1 : FVec Ideal S2048x2048 .bf16) (v4 : FVec Ideal S256x2048 .f32) (v5 v7 : FVec Ideal S1x1x2048 .f32)
    (r : Fin 256) (j : Fin 2048) :
    (k0_pay4 (F := Ideal) v0 v1 v4 v5 v7 (ix2 r j) : EReal) = v4 (ix2 r j)
      + v5 (ix3 0 0 j) * Dense.normed (fun k => ∑ l : Fin 2048, v0 (ix2 r l) * v1 (ix2 l k)) (fun k => v7 (ix3 0 0 k)) j := by
  unfold Dense.normed
  pointwise [k0_pay4]

theorem payload_mean (v0 : FVec Ideal S256x2048 .bf16) (v1 : FVec Ideal S2048x2048 .bf16) (v4 : FVec Ideal S256x2048 .f32) (v5 v7 : FVec Ideal S1x1x2048 .f32) (r : Fin 256) :
    (k0_pay6 (F := Ideal) v0 v1 v4 v5 v7 (ix2 r 0) : EReal)
      = Ideal.div (∑ k : Fin 2048, (k0_pay4 (F := Ideal) v0 v1 v4 v5 v7 (ix2 r k) : EReal) * k0_pay4 (F := Ideal) v0 v1 v4 v5 v7 (ix2 r k))
          (Ideal.ofBits .f32 1157627904#32) + Ideal.ofBits .f32 897988541#32 := by
  unfold k0_pay6
  generalize k0_pay4 (F := Ideal) v0 v1 v4 v5 v7 = y
  pointwise

theorem payload_next (v23 : FVec Ideal S256x2048 .f32) (v26 : FVec Ideal S1x2048 .f32) (v33 : FVec Ideal S256x1 .f32) (v39 v45 : FVec Ideal S1x1x2048 .f32)
    (r : Fin 256) (j : Fin 2048) :
    (k0_pay1 (F := Ideal) v23 v26 v33 v39 v45 (ix2 r j) : EReal)
      = v23 (ix2 r j) * Ideal.rsqrt (v33 (ix2 r 0)) * v26 (ix2 0 j) * (1 + v39 (ix3 0 0 j)) + v45 (ix3 0 0 j) := by
  pointwise [k0_pay1]

theorem payload_hidden (v23 : FVec Ideal S256x2048 .f32) (v26 : FVec Ideal S1x2048 .f32) (v33 : FVec Ideal S256x1 .f32) (v39 v45 : FVec Ideal S1x1x2048 .f32)
    (r : Fin 256) (j : Fin 2048) :
    (k0_pay2 (F := Ideal) v23 v26 v33 v39 v45 (ix2 r j) : EReal) = k0_pay1 (F := Ideal) v23 v26 v33 v39 v45 (ix2 r j) := by
  unfold k0_pay2
  generalize k0_pay1 (F := Ideal) v23 v26 v33 v39 v45 = y
  pointwise

theorem payload_logit (v23 : FVec Ideal S256x2048 .f32) (v26 : FVec Ideal S1x2048 .f32) (v33 : FVec Ideal S256x1 .f32) (v39 v45 : FVec Ideal S1x1x2048 .f32)
    (v51 : FVec Ideal S2048x16 .f32) (r : Fin 256) (e : Fin 16) :
    (k0_pay3 (F := Ideal) v23 v26 v33 v39 v45 v51 (ix2 r e) : EReal)
      = (∑ k : Fin 2048, (k0_pay1 (F := Ideal) v23 v26 v33 v39 v45 (ix2 r k) : EReal) * v51 (ix2 k e))
        + (∑ k : Fin 2048, ((k0_pay1 (F := Ideal) v23 v26 v33 v39 v45 (ix2 r k) : EReal) - k0_pay1 (F := Ideal) v23 v26 v33 v39 v45 (ix2 r k)) * v51 (ix2 k e))
        + ∑ k : Fin 2048, (k0_pay1 (F := Ideal) v23 v26 v33 v39 v45 (ix2 r k) : EReal) * (v51 (ix2 k e) - v51 (ix2 k e)) := by
  unfold k0_pay3 k0_pay2
  generalize k0_pay1 (F := Ideal) v23 v26 v33 v39 v45 = y
  pointwise

variable (m : (ℓ : Loc nD τ sig) → Buf (Elt Ideal) ℓ) (c : Dev nD)

theorem scales (i : Fin 4) (j : Fin 2048) : (V m c main_v2 : FVec Ideal S4x1x2048 .f32) (ix3 i 0 j) = m (c, Proc.devRef .tc main_arg3) (ix3 1 i j) := by
  unfold V
  after_reads_at

theorem modulation (r : Fin 8) (j : Fin 12288) :
    (V m c main_v5 : FVec Ideal S8x1x12288 .f32) (ix3 r 0 j) = m (c, Proc.devRef .tc main_arg4) (ix3 1 r j) := by
  unfold V
  after_reads_at

theorem weights (k j : Fin 2048) : (V m c main_v8 : FVec Ideal S2048x2048 .bf16) (ix2 k j) = m (c, Proc.devRef .tc main_arg1) (ix3 1 k j) := by
  unfold V
  after_reads_at

theorem routers (k : Fin 2048) (e : Fin 16) : (V m c main_v10 : FVec Ideal S2048x16 .f32) (ix2 k e) = m (c, Proc.devRef .tc main_arg5) (ix3 1 k e) := by
  unfold V
  after_reads_at

theorem block_total (t : Fin cfg0.N) (r : Fin 20480) (i : Fin 256) (hr : r.val = t.val * 256 + i.val) (j : Fin 2048) :
    (k0_pay4 (F := Ideal) (iblk m c 0 t) (iblk m c 1 t) (iblk m c 2 t) (iblk m c 4 t) (iblk m c 3 t) (ix2 i j) : EReal) = total (m (c, Proc.devRef .tc main_arg0)) (m (c, Proc.devRef .tc main_arg1)) (m (c, Proc.devRef .tc main_arg2))
      (m (c, Proc.devRef .tc main_arg3)) (m (c, Proc.devRef .tc main_arg4)) r j := by
  have h0 : ∀ k : Fin 2048, (iblk m c 0 t : FVec Ideal S256x2048 .bf16) (ix2 i k) = m (c, Proc.devRef .tc main_arg0) (ix2 r k) := fun k => by
    blk_ext [iblk, V, indices t]
  have h1 : ∀ k l : Fin 2048, (iblk m c 1 t : FVec Ideal S2048x2048 .bf16) (ix2 k l) = m (c, Proc.devRef .tc main_arg1) (ix3 1 k l) := fun k l => by
    refine Eq.trans ?_ (weights m c k l)
    blk_ext [iblk, indices t]
  have h2 : (iblk m c 2 t : FVec Ideal S256x2048 .f32) (ix2 i j) = m (c, Proc.devRef .tc main_arg2) (ix2 r j) := by
    blk_ext [iblk, V, indices t]
  have h3 : ∀ k : Fin 2048, (iblk m c 3 t : FVec Ideal S1x1x2048 .f32) (ix3 0 0 k) = m (c, Proc.devRef .tc main_arg3) (ix3 1 1 k) := fun k => by
    refine Eq.trans ?_ (scales m c 1 k)
    blk_ext [iblk, indices t]
  have h4 : (iblk m c 4 t : FVec Ideal S1x1x2048 .f32) (ix3 0 0 j)
      = m (c, Proc.devRef .tc main_arg4) (ix3 1 (chosen r) ⟨4096 + j.val, by omega⟩) := by
    refine Eq.trans ?_ (modulation m c (chosen r) ⟨4096 + j.val, by omega⟩)
    unfold chosen
    blk_ext [iblk, indices t]
  refine (payload_total _ _ _ _ _ i j).trans ?_
  unfold total
  rw [h2, h4]
  simp only [h0, h1, h3]

theorem block_next (t : Fin cfg0.N) (r : Fin 20480) (i : Fin 256) (hr : r.val = t.val * 256 + i.val) (j : Fin 2048) :
    (k0_pay1 (F := Ideal) (k0_pay4 (F := Ideal) (iblk m c 0 t) (iblk m c 1 t) (iblk m c 2 t) (iblk m c 4 t) (iblk m c 3 t)) (k0_pay5 (F := Ideal) (iblk m c 5 t))
        (k0_pay6 (F := Ideal) (iblk m c 0 t) (iblk m c 1 t) (iblk m c 2 t) (iblk m c 4 t) (iblk m c 3 t)) (iblk m c 7 t) (iblk m c 6 t) (ix2 i j) : EReal)
      = next (m (c, Proc.devRef .tc main_arg0)) (m (c, Proc.devRef .tc main_arg1)) (m (c, Proc.devRef .tc main_arg2))
      (m (c, Proc.devRef .tc main_arg3)) (m (c, Proc.devRef .tc main_arg4)) r j := by
  have h5 : (k0_pay5 (F := Ideal) (iblk m c 5 t) (ix2 0 j) : EReal) = m (c, Proc.devRef .tc main_arg3) (ix3 1 2 j) := by
    refine Eq.trans (b := ((iblk m c 5 t : FVec Ideal S1x1x2048 .f32) (ix3 0 0 j) : EReal)) ?_ (Eq.trans ?_ (scales m c 2 j))
    · generalize iblk m c 5 t = y
      pointwise [k0_pay5]
    · blk_ext [iblk, indices t]
  have h6 : (iblk m c 6 t : FVec Ideal S1x1x2048 .f32) (ix3 0 0 j)
      = m (c, Proc.devRef .tc main_arg4) (ix3 1 (chosen r) ⟨6144 + j.val, by omega⟩) := by
    refine Eq.trans ?_ (modulation m c (chosen r) ⟨6144 + j.val, by omega⟩)
    unfold chosen
    blk_ext [iblk, indices t]
  have h7 : (iblk m c 7 t : FVec Ideal S1x1x2048 .f32) (ix3 0 0 j)
      = m (c, Proc.devRef .tc main_arg4) (ix3 1 (chosen r) ⟨8192 + j.val, by omega⟩) := by
    refine Eq.trans ?_ (modulation m c (chosen r) ⟨8192 + j.val, by omega⟩)
    unfold chosen
    blk_ext [iblk, indices t]
  refine (payload_next _ _ _ _ _ i j).trans ?_
  rw [payload_mean, h5, h6, h7]
  unfold next Dense.normed
  simp only [block_total m c t r i hr]

theorem block_stream (t : Fin cfg0.N) (r : Fin 20480) (i : Fin 256) (hr : r.val = t.val * 256 + i.val) (j : Fin 2048) :
    (dats m 0 c).after 9 t (ix2 i j) = total (m (c, Proc.devRef .tc main_arg0)) (m (c, Proc.devRef .tc main_arg1)) (m (c, Proc.devRef .tc main_arg2))
      (m (c, Proc.devRef .tc main_arg3)) (m (c, Proc.devRef .tc main_arg4)) r j := by
  rw [after0_9]
  frame_out
  exact block_total m c t r i hr j

theorem block_hidden (t : Fin cfg0.N) (r : Fin 20480) (i : Fin 256) (hr : r.val = t.val * 256 + i.val) (j : Fin 2048) :
    (dats m 0 c).after 10 t (ix2 i j) = next (m (c, Proc.devRef .tc main_arg0)) (m (c, Proc.devRef .tc main_arg1)) (m (c, Proc.devRef .tc main_arg2))
      (m (c, Proc.devRef .tc main_arg3)) (m (c, Proc.devRef .tc main_arg4)) r j := by
  rw [after0_10]
  unfold out0_10 k0_pay9 k0_pay8 k0_pay7
  frame_out
  exact (payload_hidden _ _ _ _ _ i j).trans (block_next m c t r i hr j)

/-- The scales, the modulation and the router's matrix are real where they are used. -/
def Finite : Prop :=
  (∀ j : Fin 2048, Scales.IsReal (m (c, Proc.devRef .tc main_arg3) (ix3 1 2 j)))
    ∧ (∀ (b : Fin 5) (j : Fin 4096), Scales.IsReal (m (c, Proc.devRef .tc main_arg4) (ix3 1 ⟨b.val, by omega⟩ ⟨6144 + j.val, by omega⟩)))
    ∧ ∀ (k : Fin 2048) (l : Fin 16), Scales.IsReal (m (c, Proc.devRef .tc main_arg5) (ix3 1 k l))

theorem next_real (hp : Finite m c) (r : Fin 20480) (j : Fin 2048) : Scales.IsReal (next (m (c, Proc.devRef .tc main_arg0)) (m (c, Proc.devRef .tc main_arg1)) (m (c, Proc.devRef .tc main_arg2)) (m (c, Proc.devRef .tc main_arg3)) (m (c, Proc.devRef .tc main_arg4)) r j) := by
  obtain ⟨hg, hm, -⟩ := hp
  unfold next
  refine Scales.real_add (Scales.real_mul (Scales.normed_real _ _ _ (hg j)) (Scales.real_add ⟨1, EReal.coe_one.symm⟩ ?_)) ?_
  · refine (congrArg Scales.IsReal (congrArg (m (c, Proc.devRef .tc main_arg4)) ?_)).mp
      (hm ⟨r.val / 4096, by omega⟩ ⟨2048 + j.val, by omega⟩)
    exact congrArg (ix3 1 (chosen r)) (Fin.ext (by show 6144 + (2048 + j.val) = 8192 + j.val; omega))
  · exact hm ⟨r.val / 4096, by omega⟩ ⟨j.val, by omega⟩

theorem block_logits (hp : Finite m c) (t : Fin cfg0.N) (r : Fin 20480) (i : Fin 256) (hr : r.val = t.val * 256 + i.val) (e : Fin 16) :
    (dats m 0 c).after 11 t (ix2 i e) = logit (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5)) r e := by
  have h8 : ∀ k : Fin 2048, (iblk m c 8 t : FVec Ideal S2048x16 .f32) (ix2 k e) = m (c, Proc.devRef .tc main_arg5) (ix3 1 k e) := fun k => by
    refine Eq.trans ?_ (routers m c k e)
    blk_ext [iblk, indices t]
  rw [after0_11]
  unfold out0_11 k0_pay9 k0_pay8 k0_pay7
  frame_out
  refine (payload_logit _ _ _ _ _ _ i e).trans ?_
  simp only [block_next m c t r i hr, h8]
  exact Scales.split_sum (fun k => next (m (c, Proc.devRef .tc main_arg0)) (m (c, Proc.devRef .tc main_arg1)) (m (c, Proc.devRef .tc main_arg2)) (m (c, Proc.devRef .tc main_arg3)) (m (c, Proc.devRef .tc main_arg4)) r k) (fun k => m (c, Proc.devRef .tc main_arg5) (ix3 1 k e))
    (next_real m c hp r) fun k => hp.2.2 k e

theorem stream_array : (dats m 0 c).arrAt 9 cfg0.N = stream (m (c, Proc.devRef .tc main_arg0)) (m (c, Proc.devRef .tc main_arg1)) (m (c, Proc.devRef .tc main_arg2))
      (m (c, Proc.devRef .tc main_arg3)) (m (c, Proc.devRef .tc main_arg4)) := by
  refine (dats m 0 c).arrAt_eq_of_covers 9 _ (by decide +kernel) (fun t hf y => ?_)
  blk_simp
  have e0 : (((win0_9.blk t).view.emb y) 0 : ℕ) = t.val * 256 + (y 0 : ℕ) := by blk_simp [indices t]
  have e1 : (((win0_9.blk t).view.emb y) 1 : ℕ) = (y 1 : ℕ) := by blk_simp [indices t]
  have y0 : (y 0 : ℕ) < 256 := (y 0).isLt
  have y1 : (y 1 : ℕ) < 2048 := (y 1).isLt
  refine (show _ = (dats m 0 c).after 9 t (ix2 (⟨(y 0 : ℕ), y0⟩ : Fin 256) (⟨(y 1 : ℕ), y1⟩ : Fin 2048)) from congrArg _ (by
    funext a; match a with | 0 => rfl | 1 => rfl)).trans ?_
  refine (block_stream m c t (((win0_9.blk t).view.emb y) 0) _ e0 _).trans ?_
  unfold stream
  congr 1
  exact Fin.ext e1.symm

theorem hidden_array : (dats m 0 c).arrAt 10 cfg0.N = hidden (m (c, Proc.devRef .tc main_arg0)) (m (c, Proc.devRef .tc main_arg1)) (m (c, Proc.devRef .tc main_arg2))
      (m (c, Proc.devRef .tc main_arg3)) (m (c, Proc.devRef .tc main_arg4)) := by
  refine (dats m 0 c).arrAt_eq_of_covers 10 _ (by decide +kernel) (fun t hf y => ?_)
  blk_simp
  have e0 : (((win0_10.blk t).view.emb y) 0 : ℕ) = t.val * 256 + (y 0 : ℕ) := by blk_simp [indices t]
  have e1 : (((win0_10.blk t).view.emb y) 1 : ℕ) = (y 1 : ℕ) := by blk_simp [indices t]
  have y0 : (y 0 : ℕ) < 256 := (y 0).isLt
  have y1 : (y 1 : ℕ) < 2048 := (y 1).isLt
  refine (show _ = (dats m 0 c).after 10 t (ix2 (⟨(y 0 : ℕ), y0⟩ : Fin 256) (⟨(y 1 : ℕ), y1⟩ : Fin 2048)) from congrArg _ (by
    funext a; match a with | 0 => rfl | 1 => rfl)).trans ?_
  refine (block_hidden m c t (((win0_10.blk t).view.emb y) 0) _ e0 _).trans ?_
  unfold hidden
  congr 1
  exact Fin.ext e1.symm

theorem logits_array (hp : Finite m c) : (dats m 0 c).arrAt 11 cfg0.N = logits (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5)) := by
  refine (dats m 0 c).arrAt_eq_of_covers 11 _ (by decide +kernel) (fun t hf y => ?_)
  blk_simp
  have e0 : (((win0_11.blk t).view.emb y) 0 : ℕ) = t.val * 256 + (y 0 : ℕ) := by blk_simp [indices t]
  have e1 : (((win0_11.blk t).view.emb y) 1 : ℕ) = (y 1 : ℕ) := by blk_simp [indices t]
  have y0 : (y 0 : ℕ) < 256 := (y 0).isLt
  have y1 : (y 1 : ℕ) < 16 := (y 1).isLt
  refine (show _ = (dats m 0 c).after 11 t (ix2 (⟨(y 0 : ℕ), y0⟩ : Fin 256) (⟨(y 1 : ℕ), y1⟩ : Fin 16)) from congrArg _ (by
    funext a; match a with | 0 => rfl | 1 => rfl)).trans ?_
  refine (block_logits m c hp t (((win0_11.blk t).view.emb y) 0) _ e0 _).trans ?_
  unfold logits
  congr 1
  exact Fin.ext e1.symm

theorem stream_of_entries (merged : FVec Ideal S20480x2048 .bf16) (w : FVec Ideal S2x2048x2048 .f32) (x : FVec Ideal S20480x2048 .f32) (g : FVec Ideal S2x4x2048 .f32)
    (mod : FVec Ideal S2x8x12288 .f32)
    (v : FVec Ideal S20480x2048 .f32) (h : ∀ r j, v (ix2 r j) = total merged w x g mod r j) : v = stream merged w x g mod := by
  funext i
  obtain ⟨r, j, rfl⟩ := Dense.pair_index i
  exact h r j

theorem hidden_of_entries (merged : FVec Ideal S20480x2048 .bf16) (w : FVec Ideal S2x2048x2048 .f32) (x : FVec Ideal S20480x2048 .f32) (g : FVec Ideal S2x4x2048 .f32)
    (mod : FVec Ideal S2x8x12288 .f32)
    (v : FVec Ideal S20480x2048 .bf16) (h : ∀ r j, v (ix2 r j) = next merged w x g mod r j) : v = hidden merged w x g mod := by
  funext i
  obtain ⟨r, j, rfl⟩ := Dense.pair_index i
  exact h r j

theorem logits_of_entries (merged : FVec Ideal S20480x2048 .bf16) (w : FVec Ideal S2x2048x2048 .f32) (x : FVec Ideal S20480x2048 .f32) (g : FVec Ideal S2x4x2048 .f32)
    (mod : FVec Ideal S2x8x12288 .f32) (router : FVec Ideal S2x2048x16 .f32)
    (v : FVec Ideal S20480x16 .f32) (h : ∀ r e, v (ix2 r e) = logit merged w x g mod router r e) : v = logits merged w x g mod router := by
  funext i
  obtain ⟨r, e, rfl⟩ := Dense.pair_index i
  exact h r e

theorem reference_hidden (m : (ℓ : Loc Reference13Ideal.nD Reference13Ideal.τ Reference13Ideal.sig) → Buf (Elt Ideal) ℓ) (c : Dev Reference13Ideal.nD) :
    Cert.Reference13Ideal.Value.res_main_v56 m c
      = truncf .bf16 (shapeCast _ (OutReference.modulated (OutReference.stream (m ((c.tc : Thread Reference13Ideal.nD Reference13Ideal.τ).loc Reference13Ideal.main_arg0)) (m ((c.tc : Thread Reference13Ideal.nD Reference13Ideal.τ).loc Reference13Ideal.main_arg1)) (m ((c.tc : Thread Reference13Ideal.nD Reference13Ideal.τ).loc Reference13Ideal.main_arg2)) (m ((c.tc : Thread Reference13Ideal.nD Reference13Ideal.τ).loc Reference13Ideal.main_arg3)) (m ((c.tc : Thread Reference13Ideal.nD Reference13Ideal.τ).loc Reference13Ideal.main_arg4))) (m ((c.tc : Thread Reference13Ideal.nD Reference13Ideal.τ).loc Reference13Ideal.main_arg3)) (m ((c.tc : Thread Reference13Ideal.nD Reference13Ideal.τ).loc Reference13Ideal.main_arg4))) Reference13Ideal.Gen.shapeCasts_S5x4096x2048_S20480x2048) Reference13Ideal.Gen.bitsLt_bf16_f32 := rfl

theorem reference_logits (m : (ℓ : Loc Reference13Ideal.nD Reference13Ideal.τ Reference13Ideal.sig) → Buf (Elt Ideal) ℓ) (c : Dev Reference13Ideal.nD) :
    Cert.Reference13Ideal.Value.res_main_v59 m c
      = Host.dotGeneral Reference13Ideal.dot_S20480x2048_S2048x16_S20480x16_1_0_0_1_n_n none
          (shapeCast _ (OutReference.modulated (OutReference.stream (m ((c.tc : Thread Reference13Ideal.nD Reference13Ideal.τ).loc Reference13Ideal.main_arg0)) (m ((c.tc : Thread Reference13Ideal.nD Reference13Ideal.τ).loc Reference13Ideal.main_arg1)) (m ((c.tc : Thread Reference13Ideal.nD Reference13Ideal.τ).loc Reference13Ideal.main_arg2)) (m ((c.tc : Thread Reference13Ideal.nD Reference13Ideal.τ).loc Reference13Ideal.main_arg3)) (m ((c.tc : Thread Reference13Ideal.nD Reference13Ideal.τ).loc Reference13Ideal.main_arg4))) (m ((c.tc : Thread Reference13Ideal.nD Reference13Ideal.τ).loc Reference13Ideal.main_arg3)) (m ((c.tc : Thread Reference13Ideal.nD Reference13Ideal.τ).loc Reference13Ideal.main_arg4))) Reference13Ideal.Gen.shapeCasts_S5x4096x2048_S20480x2048)
          (shapeCast Reference13Ideal.S2048x16 (extractStridedSlice Reference13Ideal.S1x2048x16 ![1, 0, 0] (m ((c.tc : Thread Reference13Ideal.nD Reference13Ideal.τ).loc Reference13Ideal.main_arg5)) Reference13Ideal.Gen.slices_S2x2048x16_S1x2048x16_1_0_0)
            Reference13Ideal.Gen.shapeCasts_S1x2048x16_S2048x16 : FVec Ideal Reference13Ideal.S2048x16 .f32) := rfl

theorem summed_stream (merged : FVec Ideal S20480x2048 .bf16) (w : FVec Ideal S2x2048x2048 .f32) (x : FVec Ideal S20480x2048 .f32) (g : FVec Ideal S2x4x2048 .f32)
    (mod : FVec Ideal S2x8x12288 .f32) (r : Fin 20480) (j : Fin 2048) :
    (shapeCast Reference13Ideal.S20480x2048 (OutReference.stream merged w x g mod)
      Reference13Ideal.Gen.shapeCasts_S5x4096x2048_S20480x2048 (ix2 r j) : EReal) = total merged w x g mod r j := by
  have hr : r.val / 4096 * 4096 + r.val % 4096 = r.val := by omega
  unfold total chosen
  refine Eq.trans (b := (OutReference.stream merged w x g mod (ix3 ⟨r.val / 4096, by omega⟩ ⟨r.val % 4096, by omega⟩ j) : EReal)) (by
    generalize OutReference.stream merged w x g mod = Y
    pointwise) ?_
  rw [OutReference.stream_entry]
  simp only [hr]

theorem modulated_stream (merged : FVec Ideal S20480x2048 .bf16) (w : FVec Ideal S2x2048x2048 .f32) (x : FVec Ideal S20480x2048 .f32) (g : FVec Ideal S2x4x2048 .f32)
    (mod : FVec Ideal S2x8x12288 .f32) (r : Fin 20480) (j : Fin 2048) :
    (shapeCast Reference13Ideal.S20480x2048 (OutReference.modulated (OutReference.stream merged w x g mod) g mod)
      Reference13Ideal.Gen.shapeCasts_S5x4096x2048_S20480x2048 (ix2 r j) : EReal) = next merged w x g mod r j := by
  have hr : r.val / 4096 * 4096 + r.val % 4096 = r.val := by omega
  unfold next total chosen
  refine Eq.trans (b := ((OutReference.modulated (OutReference.stream merged w x g mod) g mod) (ix3 ⟨r.val / 4096, by omega⟩ ⟨r.val % 4096, by omega⟩ j) : EReal)) (by
    generalize (OutReference.modulated (OutReference.stream merged w x g mod) g mod) = Y
    pointwise) ?_
  rw [OutReference.modulated_entry]
  simp only [OutReference.stream_entry, hr]

theorem scored (merged : FVec Ideal S20480x2048 .bf16) (w : FVec Ideal S2x2048x2048 .f32) (x : FVec Ideal S20480x2048 .f32) (g : FVec Ideal S2x4x2048 .f32)
    (mod : FVec Ideal S2x8x12288 .f32) (router : FVec Ideal S2x2048x16 .f32)
    (r : Fin 20480) (e : Fin 16) :
    (Host.dotGeneral (F := Ideal) Reference13Ideal.dot_S20480x2048_S2048x16_S20480x16_1_0_0_1_n_n none
      (shapeCast Reference13Ideal.S20480x2048 (OutReference.modulated (OutReference.stream merged w x g mod) g mod) Reference13Ideal.Gen.shapeCasts_S5x4096x2048_S20480x2048)
      (shapeCast Reference13Ideal.S2048x16 (extractStridedSlice Reference13Ideal.S1x2048x16 ![1, 0, 0] router Reference13Ideal.Gen.slices_S2x2048x16_S1x2048x16_1_0_0)
        Reference13Ideal.Gen.shapeCasts_S1x2048x16_S2048x16) (ix2 r e) : EReal) = logit merged w x g mod router r e := by
  have h := fun k => modulated_stream merged w x g mod r k
  unfold logit
  generalize (shapeCast Reference13Ideal.S20480x2048 (OutReference.modulated (OutReference.stream merged w x g mod) g mod)
    Reference13Ideal.Gen.shapeCasts_S5x4096x2048_S20480x2048 : FVec Ideal Reference13Ideal.S20480x2048 .f32) = Y at h ⊢
  simp only [← h]
  pointwise

theorem frame_kernel : Cert.quiescent_Kernel13 := fun m ρ _ => Cert.Kernel13.Gen.frame m ρ
theorem frame_ideal : Cert.quiescent_Kernel13Ideal := fun m ρ _ => Cert.Kernel13Ideal.Gen.frame m ρ
theorem frame_reference : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem algebraic : Cert.algebraic_Kernel13Ideal_Reference13Ideal_pre_finite_scales := by
  intro m ρ m' ρ' pre hag
  have fin : ∀ c, Finite m c := fun c => Scales.reals_of_pre _ _ _ _ _ _ (pre c)
  refine ⟨fun c => stream (m (c, Proc.devRef .tc main_arg0)) (m (c, Proc.devRef .tc main_arg1)) (m (c, Proc.devRef .tc main_arg2)) (m (c, Proc.devRef .tc main_arg3)) (m (c, Proc.devRef .tc main_arg4)),
    fun c => hidden (m (c, Proc.devRef .tc main_arg0)) (m (c, Proc.devRef .tc main_arg1)) (m (c, Proc.devRef .tc main_arg2)) (m (c, Proc.devRef .tc main_arg3)) (m (c, Proc.devRef .tc main_arg4)),
    fun c => logits (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)),
    (θ_run Cert.Kernel13Ideal.defs _ _).mono (fun _ h c => ⟨(h c).1.trans (stream_array m c), (h c).2.1.trans (hidden_array m c),
      (h c).2.2.1.trans (logits_array m c (fin c)), (h c).2.2.2⟩) (Cert.Kernel13Ideal.Value.run_blocks (F := Ideal) m ρ), ?_⟩
  refine (θ_run Cert.Reference13Ideal.defs _ _).mono (fun _ h c => ⟨(h c).1.trans ?_, (h c).2.1.trans ?_, (h c).2.2.1.trans ?_, (h c).2.2.2⟩)
    (Cert.Reference13Ideal.Value.run (F := Ideal) m' ρ')
  · obtain ⟨e0, e1, e2, e3, e4, e5⟩ := hag c
    dsimp only
    rw [e0, e1, e2, e3, e4]
    exact stream_of_entries _ _ _ _ _ _ fun r j => summed_stream _ _ _ _ _ r j
  · obtain ⟨e0, e1, e2, e3, e4, e5⟩ := hag c
    dsimp only
    refine (reference_hidden m' c).trans ?_
    rw [e0, e1, e2, e3, e4]
    exact hidden_of_entries _ _ _ _ _ _ fun r j => modulated_stream _ _ _ _ _ r j
  · obtain ⟨e0, e1, e2, e3, e4, e5⟩ := hag c
    dsimp only
    refine (reference_logits m' c).trans ?_
    rw [e0, e1, e2, e3, e4, e5]
    exact logits_of_entries _ _ _ _ _ _ _ fun r e => scored _ _ _ _ _ _ r e

end Cert.Proof.Out

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Attn.Claims
public import proofs.«01_k».proof.Proof.Dense.Gates
public import proofs.«01_k».proof.Proof.Dense.Mix
public import proofs.«01_k».proof.Proof.Dense.Qkv
public import proofs.«01_k».proof.Proof.Dense.Down
public import proofs.«01_k».proof.Proof.Dense.Merge
public import proofs.«01_k».proof.Proof.Dense.LastContext
public import proofs.«01_k».proof.Proof.Dense.LastLatent
public import proofs.«01_k».proof.Proof.Dense.Up
public import proofs.«01_k».proof.Proof.Dense.Next
public import proofs.«01_k».proof.Proof.Dense.Modulation
public import proofs.«01_k».proof.Proof.Dense.Out

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel13.Gen.facts, Cert.Kernel13Ideal.Gen.facts, Cert.Reference13Ideal.Gen.facts,
    Attn.pre_facts, Scales.scale_facts,
    Attn.frame_kernel, Attn.frame_ideal, fun m ρ _ => Attn.frame_ideal m ρ trivial, Attn.frame_reference,
    fun m ρ _ => Attn.frame_reference m ρ trivial,
    Gates.frame_kernel, Gates.frame_ideal, Gates.frame_reference,
    Mix.frame_kernel, Mix.frame_ideal, Mix.frame_reference,
    Qkv.frame_kernel, Qkv.frame_ideal, Qkv.frame_reference,
    Down.frame_kernel, Down.frame_ideal, Down.frame_reference,
    Merge.frame_kernel, Merge.frame_ideal, Merge.frame_reference,
    LastContext.frame_kernel, LastContext.frame_ideal, LastContext.frame_reference,
    LastLatent.frame_kernel, LastLatent.frame_ideal, LastLatent.frame_reference,
    Up.frame_kernel, Up.frame_ideal, Up.frame_reference,
    Next.frame_kernel, Next.frame_ideal, Next.frame_reference,
    Modulation.frame_kernel, Modulation.frame_ideal, Modulation.frame_reference,
    Out.frame_kernel, Out.frame_ideal, fun m ρ _ => Out.frame_ideal m ρ trivial, Out.frame_reference,
    fun m ρ _ => Out.frame_reference m ρ trivial,
    Attn.preserves, Attn.algebraic, trivial, Gates.algebraic, trivial, Mix.algebraic, trivial, Qkv.algebraic, trivial, Down.algebraic, trivial, Merge.algebraic,
    trivial, LastContext.algebraic, trivial, LastLatent.algebraic, trivial, Up.algebraic, trivial, Next.algebraic, trivial, Modulation.algebraic, trivial, Out.algebraic⟩

end Cert.Proof

end
